-- ==== Defs.lean ====
def Pre_Dw (m : (ℓ : Loc Cert.Dw.nD Cert.Dw.τ Cert.Dw.sig) → Buf (Elt Bits) ℓ) : Prop :=
  True

def Pre_DwIdeal (m : (ℓ : Loc Cert.DwIdeal.nD Cert.DwIdeal.τ Cert.DwIdeal.sig) → Buf (Elt Ideal) ℓ) : Prop :=
  True

def Pre_DwRefIdeal (m : (ℓ : Loc Cert.DwRefIdeal.nD Cert.DwRefIdeal.τ Cert.DwRefIdeal.sig) → Buf (Elt Ideal) ℓ) : Prop :=
  True

def Pre_Fwd (m : (ℓ : Loc Cert.Fwd.nD Cert.Fwd.τ Cert.Fwd.sig) → Buf (Elt Bits) ℓ) : Prop :=
  True

def Pre_FwdIdeal (m : (ℓ : Loc Cert.FwdIdeal.nD Cert.FwdIdeal.τ Cert.FwdIdeal.sig) → Buf (Elt Ideal) ℓ) : Prop :=
  True

def Pre_FwdRefIdeal (m : (ℓ : Loc Cert.FwdRefIdeal.nD Cert.FwdRefIdeal.τ Cert.FwdRefIdeal.sig) → Buf (Elt Ideal) ℓ) : Prop :=
  True

def Pre_Bwd (m : (ℓ : Loc Cert.Bwd.nD Cert.Bwd.τ Cert.Bwd.sig) → Buf (Elt Bits) ℓ) : Prop :=
  True

def Pre_BwdIdeal (m : (ℓ : Loc Cert.BwdIdeal.nD Cert.BwdIdeal.τ Cert.BwdIdeal.sig) → Buf (Elt Ideal) ℓ) : Prop :=
  True

def Pre_BwdIdeal_bwd_pre [hPre_bwd_pre : Cert.Pre_bwd_pre.Facts] (m : (ℓ : Loc Cert.BwdIdeal.nD Cert.BwdIdeal.τ Cert.BwdIdeal.sig) → Buf (Elt Ideal) ℓ) : Prop :=
  ∀ c : Dev Cert.BwdIdeal.nD,
    (Cert.Pre_bwd_pre.fn (F := Ideal) (m ((c.tc : Thread Cert.BwdIdeal.nD Cert.BwdIdeal.τ).loc Cert.BwdIdeal.main_arg0)) (m ((c.tc : Thread Cert.BwdIdeal.nD Cert.BwdIdeal.τ).loc Cert.BwdIdeal.main_arg1)) (m ((c.tc : Thread Cert.BwdIdeal.nD Cert.BwdIdeal.τ).loc Cert.BwdIdeal.main_arg2)) (m ((c.tc : Thread Cert.BwdIdeal.nD Cert.BwdIdeal.τ).loc Cert.BwdIdeal.main_arg3)) (m ((c.tc : Thread Cert.BwdIdeal.nD Cert.BwdIdeal.τ).loc Cert.BwdIdeal.main_arg4))).1 = (fun _ => 1#1)
    ∧ (Cert.Pre_bwd_pre.fn (F := Ideal) (m ((c.tc : Thread Cert.BwdIdeal.nD Cert.BwdIdeal.τ).loc Cert.BwdIdeal.main_arg0)) (m ((c.tc : Thread Cert.BwdIdeal.nD Cert.BwdIdeal.τ).loc Cert.BwdIdeal.main_arg1)) (m ((c.tc : Thread Cert.BwdIdeal.nD Cert.BwdIdeal.τ).loc Cert.BwdIdeal.main_arg2)) (m ((c.tc : Thread Cert.BwdIdeal.nD Cert.BwdIdeal.τ).loc Cert.BwdIdeal.main_arg3)) (m ((c.tc : Thread Cert.BwdIdeal.nD Cert.BwdIdeal.τ).loc Cert.BwdIdeal.main_arg4))).2.1 = (fun _ => 1#1)
    ∧ (Cert.Pre_bwd_pre.fn (F := Ideal) (m ((c.tc : Thread Cert.BwdIdeal.nD Cert.BwdIdeal.τ).loc Cert.BwdIdeal.main_arg0)) (m ((c.tc : Thread Cert.BwdIdeal.nD Cert.BwdIdeal.τ).loc Cert.BwdIdeal.main_arg1)) (m ((c.tc : Thread Cert.BwdIdeal.nD Cert.BwdIdeal.τ).loc Cert.BwdIdeal.main_arg2)) (m ((c.tc : Thread Cert.BwdIdeal.nD Cert.BwdIdeal.τ).loc Cert.BwdIdeal.main_arg3)) (m ((c.tc : Thread Cert.BwdIdeal.nD Cert.BwdIdeal.τ).loc Cert.BwdIdeal.main_arg4))).2.2 = (fun _ => 1#1)

def Pre_BwdRefIdeal (m : (ℓ : Loc Cert.BwdRefIdeal.nD Cert.BwdRefIdeal.τ Cert.BwdRefIdeal.sig) → Buf (Elt Ideal) ℓ) : Prop :=
  True

def Pre_BwdRefIdeal_bwd_pre [hPre_bwd_pre : Cert.Pre_bwd_pre.Facts] (m : (ℓ : Loc Cert.BwdRefIdeal.nD Cert.BwdRefIdeal.τ Cert.BwdRefIdeal.sig) → Buf (Elt Ideal) ℓ) : Prop :=
  ∀ c : Dev Cert.BwdRefIdeal.nD,
    (Cert.Pre_bwd_pre.fn (F := Ideal) (m ((c.tc : Thread Cert.BwdRefIdeal.nD Cert.BwdRefIdeal.τ).loc Cert.BwdRefIdeal.main_arg0)) (m ((c.tc : Thread Cert.BwdRefIdeal.nD Cert.BwdRefIdeal.τ).loc Cert.BwdRefIdeal.main_arg1)) (m ((c.tc : Thread Cert.BwdRefIdeal.nD Cert.BwdRefIdeal.τ).loc Cert.BwdRefIdeal.main_arg2)) (m ((c.tc : Thread Cert.BwdRefIdeal.nD Cert.BwdRefIdeal.τ).loc Cert.BwdRefIdeal.main_arg3)) (m ((c.tc : Thread Cert.BwdRefIdeal.nD Cert.BwdRefIdeal.τ).loc Cert.BwdRefIdeal.main_arg4))).1 = (fun _ => 1#1)
    ∧ (Cert.Pre_bwd_pre.fn (F := Ideal) (m ((c.tc : Thread Cert.BwdRefIdeal.nD Cert.BwdRefIdeal.τ).loc Cert.BwdRefIdeal.main_arg0)) (m ((c.tc : Thread Cert.BwdRefIdeal.nD Cert.BwdRefIdeal.τ).loc Cert.BwdRefIdeal.main_arg1)) (m ((c.tc : Thread Cert.BwdRefIdeal.nD Cert.BwdRefIdeal.τ).loc Cert.BwdRefIdeal.main_arg2)) (m ((c.tc : Thread Cert.BwdRefIdeal.nD Cert.BwdRefIdeal.τ).loc Cert.BwdRefIdeal.main_arg3)) (m ((c.tc : Thread Cert.BwdRefIdeal.nD Cert.BwdRefIdeal.τ).loc Cert.BwdRefIdeal.main_arg4))).2.1 = (fun _ => 1#1)
    ∧ (Cert.Pre_bwd_pre.fn (F := Ideal) (m ((c.tc : Thread Cert.BwdRefIdeal.nD Cert.BwdRefIdeal.τ).loc Cert.BwdRefIdeal.main_arg0)) (m ((c.tc : Thread Cert.BwdRefIdeal.nD Cert.BwdRefIdeal.τ).loc Cert.BwdRefIdeal.main_arg1)) (m ((c.tc : Thread Cert.BwdRefIdeal.nD Cert.BwdRefIdeal.τ).loc Cert.BwdRefIdeal.main_arg2)) (m ((c.tc : Thread Cert.BwdRefIdeal.nD Cert.BwdRefIdeal.τ).loc Cert.BwdRefIdeal.main_arg3)) (m ((c.tc : Thread Cert.BwdRefIdeal.nD Cert.BwdRefIdeal.τ).loc Cert.BwdRefIdeal.main_arg4))).2.2 = (fun _ => 1#1)

def quiescent_Dw [hDw : Cert.Dw.Facts] : Prop :=
  ∀ (m : (ℓ : Loc Cert.Dw.nD Cert.Dw.τ Cert.Dw.sig) → Buf (Elt Bits) ℓ) (g : Dev Cert.Dw.nD → PrngReg), Pre_Dw m →
    θ_run (Cert.Dw.defs (F := Bits)) (onTc (τ := Cert.Dw.τ) (Cert.Dw.main (F := Bits))) ⟨m, fun _ => 0, g⟩ (fun r => (∀ c : Dev Cert.Dw.nD,
      r.2.mem ((c.tc : Thread Cert.Dw.nD Cert.Dw.τ).loc Cert.Dw.main_arg0) = m ((c.tc : Thread Cert.Dw.nD Cert.Dw.τ).loc Cert.Dw.main_arg0)
      ∧ r.2.mem ((c.tc : Thread Cert.Dw.nD Cert.Dw.τ).loc Cert.Dw.main_arg1) = m ((c.tc : Thread Cert.Dw.nD Cert.Dw.τ).loc Cert.Dw.main_arg1)
      ∧ r.2.mem ((c.tc : Thread Cert.Dw.nD Cert.Dw.τ).loc Cert.Dw.main_arg2) = m ((c.tc : Thread Cert.Dw.nD Cert.Dw.τ).loc Cert.Dw.main_arg2)
      ∧ r.2.mem ((c.tc : Thread Cert.Dw.nD Cert.Dw.τ).loc Cert.Dw.main_arg3) = m ((c.tc : Thread Cert.Dw.nD Cert.Dw.τ).loc Cert.Dw.main_arg3))
      ∧ r.2.sem = fun _ => 0)

def quiescent_DwIdeal [hDwIdeal : Cert.DwIdeal.Facts] : Prop :=
  ∀ (m : (ℓ : Loc Cert.DwIdeal.nD Cert.DwIdeal.τ Cert.DwIdeal.sig) → Buf (Elt Ideal) ℓ) (g : Dev Cert.DwIdeal.nD → PrngReg), Pre_DwIdeal m →
    θ_run (Cert.DwIdeal.defs (F := Ideal)) (onTc (τ := Cert.DwIdeal.τ) (Cert.DwIdeal.main (F := Ideal))) ⟨m, fun _ => 0, g⟩ (fun r => (∀ c : Dev Cert.DwIdeal.nD,
      r.2.mem ((c.tc : Thread Cert.DwIdeal.nD Cert.DwIdeal.τ).loc Cert.DwIdeal.main_arg0) = m ((c.tc : Thread Cert.DwIdeal.nD Cert.DwIdeal.τ).loc Cert.DwIdeal.main_arg0)
      ∧ r.2.mem ((c.tc : Thread Cert.DwIdeal.nD Cert.DwIdeal.τ).loc Cert.DwIdeal.main_arg1) = m ((c.tc : Thread Cert.DwIdeal.nD Cert.DwIdeal.τ).loc Cert.DwIdeal.main_arg1)
      ∧ r.2.mem ((c.tc : Thread Cert.DwIdeal.nD Cert.DwIdeal.τ).loc Cert.DwIdeal.main_arg2) = m ((c.tc : Thread Cert.DwIdeal.nD Cert.DwIdeal.τ).loc Cert.DwIdeal.main_arg2)
      ∧ r.2.mem ((c.tc : Thread Cert.DwIdeal.nD Cert.DwIdeal.τ).loc Cert.DwIdeal.main_arg3) = m ((c.tc : Thread Cert.DwIdeal.nD Cert.DwIdeal.τ).loc Cert.DwIdeal.main_arg3))
      ∧ r.2.sem = fun _ => 0)

def quiescent_DwRefIdeal [hDwRefIdeal : Cert.DwRefIdeal.Facts] : Prop :=
  ∀ (m : (ℓ : Loc Cert.DwRefIdeal.nD Cert.DwRefIdeal.τ Cert.DwRefIdeal.sig) → Buf (Elt Ideal) ℓ) (g : Dev Cert.DwRefIdeal.nD → PrngReg), Pre_DwRefIdeal m →
    θ_run (Cert.DwRefIdeal.defs (F := Ideal)) (onTc (τ := Cert.DwRefIdeal.τ) (Cert.DwRefIdeal.main (F := Ideal))) ⟨m, fun _ => 0, g⟩ (fun r => (∀ c : Dev Cert.DwRefIdeal.nD,
      r.2.mem ((c.tc : Thread Cert.DwRefIdeal.nD Cert.DwRefIdeal.τ).loc Cert.DwRefIdeal.main_arg0) = m ((c.tc : Thread Cert.DwRefIdeal.nD Cert.DwRefIdeal.τ).loc Cert.DwRefIdeal.main_arg0)
      ∧ r.2.mem ((c.tc : Thread Cert.DwRefIdeal.nD Cert.DwRefIdeal.τ).loc Cert.DwRefIdeal.main_arg1) = m ((c.tc : Thread Cert.DwRefIdeal.nD Cert.DwRefIdeal.τ).loc Cert.DwRefIdeal.main_arg1)
      ∧ r.2.mem ((c.tc : Thread Cert.DwRefIdeal.nD Cert.DwRefIdeal.τ).loc Cert.DwRefIdeal.main_arg2) = m ((c.tc : Thread Cert.DwRefIdeal.nD Cert.DwRefIdeal.τ).loc Cert.DwRefIdeal.main_arg2)
      ∧ r.2.mem ((c.tc : Thread Cert.DwRefIdeal.nD Cert.DwRefIdeal.τ).loc Cert.DwRefIdeal.main_arg3) = m ((c.tc : Thread Cert.DwRefIdeal.nD Cert.DwRefIdeal.τ).loc Cert.DwRefIdeal.main_arg3))
      ∧ r.2.sem = fun _ => 0)

def quiescent_Fwd [hFwd : Cert.Fwd.Facts] : Prop :=
  ∀ (m : (ℓ : Loc Cert.Fwd.nD Cert.Fwd.τ Cert.Fwd.sig) → Buf (Elt Bits) ℓ) (g : Dev Cert.Fwd.nD → PrngReg), Pre_Fwd m →
    θ_run (Cert.Fwd.defs (F := Bits)) (onTc (τ := Cert.Fwd.τ) (Cert.Fwd.main (F := Bits))) ⟨m, fun _ => 0, g⟩ (fun r => (∀ c : Dev Cert.Fwd.nD,
      r.2.mem ((c.tc : Thread Cert.Fwd.nD Cert.Fwd.τ).loc Cert.Fwd.main_arg0) = m ((c.tc : Thread Cert.Fwd.nD Cert.Fwd.τ).loc Cert.Fwd.main_arg0)
      ∧ r.2.mem ((c.tc : Thread Cert.Fwd.nD Cert.Fwd.τ).loc Cert.Fwd.main_arg1) = m ((c.tc : Thread Cert.Fwd.nD Cert.Fwd.τ).loc Cert.Fwd.main_arg1)
      ∧ r.2.mem ((c.tc : Thread Cert.Fwd.nD Cert.Fwd.τ).loc Cert.Fwd.main_arg2) = m ((c.tc : Thread Cert.Fwd.nD Cert.Fwd.τ).loc Cert.Fwd.main_arg2)
      ∧ r.2.mem ((c.tc : Thread Cert.Fwd.nD Cert.Fwd.τ).loc Cert.Fwd.main_arg3) = m ((c.tc : Thread Cert.Fwd.nD Cert.Fwd.τ).loc Cert.Fwd.main_arg3))
      ∧ r.2.sem = fun _ => 0)

def quiescent_FwdIdeal [hFwdIdeal : Cert.FwdIdeal.Facts] : Prop :=
  ∀ (m : (ℓ : Loc Cert.FwdIdeal.nD Cert.FwdIdeal.τ Cert.FwdIdeal.sig) → Buf (Elt Ideal) ℓ) (g : Dev Cert.FwdIdeal.nD → PrngReg), Pre_FwdIdeal m →
    θ_run (Cert.FwdIdeal.defs (F := Ideal)) (onTc (τ := Cert.FwdIdeal.τ) (Cert.FwdIdeal.main (F := Ideal))) ⟨m, fun _ => 0, g⟩ (fun r => (∀ c : Dev Cert.FwdIdeal.nD,
      r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
      ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
      ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2)
      ∧ r.2.mem ((c.tc : Thread Cert.FwdIdeal.nD Cert.FwdIdeal.τ).loc Cert.FwdIdeal.main_arg3) = m ((c.tc : Thread Cert.FwdIdeal.nD Cert.FwdIdeal.τ).loc Cert.FwdIdeal.main_arg3))
      ∧ r.2.sem = fun _ => 0)

def quiescent_FwdRefIdeal [hFwdRefIdeal : Cert.FwdRefIdeal.Facts] : Prop :=
  ∀ (m : (ℓ : Loc Cert.FwdRefIdeal.nD Cert.FwdRefIdeal.τ Cert.FwdRefIdeal.sig) → Buf (Elt Ideal) ℓ) (g : Dev Cert.FwdRefIdeal.nD → PrngReg), Pre_FwdRefIdeal m →
    θ_run (Cert.FwdRefIdeal.defs (F := Ideal)) (onTc (τ := Cert.FwdRefIdeal.τ) (Cert.FwdRefIdeal.main (F := Ideal))) ⟨m, fun _ => 0, g⟩ (fun r => (∀ c : Dev Cert.FwdRefIdeal.nD,
      r.2.mem ((c.tc : Thread Cert.FwdRefIdeal.nD Cert.FwdRefIdeal.τ).loc Cert.FwdRefIdeal.main_arg0) = m ((c.tc : Thread Cert.FwdRefIdeal.nD Cert.FwdRefIdeal.τ).loc Cert.FwdRefIdeal.main_arg0)
      ∧ r.2.mem ((c.tc : Thread Cert.FwdRefIdeal.nD Cert.FwdRefIdeal.τ).loc Cert.FwdRefIdeal.main_arg1) = m ((c.tc : Thread Cert.FwdRefIdeal.nD Cert.FwdRefIdeal.τ).loc Cert.FwdRefIdeal.main_arg1)
      ∧ r.2.mem ((c.tc : Thread Cert.FwdRefIdeal.nD Cert.FwdRefIdeal.τ).loc Cert.FwdRefIdeal.main_arg2) = m ((c.tc : Thread Cert.FwdRefIdeal.nD Cert.FwdRefIdeal.τ).loc Cert.FwdRefIdeal.main_arg2)
      ∧ r.2.mem ((c.tc : Thread Cert.FwdRefIdeal.nD Cert.FwdRefIdeal.τ).loc Cert.FwdRefIdeal.main_arg3) = m ((c.tc : Thread Cert.FwdRefIdeal.nD Cert.FwdRefIdeal.τ).loc Cert.FwdRefIdeal.main_arg3))
      ∧ r.2.sem = fun _ => 0)

def quiescent_Bwd [hBwd : Cert.Bwd.Facts] : Prop :=
  ∀ (m : (ℓ : Loc Cert.Bwd.nD Cert.Bwd.τ Cert.Bwd.sig) → Buf (Elt Bits) ℓ) (g : Dev Cert.Bwd.nD → PrngReg), Pre_Bwd m →
    θ_run (Cert.Bwd.defs (F := Bits)) (onTc (τ := Cert.Bwd.τ) (Cert.Bwd.main (F := Bits))) ⟨m, fun _ => 0, g⟩ (fun r => (∀ c : Dev Cert.Bwd.nD,
      r.2.mem ((c.tc : Thread Cert.Bwd.nD Cert.Bwd.τ).loc Cert.Bwd.main_arg0) = m ((c.tc : Thread Cert.Bwd.nD Cert.Bwd.τ).loc Cert.Bwd.main_arg0)
      ∧ r.2.mem ((c.tc : Thread Cert.Bwd.nD Cert.Bwd.τ).loc Cert.Bwd.main_arg1) = m ((c.tc : Thread Cert.Bwd.nD Cert.Bwd.τ).loc Cert.Bwd.main_arg1)
      ∧ r.2.mem ((c.tc : Thread Cert.Bwd.nD Cert.Bwd.τ).loc Cert.Bwd.main_arg2) = m ((c.tc : Thread Cert.Bwd.nD Cert.Bwd.τ).loc Cert.Bwd.main_arg2)
      ∧ r.2.mem ((c.tc : Thread Cert.Bwd.nD Cert.Bwd.τ).loc Cert.Bwd.main_arg3) = m ((c.tc : Thread Cert.Bwd.nD Cert.Bwd.τ).loc Cert.Bwd.main_arg3)
      ∧ r.2.mem ((c.tc : Thread Cert.Bwd.nD Cert.Bwd.τ).loc Cert.Bwd.main_arg4) = m ((c.tc : Thread Cert.Bwd.nD Cert.Bwd.τ).loc Cert.Bwd.main_arg4))
      ∧ r.2.sem = fun _ => 0)

def quiescent_BwdIdeal [hBwdIdeal : Cert.BwdIdeal.Facts] : Prop :=
  ∀ (m : (ℓ : Loc Cert.BwdIdeal.nD Cert.BwdIdeal.τ Cert.BwdIdeal.sig) → Buf (Elt Ideal) ℓ) (g : Dev Cert.BwdIdeal.nD → PrngReg), Pre_BwdIdeal m →
    θ_run (Cert.BwdIdeal.defs (F := Ideal)) (onTc (τ := Cert.BwdIdeal.τ) (Cert.BwdIdeal.main (F := Ideal))) ⟨m, fun _ => 0, g⟩ (fun r => (∀ c : Dev Cert.BwdIdeal.nD,
      r.2.mem ((c.tc : Thread Cert.BwdIdeal.nD Cert.BwdIdeal.τ).loc Cert.BwdIdeal.main_arg0) = m ((c.tc : Thread Cert.BwdIdeal.nD Cert.BwdIdeal.τ).loc Cert.BwdIdeal.main_arg0)
      ∧ r.2.mem ((c.tc : Thread Cert.BwdIdeal.nD Cert.BwdIdeal.τ).loc Cert.BwdIdeal.main_arg1) = m ((c.tc : Thread Cert.BwdIdeal.nD Cert.BwdIdeal.τ).loc Cert.BwdIdeal.main_arg1)
      ∧ r.2.mem ((c.tc : Thread Cert.BwdIdeal.nD Cert.BwdIdeal.τ).loc Cert.BwdIdeal.main_arg2) = m ((c.tc : Thread Cert.BwdIdeal.nD Cert.BwdIdeal.τ).loc Cert.BwdIdeal.main_arg2)
      ∧ r.2.mem ((c.tc : Thread Cert.BwdIdeal.nD Cert.BwdIdeal.τ).loc Cert.BwdIdeal.main_arg3) = m ((c.tc : Thread Cert.BwdIdeal.nD Cert.BwdIdeal.τ).loc Cert.BwdIdeal.main_arg3)
      ∧ r.2.mem ((c.tc : Thread Cert.BwdIdeal.nD Cert.BwdIdeal.τ).loc Cert.BwdIdeal.main_arg4) = m ((c.tc : Thread Cert.BwdIdeal.nD Cert.BwdIdeal.τ).loc Cert.BwdIdeal.main_arg4))
      ∧ r.2.sem = fun _ => 0)

def quiescent_BwdIdeal_pre_bwd_pre [hBwdIdeal : Cert.BwdIdeal.Facts] [hPre_bwd_pre : Cert.Pre_bwd_pre.Facts] : Prop :=
  ∀ (m : (ℓ : Loc Cert.BwdIdeal.nD Cert.BwdIdeal.τ Cert.BwdIdeal.sig) → Buf (Elt Ideal) ℓ) (g : Dev Cert.BwdIdeal.nD → PrngReg), Pre_BwdIdeal_bwd_pre m →
    θ_run (Cert.BwdIdeal.defs (F := Ideal)) (onTc (τ := Cert.BwdIdeal.τ) (Cert.BwdIdeal.main (F := Ideal))) ⟨m, fun _ => 0, g⟩ (fun r => (∀ c : Dev Cert.BwdIdeal.nD,
      r.2.mem ((c.tc : Thread Cert.BwdIdeal.nD Cert.BwdIdeal.τ).loc Cert.BwdIdeal.main_arg0) = m ((c.tc : Thread Cert.BwdIdeal.nD Cert.BwdIdeal.τ).loc Cert.BwdIdeal.main_arg0)
      ∧ r.2.mem ((c.tc : Thread Cert.BwdIdeal.nD Cert.BwdIdeal.τ).loc Cert.BwdIdeal.main_arg1) = m ((c.tc : Thread Cert.BwdIdeal.nD Cert.BwdIdeal.τ).loc Cert.BwdIdeal.main_arg1)
      ∧ r.2.mem ((c.tc : Thread Cert.BwdIdeal.nD Cert.BwdIdeal.τ).loc Cert.BwdIdeal.main_arg2) = m ((c.tc : Thread Cert.BwdIdeal.nD Cert.BwdIdeal.τ).loc Cert.BwdIdeal.main_arg2)
      ∧ r.2.mem ((c.tc : Thread Cert.BwdIdeal.nD Cert.BwdIdeal.τ).loc Cert.BwdIdeal.main_arg3) = m ((c.tc : Thread Cert.BwdIdeal.nD Cert.BwdIdeal.τ).loc Cert.BwdIdeal.main_arg3)
      ∧ r.2.mem ((c.tc : Thread Cert.BwdIdeal.nD Cert.BwdIdeal.τ).loc Cert.BwdIdeal.main_arg4) = m ((c.tc : Thread Cert.BwdIdeal.nD Cert.BwdIdeal.τ).loc Cert.BwdIdeal.main_arg4))
      ∧ r.2.sem = fun _ => 0)

def quiescent_BwdRefIdeal [hBwdRefIdeal : Cert.BwdRefIdeal.Facts] : Prop :=
  ∀ (m : (ℓ : Loc Cert.BwdRefIdeal.nD Cert.BwdRefIdeal.τ Cert.BwdRefIdeal.sig) → Buf (Elt Ideal) ℓ) (g : Dev Cert.BwdRefIdeal.nD → PrngReg), Pre_BwdRefIdeal m →
    θ_run (Cert.BwdRefIdeal.defs (F := Ideal)) (onTc (τ := Cert.BwdRefIdeal.τ) (Cert.BwdRefIdeal.main (F := Ideal))) ⟨m, fun _ => 0, g⟩ (fun r => (∀ c : Dev Cert.BwdRefIdeal.nD,
      r.2.mem ((c.tc : Thread Cert.BwdRefIdeal.nD Cert.BwdRefIdeal.τ).loc Cert.BwdRefIdeal.main_arg0) = m ((c.tc : Thread Cert.BwdRefIdeal.nD Cert.BwdRefIdeal.τ).loc Cert.BwdRefIdeal.main_arg0)
      ∧ r.2.mem ((c.tc : Thread Cert.BwdRefIdeal.nD Cert.BwdRefIdeal.τ).loc Cert.BwdRefIdeal.main_arg1) = m ((c.tc : Thread Cert.BwdRefIdeal.nD Cert.BwdRefIdeal.τ).loc Cert.BwdRefIdeal.main_arg1)
      ∧ r.2.mem ((c.tc : Thread Cert.BwdRefIdeal.nD Cert.BwdRefIdeal.τ).loc Cert.BwdRefIdeal.main_arg2) = m ((c.tc : Thread Cert.BwdRefIdeal.nD Cert.BwdRefIdeal.τ).loc Cert.BwdRefIdeal.main_arg2)
      ∧ r.2.mem ((c.tc : Thread Cert.BwdRefIdeal.nD Cert.BwdRefIdeal.τ).loc Cert.BwdRefIdeal.main_arg3) = m ((c.tc : Thread Cert.BwdRefIdeal.nD Cert.BwdRefIdeal.τ).loc Cert.BwdRefIdeal.main_arg3)
      ∧ r.2.mem ((c.tc : Thread Cert.BwdRefIdeal.nD Cert.BwdRefIdeal.τ).loc Cert.BwdRefIdeal.main_arg4) = m ((c.tc : Thread Cert.BwdRefIdeal.nD Cert.BwdRefIdeal.τ).loc Cert.BwdRefIdeal.main_arg4))
      ∧ r.2.sem = fun _ => 0)

def quiescent_BwdRefIdeal_pre_bwd_pre [hBwdRefIdeal : Cert.BwdRefIdeal.Facts] [hPre_bwd_pre : Cert.Pre_bwd_pre.Facts] : Prop :=
  ∀ (m : (ℓ : Loc Cert.BwdRefIdeal.nD Cert.BwdRefIdeal.τ Cert.BwdRefIdeal.sig) → Buf (Elt Ideal) ℓ) (g : Dev Cert.BwdRefIdeal.nD → PrngReg), Pre_BwdRefIdeal_bwd_pre m →
    θ_run (Cert.BwdRefIdeal.defs (F := Ideal)) (onTc (τ := Cert.BwdRefIdeal.τ) (Cert.BwdRefIdeal.main (F := Ideal))) ⟨m, fun _ => 0, g⟩ (fun r => (∀ c : Dev Cert.BwdRefIdeal.nD,
      r.2.mem ((c.tc : Thread Cert.BwdRefIdeal.nD Cert.BwdRefIdeal.τ).loc Cert.BwdRefIdeal.main_arg0) = m ((c.tc : Thread Cert.BwdRefIdeal.nD Cert.BwdRefIdeal.τ).loc Cert.BwdRefIdeal.main_arg0)
      ∧ r.2.mem ((c.tc : Thread Cert.BwdRefIdeal.nD Cert.BwdRefIdeal.τ).loc Cert.BwdRefIdeal.main_arg1) = m ((c.tc : Thread Cert.BwdRefIdeal.nD Cert.BwdRefIdeal.τ).loc Cert.BwdRefIdeal.main_arg1)
      ∧ r.2.mem ((c.tc : Thread Cert.BwdRefIdeal.nD Cert.BwdRefIdeal.τ).loc Cert.BwdRefIdeal.main_arg2) = m ((c.tc : Thread Cert.BwdRefIdeal.nD Cert.BwdRefIdeal.τ).loc Cert.BwdRefIdeal.main_arg2)
      ∧ r.2.mem ((c.tc : Thread Cert.BwdRefIdeal.nD Cert.BwdRefIdeal.τ).loc Cert.BwdRefIdeal.main_arg3) = m ((c.tc : Thread Cert.BwdRefIdeal.nD Cert.BwdRefIdeal.τ).loc Cert.BwdRefIdeal.main_arg3)
      ∧ r.2.mem ((c.tc : Thread Cert.BwdRefIdeal.nD Cert.BwdRefIdeal.τ).loc Cert.BwdRefIdeal.main_arg4) = m ((c.tc : Thread Cert.BwdRefIdeal.nD Cert.BwdRefIdeal.τ).loc Cert.BwdRefIdeal.main_arg4))
      ∧ r.2.sem = fun _ => 0)

def preserves_Dw_DwIdeal : Prop :=
  True

def algebraic_DwIdeal_DwRefIdeal [hDwIdeal : Cert.DwIdeal.Facts] [hDwRefIdeal : Cert.DwRefIdeal.Facts] : Prop :=
  ∀ (m : (ℓ : Loc Cert.DwIdeal.nD Cert.DwIdeal.τ Cert.DwIdeal.sig) → Buf (Elt Ideal) ℓ) (g : Dev Cert.DwIdeal.nD → PrngReg)
    (m' : (ℓ : Loc Cert.DwRefIdeal.nD Cert.DwRefIdeal.τ Cert.DwRefIdeal.sig) → Buf (Elt Ideal) ℓ) (g' : Dev Cert.DwRefIdeal.nD → PrngReg), Pre_DwIdeal m →
    (∀ c : Dev Cert.DwIdeal.nD,
      m' ((c.tc : Thread Cert.DwRefIdeal.nD Cert.DwRefIdeal.τ).loc Cert.DwRefIdeal.main_arg0) = m ((c.tc : Thread Cert.DwIdeal.nD Cert.DwIdeal.τ).loc Cert.DwIdeal.main_arg0)
      ∧ m' ((c.tc : Thread Cert.DwRefIdeal.nD Cert.DwRefIdeal.τ).loc Cert.DwRefIdeal.main_arg1) = m ((c.tc : Thread Cert.DwIdeal.nD Cert.DwIdeal.τ).loc Cert.DwIdeal.main_arg1)
      ∧ m' ((c.tc : Thread Cert.DwRefIdeal.nD Cert.DwRefIdeal.τ).loc Cert.DwRefIdeal.main_arg2) = m ((c.tc : Thread Cert.DwIdeal.nD Cert.DwIdeal.τ).loc Cert.DwIdeal.main_arg2)
      ∧ m' ((c.tc : Thread Cert.DwRefIdeal.nD Cert.DwRefIdeal.τ).loc Cert.DwRefIdeal.main_arg3) = m ((c.tc : Thread Cert.DwIdeal.nD Cert.DwIdeal.τ).loc Cert.DwIdeal.main_arg3)) →
    ∃ (v0 : (c : Dev Cert.DwIdeal.nD) → Buf (Elt Ideal) ((c.tc : Thread Cert.DwIdeal.nD Cert.DwIdeal.τ).loc Cert.DwIdeal.main_v5)),
      θ_run (Cert.DwIdeal.defs (F := Ideal)) (onTc (τ := Cert.DwIdeal.τ) (Cert.DwIdeal.main (F := Ideal))) ⟨m, fun _ => 0, g⟩ (fun r => ∀ c : Dev Cert.DwIdeal.nD,
          r.2.mem ((c.tc : Thread Cert.DwIdeal.nD Cert.DwIdeal.τ).loc Cert.DwIdeal.main_v5) = v0 c
          ∧ r.2.mem ((c.tc : Thread Cert.DwIdeal.nD Cert.DwIdeal.τ).loc Cert.DwIdeal.main_arg0) = m ((c.tc : Thread Cert.DwIdeal.nD Cert.DwIdeal.τ).loc Cert.DwIdeal.main_arg0)
          ∧ r.2.mem ((c.tc : Thread Cert.DwIdeal.nD Cert.DwIdeal.τ).loc Cert.DwIdeal.main_arg1) = m ((c.tc : Thread Cert.DwIdeal.nD Cert.DwIdeal.τ).loc Cert.DwIdeal.main_arg1)
          ∧ r.2.mem ((c.tc : Thread Cert.DwIdeal.nD Cert.DwIdeal.τ).loc Cert.DwIdeal.main_arg2) = m ((c.tc : Thread Cert.DwIdeal.nD Cert.DwIdeal.τ).loc Cert.DwIdeal.main_arg2)
          ∧ r.2.mem ((c.tc : Thread Cert.DwIdeal.nD Cert.DwIdeal.τ).loc Cert.DwIdeal.main_arg3) = m ((c.tc : Thread Cert.DwIdeal.nD Cert.DwIdeal.τ).loc Cert.DwIdeal.main_arg3))
      ∧ θ_run (Cert.DwRefIdeal.defs (F := Ideal)) (onTc (τ := Cert.DwRefIdeal.τ) (Cert.DwRefIdeal.main (F := Ideal))) ⟨m', fun _ => 0, g'⟩ (fun r => ∀ c : Dev Cert.DwRefIdeal.nD,
          r.2.mem ((c.tc : Thread Cert.DwRefIdeal.nD Cert.DwRefIdeal.τ).loc Cert.DwRefIdeal.main_v11) = v0 c
          ∧ r.2.mem ((c.tc : Thread Cert.DwRefIdeal.nD Cert.DwRefIdeal.τ).loc Cert.DwRefIdeal.main_arg0) = m' ((c.tc : Thread Cert.DwRefIdeal.nD Cert.DwRefIdeal.τ).loc Cert.DwRefIdeal.main_arg0)
          ∧ r.2.mem ((c.tc : Thread Cert.DwRefIdeal.nD Cert.DwRefIdeal.τ).loc Cert.DwRefIdeal.main_arg1) = m' ((c.tc : Thread Cert.DwRefIdeal.nD Cert.DwRefIdeal.τ).loc Cert.DwRefIdeal.main_arg1)
          ∧ r.2.mem ((c.tc : Thread Cert.DwRefIdeal.nD Cert.DwRefIdeal.τ).loc Cert.DwRefIdeal.main_arg2) = m' ((c.tc : Thread Cert.DwRefIdeal.nD Cert.DwRefIdeal.τ).loc Cert.DwRefIdeal.main_arg2)
          ∧ r.2.mem ((c.tc : Thread Cert.DwRefIdeal.nD Cert.DwRefIdeal.τ).loc Cert.DwRefIdeal.main_arg3) = m' ((c.tc : Thread Cert.DwRefIdeal.nD Cert.DwRefIdeal.τ).loc Cert.DwRefIdeal.main_arg3))

def preserves_Fwd_FwdIdeal : Prop :=
  IdealRules.named_const.Statement Cert.FwdIdeal.κ "cap_log2e" .f32 0x422D1F97#32 ((30 * (Real.log 2)⁻¹ : ℝ) : EReal)
  ∧ IdealRules.named_const.Statement Cert.FwdIdeal.κ "log2e" .f32 0x3FB8AA3B#32 (((Real.log 2)⁻¹ : ℝ) : EReal)

def algebraic_FwdIdeal_FwdRefIdeal [hFwdIdeal : Cert.FwdIdeal.Facts] [hFwdRefIdeal : Cert.FwdRefIdeal.Facts] : Prop :=
  ∀ (m : (ℓ : Loc Cert.FwdIdeal.nD Cert.FwdIdeal.τ Cert.FwdIdeal.sig) → Buf (Elt Ideal) ℓ) (g : Dev Cert.FwdIdeal.nD → PrngReg)
    (m' : (ℓ : Loc Cert.FwdRefIdeal.nD Cert.FwdRefIdeal.τ Cert.FwdRefIdeal.sig) → Buf (Elt Ideal) ℓ) (g' : Dev Cert.FwdRefIdeal.nD → PrngReg), Pre_FwdIdeal m →
    (∀ c : Dev Cert.FwdIdeal.nD,
      m' ((c.tc : Thread Cert.FwdRefIdeal.nD Cert.FwdRefIdeal.τ).loc Cert.FwdRefIdeal.main_arg0) = m ((c.tc : Thread Cert.FwdIdeal.nD Cert.FwdIdeal.τ).loc Cert.FwdIdeal.main_arg0)
      ∧ m' ((c.tc : Thread Cert.FwdRefIdeal.nD Cert.FwdRefIdeal.τ).loc Cert.FwdRefIdeal.main_arg1) = m ((c.tc : Thread Cert.FwdIdeal.nD Cert.FwdIdeal.τ).loc Cert.FwdIdeal.main_arg1)
      ∧ m' ((c.tc : Thread Cert.FwdRefIdeal.nD Cert.FwdRefIdeal.τ).loc Cert.FwdRefIdeal.main_arg2) = m ((c.tc : Thread Cert.FwdIdeal.nD Cert.FwdIdeal.τ).loc Cert.FwdIdeal.main_arg2)
      ∧ m' ((c.tc : Thread Cert.FwdRefIdeal.nD Cert.FwdRefIdeal.τ).loc Cert.FwdRefIdeal.main_arg3) = m ((c.tc : Thread Cert.FwdIdeal.nD Cert.FwdIdeal.τ).loc Cert.FwdIdeal.main_arg3)) →
    ∃ (v0 : (c : Dev Cert.FwdIdeal.nD) → Buf (Elt Ideal) ((c.tc : Thread Cert.FwdIdeal.nD Cert.FwdIdeal.τ).loc Cert.FwdIdeal.main_v3_0)) (v1 : (c : Dev Cert.FwdIdeal.nD) → Buf (Elt Ideal) ((c.tc : Thread Cert.FwdIdeal.nD Cert.FwdIdeal.τ).loc Cert.FwdIdeal.main_v3_1)),
      θ_run (Cert.FwdIdeal.defs (F := Ideal)) (onTc (τ := Cert.FwdIdeal.τ) (Cert.FwdIdeal.main (F := Ideal))) ⟨m, fun _ => 0, g⟩ (fun r => ∀ c : Dev Cert.FwdIdeal.nD,
          r.2.mem ((c.tc : Thread Cert.FwdIdeal.nD Cert.FwdIdeal.τ).loc Cert.FwdIdeal.main_v3_0) = v0 c
          ∧ r.2.mem ((c.tc : Thread Cert.FwdIdeal.nD Cert.FwdIdeal.τ).loc Cert.FwdIdeal.main_v3_1) = v1 c
          ∧ r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
          ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
          ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2)
          ∧ r.2.mem ((c.tc : Thread Cert.FwdIdeal.nD Cert.FwdIdeal.τ).loc Cert.FwdIdeal.main_arg3) = m ((c.tc : Thread Cert.FwdIdeal.nD Cert.FwdIdeal.τ).loc Cert.FwdIdeal.main_arg3))
      ∧ θ_run (Cert.FwdRefIdeal.defs (F := Ideal)) (onTc (τ := Cert.FwdRefIdeal.τ) (Cert.FwdRefIdeal.main (F := Ideal))) ⟨m', fun _ => 0, g'⟩ (fun r => ∀ c : Dev Cert.FwdRefIdeal.nD,
          r.2.mem ((c.tc : Thread Cert.FwdRefIdeal.nD Cert.FwdRefIdeal.τ).loc Cert.FwdRefIdeal.main_v10) = v0 c
          ∧ r.2.mem ((c.tc : Thread Cert.FwdRefIdeal.nD Cert.FwdRefIdeal.τ).loc Cert.FwdRefIdeal.main_v26) = v1 c
          ∧ r.2.mem ((c.tc : Thread Cert.FwdRefIdeal.nD Cert.FwdRefIdeal.τ).loc Cert.FwdRefIdeal.main_arg0) = m' ((c.tc : Thread Cert.FwdRefIdeal.nD Cert.FwdRefIdeal.τ).loc Cert.FwdRefIdeal.main_arg0)
          ∧ r.2.mem ((c.tc : Thread Cert.FwdRefIdeal.nD Cert.FwdRefIdeal.τ).loc Cert.FwdRefIdeal.main_arg1) = m' ((c.tc : Thread Cert.FwdRefIdeal.nD Cert.FwdRefIdeal.τ).loc Cert.FwdRefIdeal.main_arg1)
          ∧ r.2.mem ((c.tc : Thread Cert.FwdRefIdeal.nD Cert.FwdRefIdeal.τ).loc Cert.FwdRefIdeal.main_arg2) = m' ((c.tc : Thread Cert.FwdRefIdeal.nD Cert.FwdRefIdeal.τ).loc Cert.FwdRefIdeal.main_arg2)
          ∧ r.2.mem ((c.tc : Thread Cert.FwdRefIdeal.nD Cert.FwdRefIdeal.τ).loc Cert.FwdRefIdeal.main_arg3) = m' ((c.tc : Thread Cert.FwdRefIdeal.nD Cert.FwdRefIdeal.τ).loc Cert.FwdRefIdeal.main_arg3))

def preserves_Bwd_BwdIdeal : Prop :=
  IdealRules.named_const.Statement Cert.BwdIdeal.κ "cap_log2e" .f32 0x422D1F97#32 ((30 * (Real.log 2)⁻¹ : ℝ) : EReal)
  ∧ IdealRules.named_const.Statement Cert.BwdIdeal.κ "ln2" .f32 0x3F317218#32 ((Real.log 2 : ℝ) : EReal)

def algebraic_BwdIdeal_BwdRefIdeal_pre_bwd_pre [hBwdIdeal : Cert.BwdIdeal.Facts] [hBwdRefIdeal : Cert.BwdRefIdeal.Facts] [hPre_bwd_pre : Cert.Pre_bwd_pre.Facts] : Prop :=
  ∀ (m : (ℓ : Loc Cert.BwdIdeal.nD Cert.BwdIdeal.τ Cert.BwdIdeal.sig) → Buf (Elt Ideal) ℓ) (g : Dev Cert.BwdIdeal.nD → PrngReg)
    (m' : (ℓ : Loc Cert.BwdRefIdeal.nD Cert.BwdRefIdeal.τ Cert.BwdRefIdeal.sig) → Buf (Elt Ideal) ℓ) (g' : Dev Cert.BwdRefIdeal.nD → PrngReg), Pre_BwdIdeal_bwd_pre m →
    (∀ c : Dev Cert.BwdIdeal.nD,
      m' ((c.tc : Thread Cert.BwdRefIdeal.nD Cert.BwdRefIdeal.τ).loc Cert.BwdRefIdeal.main_arg0) = m ((c.tc : Thread Cert.BwdIdeal.nD Cert.BwdIdeal.τ).loc Cert.BwdIdeal.main_arg0)
      ∧ m' ((c.tc : Thread Cert.BwdRefIdeal.nD Cert.BwdRefIdeal.τ).loc Cert.BwdRefIdeal.main_arg1) = m ((c.tc : Thread Cert.BwdIdeal.nD Cert.BwdIdeal.τ).loc Cert.BwdIdeal.main_arg1)
      ∧ m' ((c.tc : Thread Cert.BwdRefIdeal.nD Cert.BwdRefIdeal.τ).loc Cert.BwdRefIdeal.main_arg2) = m ((c.tc : Thread Cert.BwdIdeal.nD Cert.BwdIdeal.τ).loc Cert.BwdIdeal.main_arg2)
      ∧ m' ((c.tc : Thread Cert.BwdRefIdeal.nD Cert.BwdRefIdeal.τ).loc Cert.BwdRefIdeal.main_arg3) = m ((c.tc : Thread Cert.BwdIdeal.nD Cert.BwdIdeal.τ).loc Cert.BwdIdeal.main_arg3)
      ∧ m' ((c.tc : Thread Cert.BwdRefIdeal.nD Cert.BwdRefIdeal.τ).loc Cert.BwdRefIdeal.main_arg4) = m ((c.tc : Thread Cert.BwdIdeal.nD Cert.BwdIdeal.τ).loc Cert.BwdIdeal.main_arg4)) →
    ∃ (v0 : (c : Dev Cert.BwdIdeal.nD) → Buf (Elt Ideal) ((c.tc : Thread Cert.BwdIdeal.nD Cert.BwdIdeal.τ).loc Cert.BwdIdeal.main_v5_0)) (v1 : (c : Dev Cert.BwdIdeal.nD) → Buf (Elt Ideal) ((c.tc : Thread Cert.BwdIdeal.nD Cert.BwdIdeal.τ).loc Cert.BwdIdeal.main_v5_1)) (v2 : (c : Dev Cert.BwdIdeal.nD) → Buf (Elt Ideal) ((c.tc : Thread Cert.BwdIdeal.nD Cert.BwdIdeal.τ).loc Cert.BwdIdeal.main_v5_2)) (v3 : (c : Dev Cert.BwdIdeal.nD) → Buf (Elt Ideal) ((c.tc : Thread Cert.BwdIdeal.nD Cert.BwdIdeal.τ).loc Cert.BwdIdeal.main_v5_3)),
      θ_run (Cert.BwdIdeal.defs (F := Ideal)) (onTc (τ := Cert.BwdIdeal.τ) (Cert.BwdIdeal.main (F := Ideal))) ⟨m, fun _ => 0, g⟩ (fun r => ∀ c : Dev Cert.BwdIdeal.nD,
          r.2.mem ((c.tc : Thread Cert.BwdIdeal.nD Cert.BwdIdeal.τ).loc Cert.BwdIdeal.main_v5_0) = v0 c
          ∧ r.2.mem ((c.tc : Thread Cert.BwdIdeal.nD Cert.BwdIdeal.τ).loc Cert.BwdIdeal.main_v5_1) = v1 c
          ∧ r.2.mem ((c.tc : Thread Cert.BwdIdeal.nD Cert.BwdIdeal.τ).loc Cert.BwdIdeal.main_v5_2) = v2 c
          ∧ r.2.mem ((c.tc : Thread Cert.BwdIdeal.nD Cert.BwdIdeal.τ).loc Cert.BwdIdeal.main_v5_3) = v3 c
          ∧ r.2.mem ((c.tc : Thread Cert.BwdIdeal.nD Cert.BwdIdeal.τ).loc Cert.BwdIdeal.main_arg0) = m ((c.tc : Thread Cert.BwdIdeal.nD Cert.BwdIdeal.τ).loc Cert.BwdIdeal.main_arg0)
          ∧ r.2.mem ((c.tc : Thread Cert.BwdIdeal.nD Cert.BwdIdeal.τ).loc Cert.BwdIdeal.main_arg1) = m ((c.tc : Thread Cert.BwdIdeal.nD Cert.BwdIdeal.τ).loc Cert.BwdIdeal.main_arg1)
          ∧ r.2.mem ((c.tc : Thread Cert.BwdIdeal.nD Cert.BwdIdeal.τ).loc Cert.BwdIdeal.main_arg2) = m ((c.tc : Thread Cert.BwdIdeal.nD Cert.BwdIdeal.τ).loc Cert.BwdIdeal.main_arg2)
          ∧ r.2.mem ((c.tc : Thread Cert.BwdIdeal.nD Cert.BwdIdeal.τ).loc Cert.BwdIdeal.main_arg3) = m ((c.tc : Thread Cert.BwdIdeal.nD Cert.BwdIdeal.τ).loc Cert.BwdIdeal.main_arg3)
          ∧ r.2.mem ((c.tc : Thread Cert.BwdIdeal.nD Cert.BwdIdeal.τ).loc Cert.BwdIdeal.main_arg4) = m ((c.tc : Thread Cert.BwdIdeal.nD Cert.BwdIdeal.τ).loc Cert.BwdIdeal.main_arg4))
      ∧ θ_run (Cert.BwdRefIdeal.defs (F := Ideal)) (onTc (τ := Cert.BwdRefIdeal.τ) (Cert.BwdRefIdeal.main (F := Ideal))) ⟨m', fun _ => 0, g'⟩ (fun r => ∀ c : Dev Cert.BwdRefIdeal.nD,
          r.2.mem ((c.tc : Thread Cert.BwdRefIdeal.nD Cert.BwdRefIdeal.τ).loc Cert.BwdRefIdeal.main_v48_0) = v0 c
          ∧ r.2.mem ((c.tc : Thread Cert.BwdRefIdeal.nD Cert.BwdRefIdeal.τ).loc Cert.BwdRefIdeal.main_v37) = v1 c
          ∧ r.2.mem ((c.tc : Thread Cert.BwdRefIdeal.nD Cert.BwdRefIdeal.τ).loc Cert.BwdRefIdeal.main_v60) = v2 c
          ∧ r.2.mem ((c.tc : Thread Cert.BwdRefIdeal.nD Cert.BwdRefIdeal.τ).loc Cert.BwdRefIdeal.main_v65) = v3 c
          ∧ r.2.mem ((c.tc : Thread Cert.BwdRefIdeal.nD Cert.BwdRefIdeal.τ).loc Cert.BwdRefIdeal.main_arg0) = m' ((c.tc : Thread Cert.BwdRefIdeal.nD Cert.BwdRefIdeal.τ).loc Cert.BwdRefIdeal.main_arg0)
          ∧ r.2.mem ((c.tc : Thread Cert.BwdRefIdeal.nD Cert.BwdRefIdeal.τ).loc Cert.BwdRefIdeal.main_arg1) = m' ((c.tc : Thread Cert.BwdRefIdeal.nD Cert.BwdRefIdeal.τ).loc Cert.BwdRefIdeal.main_arg1)
          ∧ r.2.mem ((c.tc : Thread Cert.BwdRefIdeal.nD Cert.BwdRefIdeal.τ).loc Cert.BwdRefIdeal.main_arg2) = m' ((c.tc : Thread Cert.BwdRefIdeal.nD Cert.BwdRefIdeal.τ).loc Cert.BwdRefIdeal.main_arg2)
          ∧ r.2.mem ((c.tc : Thread Cert.BwdRefIdeal.nD Cert.BwdRefIdeal.τ).loc Cert.BwdRefIdeal.main_arg3) = m' ((c.tc : Thread Cert.BwdRefIdeal.nD Cert.BwdRefIdeal.τ).loc Cert.BwdRefIdeal.main_arg3)
          ∧ r.2.mem ((c.tc : Thread Cert.BwdRefIdeal.nD Cert.BwdRefIdeal.τ).loc Cert.BwdRefIdeal.main_arg4) = m' ((c.tc : Thread Cert.BwdRefIdeal.nD Cert.BwdRefIdeal.τ).loc Cert.BwdRefIdeal.main_arg4))

def Claim : Prop :=
  ∃ (hDw : Cert.Dw.Facts) (hDwIdeal : Cert.DwIdeal.Facts) (hDwRefIdeal : Cert.DwRefIdeal.Facts) (hFwd : Cert.Fwd.Facts) (hFwdIdeal : Cert.FwdIdeal.Facts) (hFwdRefIdeal : Cert.FwdRefIdeal.Facts) (hBwd : Cert.Bwd.Facts) (hBwdIdeal : Cert.BwdIdeal.Facts) (hBwdRefIdeal : Cert.BwdRefIdeal.Facts) (hPre_bwd_pre : Cert.Pre_bwd_pre.Facts),
    quiescent_Dw (hDw := hDw)
    ∧ quiescent_DwIdeal (hDwIdeal := hDwIdeal)
    ∧ quiescent_DwRefIdeal (hDwRefIdeal := hDwRefIdeal)
    ∧ quiescent_Fwd (hFwd := hFwd)
    ∧ quiescent_FwdIdeal (hFwdIdeal := hFwdIdeal)
    ∧ quiescent_FwdRefIdeal (hFwdRefIdeal := hFwdRefIdeal)
    ∧ quiescent_Bwd (hBwd := hBwd)
    ∧ quiescent_BwdIdeal (hBwdIdeal := hBwdIdeal)
    ∧ quiescent_BwdIdeal_pre_bwd_pre (hBwdIdeal := hBwdIdeal) (hPre_bwd_pre := hPre_bwd_pre)
    ∧ quiescent_BwdRefIdeal (hBwdRefIdeal := hBwdRefIdeal)
    ∧ quiescent_BwdRefIdeal_pre_bwd_pre (hBwdRefIdeal := hBwdRefIdeal) (hPre_bwd_pre := hPre_bwd_pre)
    ∧ preserves_Dw_DwIdeal
    ∧ algebraic_DwIdeal_DwRefIdeal (hDwIdeal := hDwIdeal) (hDwRefIdeal := hDwRefIdeal)
    ∧ preserves_Fwd_FwdIdeal
    ∧ algebraic_FwdIdeal_FwdRefIdeal (hFwdIdeal := hFwdIdeal) (hFwdRefIdeal := hFwdRefIdeal)
    ∧ preserves_Bwd_BwdIdeal
    ∧ algebraic_BwdIdeal_BwdRefIdeal_pre_bwd_pre (hBwdIdeal := hBwdIdeal) (hBwdRefIdeal := hBwdRefIdeal) (hPre_bwd_pre := hPre_bwd_pre)
-- ==== Pre_bwd_pre.lean ====
abbrev S12288x24576 : Shape := ⟨2, ![12288, 24576]⟩
abbrev S12288 : Shape := ⟨1, ![12288]⟩
abbrev S24576x2304 : Shape := ⟨2, ![24576, 2304]⟩
abbrev S24576 : Shape := ⟨1, ![24576]⟩
abbrev S_ : Shape := ⟨0, ![]⟩

class Facts : Prop where
  bcast_S_S12288x24576 : S_.BroadcastsInDim S12288x24576 (![] : Fin 0 → Fin S12288x24576.rank)
  bcast_S_S12288 : S_.BroadcastsInDim S12288 (![] : Fin 0 → Fin S12288.rank)

variable [Facts]

def fn {F : FTy → Type} [FloatOps F] (main_arg0 : FVec F S12288x24576 .f32) (main_arg1 : FVec F S12288 .f32) (main_arg2 : IVec S12288 32) (main_arg3 : FVec F S24576x2304 .fp8e4m3) (main_arg4 : FVec F S24576 .f32) : IVec S12288x24576 1 × IVec S12288x24576 1 × IVec S12288 1 :=
  let main_cst : FVec F S_ .f32 := constant S_ .f32 0xBF800000#32
  let main_v0 : FVec F S12288x24576 .f32 := broadcastInDim S12288x24576 ![] bcast_S_S12288x24576 main_cst
  let main_v1 : IVec S12288x24576 1 := cmpf .oge main_arg0 main_v0
  let main_cst_0 : FVec F S_ .f32 := constant S_ .f32 0x3F800000#32
  let main_v2 : FVec F S12288x24576 .f32 := broadcastInDim S12288x24576 ![] bcast_S_S12288x24576 main_cst_0
  let main_v3 : IVec S12288x24576 1 := cmpf .ole main_arg0 main_v2
  let main_cst_1 : FVec F S_ .f32 := constant S_ .f32 0xC2A00000#32
  let main_v4 : FVec F S12288 .f32 := broadcastInDim S12288 ![] bcast_S_S12288 main_cst_1
  let main_v5 : IVec S12288 1 := cmpf .oge main_arg1 main_v4
  (main_v1, main_v3, main_v5)
-- ==== Dw.lean ====
abbrev S12288x24576 : Shape := ⟨2, ![12288, 24576]⟩
abbrev S12288x128 : Shape := ⟨2, ![12288, 128]⟩
abbrev S12288x2304 : Shape := ⟨2, ![12288, 2304]⟩
abbrev S12288 : Shape := ⟨1, ![12288]⟩
abbrev S12288x1 : Shape := ⟨2, ![12288, 1]⟩
abbrev S128x12288 : Shape := ⟨2, ![128, 12288]⟩
abbrev S16x8x12288 : Shape := ⟨3, ![16, 8, 12288]⟩
abbrev S24576x2304 : Shape := ⟨2, ![24576, 2304]⟩
abbrev S1024x1536 : Shape := ⟨2, ![1024, 1536]⟩
abbrev S1x8x1024 : Shape := ⟨3, ![1, 8, 1024]⟩
abbrev S1024x2304 : Shape := ⟨2, ![1024, 2304]⟩
abbrev S1536x2304 : Shape := ⟨2, ![1536, 2304]⟩
abbrev S1024x384 : Shape := ⟨2, ![1024, 384]⟩
abbrev S384x1024 : Shape := ⟨2, ![384, 1024]⟩
abbrev S1x1x1024 : Shape := ⟨3, ![1, 1, 1024]⟩
abbrev S1x1024 : Shape := ⟨2, ![1, 1024]⟩
abbrev S192x1024 : Shape := ⟨2, ![192, 1024]⟩
abbrev S384x2304 : Shape := ⟨2, ![384, 2304]⟩

abbrev nBuf : Space → Nat
  | .hbm => 10
  | .vmem => 8
  | .smem => 0
  | _ => 0

abbrev bufTy : (tb : Table) → Fin (tcTables nBuf tb) → BufTy
  | .hbm, ⟨0, _⟩ => ⟨S12288x24576, .fp8e5m2⟩
  | .hbm, ⟨1, _⟩ => ⟨S12288x128, .f32⟩
  | .hbm, ⟨2, _⟩ => ⟨S12288x2304, .fp8e4m3⟩
  | .hbm, ⟨3, _⟩ => ⟨S12288, .f32⟩
  | .hbm, ⟨4, _⟩ => ⟨S12288x1, .f32⟩
  | .hbm, ⟨5, _⟩ => ⟨S12288x128, .f32⟩
  | .hbm, ⟨6, _⟩ => ⟨S12288x128, .f32⟩
  | .hbm, ⟨7, _⟩ => ⟨S128x12288, .f32⟩
  | .hbm, ⟨8, _⟩ => ⟨S16x8x12288, .f32⟩
  | .hbm, ⟨9, _⟩ => ⟨S24576x2304, .f32⟩
  | .local _ .vmem, ⟨0, _⟩ => ⟨S1024x1536, .fp8e5m2⟩
  | .local _ .vmem, ⟨1, _⟩ => ⟨S1024x1536, .fp8e5m2⟩
  | .local _ .vmem, ⟨2, _⟩ => ⟨S1x8x1024, .f32⟩
  | .local _ .vmem, ⟨3, _⟩ => ⟨S1x8x1024, .f32⟩
  | .local _ .vmem, ⟨4, _⟩ => ⟨S1024x2304, .fp8e4m3⟩
  | .local _ .vmem, ⟨5, _⟩ => ⟨S1024x2304, .fp8e4m3⟩
  | .local _ .vmem, ⟨6, _⟩ => ⟨S1536x2304, .f32⟩
  | .local _ .vmem, ⟨7, _⟩ => ⟨S1536x2304, .f32⟩
  | _, _ => ⟨S12288x24576, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1536 .fp8e5m2 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x2304 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1536x2304 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== DwRefIdeal.lean ====
abbrev S12288x24576 : Shape := ⟨2, ![12288, 24576]⟩
abbrev S12288x128 : Shape := ⟨2, ![12288, 128]⟩
abbrev S12288x2304 : Shape := ⟨2, ![12288, 2304]⟩
abbrev S12288 : Shape := ⟨1, ![12288]⟩
abbrev S12288x128x192 : Shape := ⟨3, ![12288, 128, 192]⟩
abbrev S12288x128x1 : Shape := ⟨3, ![12288, 128, 1]⟩
abbrev S12288x1 : Shape := ⟨2, ![12288, 1]⟩
abbrev S24576x2304 : Shape := ⟨2, ![24576, 2304]⟩

abbrev nBuf : Space → Nat
  | .hbm => 17
  | .vmem => 4
  | .smem => 0
  | _ => 0

abbrev bufTy : (tb : Table) → Fin (tcTables nBuf tb) → BufTy
  | .hbm, ⟨0, _⟩ => ⟨S12288x24576, .fp8e5m2⟩
  | .hbm, ⟨1, _⟩ => ⟨S12288x128, .f32⟩
  | .hbm, ⟨2, _⟩ => ⟨S12288x2304, .fp8e4m3⟩
  | .hbm, ⟨3, _⟩ => ⟨S12288, .f32⟩
  | .hbm, ⟨4, _⟩ => ⟨S12288x24576, .bf16⟩
  | .hbm, ⟨5, _⟩ => ⟨S12288x2304, .bf16⟩
  | .hbm, ⟨6, _⟩ => ⟨S12288x128x192, .bf16⟩
  | .hbm, ⟨7, _⟩ => ⟨S12288x128, .bf16⟩
  | .hbm, ⟨8, _⟩ => ⟨S12288x128x1, .bf16⟩
  | .hbm, ⟨9, _⟩ => ⟨S12288x128x192, .bf16⟩
  | .hbm, ⟨10, _⟩ => ⟨S12288x128x192, .bf16⟩
  | .hbm, ⟨11, _⟩ => ⟨S12288x24576, .bf16⟩
  | .hbm, ⟨12, _⟩ => ⟨S12288, .bf16⟩
  | .hbm, ⟨13, _⟩ => ⟨S12288x1, .bf16⟩
  | .hbm, ⟨14, _⟩ => ⟨S12288x2304, .bf16⟩
  | .hbm, ⟨15, _⟩ => ⟨S12288x2304, .bf16⟩
  | .hbm, ⟨16, _⟩ => ⟨S24576x2304, .f32⟩
  | .local _ .vmem, ⟨0, _⟩ => ⟨S12288x24576, .fp8e5m2⟩
  | .local _ .vmem, ⟨1, _⟩ => ⟨S12288x2304, .fp8e4m3⟩
  | .local _ .vmem, ⟨2, _⟩ => ⟨S12288x24576, .bf16⟩
  | .local _ .vmem, ⟨3, _⟩ => ⟨S12288x2304, .bf16⟩
  | _, _ => ⟨S12288x24576, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S12288x24576 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S12288x2304 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S12288x24576 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S12288x2304 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Fwd.lean ====
abbrev S12288x2304 : Shape := ⟨2, ![12288, 2304]⟩
abbrev S12288 : Shape := ⟨1, ![12288]⟩
abbrev S24576x2304 : Shape := ⟨2, ![24576, 2304]⟩
abbrev S24576 : Shape := ⟨1, ![24576]⟩
abbrev S1x24576 : Shape := ⟨2, ![1, 24576]⟩
abbrev S12288x1 : Shape := ⟨2, ![12288, 1]⟩
abbrev S12288x128 : Shape := ⟨2, ![12288, 128]⟩
abbrev S12288x24576 : Shape := ⟨2, ![12288, 24576]⟩
abbrev S1024x2304 : Shape := ⟨2, ![1024, 2304]⟩
abbrev S1024x128 : Shape := ⟨2, ![1024, 128]⟩
abbrev S3072x2304 : Shape := ⟨2, ![3072, 2304]⟩
abbrev S1x3072 : Shape := ⟨2, ![1, 3072]⟩
abbrev S1024x3072 : Shape := ⟨2, ![1024, 3072]⟩
abbrev S512x2304 : Shape := ⟨2, ![512, 2304]⟩
abbrev S256x2304 : Shape := ⟨2, ![256, 2304]⟩
abbrev S512x256 : Shape := ⟨2, ![512, 256]⟩
abbrev S1x256 : Shape := ⟨2, ![1, 256]⟩
abbrev S512x128 : Shape := ⟨2, ![512, 128]⟩
abbrev S1x128 : Shape := ⟨2, ![1, 128]⟩
abbrev S1024 : Shape := ⟨1, ![1024]⟩
abbrev S1024x1 : Shape := ⟨2, ![1024, 1]⟩

abbrev nBuf : Space → Nat
  | .hbm => 9
  | .vmem => 13
  | .smem => 0
  | _ => 0

abbrev bufTy : (tb : Table) → Fin (tcTables nBuf tb) → BufTy
  | .hbm, ⟨0, _⟩ => ⟨S12288x2304, .fp8e4m3⟩
  | .hbm, ⟨1, _⟩ => ⟨S12288, .f32⟩
  | .hbm, ⟨2, _⟩ => ⟨S24576x2304, .fp8e4m3⟩
  | .hbm, ⟨3, _⟩ => ⟨S24576, .f32⟩
  | .hbm, ⟨4, _⟩ => ⟨S1x24576, .f32⟩
  | .hbm, ⟨5, _⟩ => ⟨S12288x1, .f32⟩
  | .hbm, ⟨6, _⟩ => ⟨S12288x128, .f32⟩
  | .hbm, ⟨7, _⟩ => ⟨S12288x24576, .f32⟩
  | .hbm, ⟨8, _⟩ => ⟨S12288x128, .f32⟩
  | .local _ .vmem, ⟨0, _⟩ => ⟨S1024x2304, .fp8e4m3⟩
  | .local _ .vmem, ⟨1, _⟩ => ⟨S1024x2304, .fp8e4m3⟩
  | .local _ .vmem, ⟨2, _⟩ => ⟨S1024x128, .f32⟩
  | .local _ .vmem, ⟨3, _⟩ => ⟨S1024x128, .f32⟩
  | .local _ .vmem, ⟨4, _⟩ => ⟨S3072x2304, .fp8e4m3⟩
  | .local _ .vmem, ⟨5, _⟩ => ⟨S3072x2304, .fp8e4m3⟩
  | .local _ .vmem, ⟨6, _⟩ => ⟨S1x3072, .f32⟩
  | .local _ .vmem, ⟨7, _⟩ => ⟨S1x3072, .f32⟩
  | .local _ .vmem, ⟨8, _⟩ => ⟨S1024x3072, .f32⟩
  | .local _ .vmem, ⟨9, _⟩ => ⟨S1024x3072, .f32⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | _, _ => ⟨S12288x2304, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![12, 8], ![false, false]⟩

def k0_cond2 (i : grid0.Coords) : BitVec 1 :=
  let arg1 : BitVec 32 := BitVec.ofNat 32 (i 1).val
  let c7_i32 : BitVec 32 := 7#32
  let v939 : BitVec 1 := Scalar.cmpi .eq arg1 c7_i32
  let v940 : BitVec 32 := Scalar.extui v939
  let c0_i32_504 : BitVec 32 := 0#32
  let v941 : BitVec 1 := Scalar.cmpi .ne v940 c0_i32_504
  v941

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2304 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S3072x2304 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x3072 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== FwdIdeal.lean ====
variable {F : FTy → Type} [FloatOps F] [Named F]
def κ : String → Option EReal := fun
  | "cap_log2e" => some ((30 * (Real.log 2)⁻¹ : ℝ) : EReal)
  | "log2e" => some (((Real.log 2)⁻¹ : ℝ) : EReal)
  | _ => none
-- ==== FwdRefIdeal.lean ====
abbrev S12288x2304 : Shape := ⟨2, ![12288, 2304]⟩
abbrev S12288 : Shape := ⟨1, ![12288]⟩
abbrev S24576x2304 : Shape := ⟨2, ![24576, 2304]⟩
abbrev S24576 : Shape := ⟨1, ![24576]⟩
abbrev S12288x24576 : Shape := ⟨2, ![12288, 24576]⟩
abbrev S12288x1 : Shape := ⟨2, ![12288, 1]⟩
abbrev S1x24576 : Shape := ⟨2, ![1, 24576]⟩
abbrev S_ : Shape := ⟨0, ![]⟩
abbrev S12288x128 : Shape := ⟨2, ![12288, 128]⟩

abbrev nBuf : Space → Nat
  | .hbm => 37
  | .vmem => 4
  | .smem => 0
  | _ => 0

abbrev bufTy : (tb : Table) → Fin (tcTables nBuf tb) → BufTy
  | .hbm, ⟨0, _⟩ => ⟨S12288x2304, .fp8e4m3⟩
  | .hbm, ⟨1, _⟩ => ⟨S12288, .f32⟩
  | .hbm, ⟨2, _⟩ => ⟨S24576x2304, .fp8e4m3⟩
  | .hbm, ⟨3, _⟩ => ⟨S24576, .f32⟩
  | .hbm, ⟨4, _⟩ => ⟨S12288x2304, .bf16⟩
  | .hbm, ⟨5, _⟩ => ⟨S24576x2304, .bf16⟩
  | .hbm, ⟨6, _⟩ => ⟨S12288x24576, .f32⟩
  | .hbm, ⟨7, _⟩ => ⟨S12288x1, .f32⟩
  | .hbm, ⟨8, _⟩ => ⟨S12288x24576, .f32⟩
  | .hbm, ⟨9, _⟩ => ⟨S12288x24576, .f32⟩
  | .hbm, ⟨10, _⟩ => ⟨S1x24576, .f32⟩
  | .hbm, ⟨11, _⟩ => ⟨S12288x24576, .f32⟩
  | .hbm, ⟨12, _⟩ => ⟨S12288x24576, .f32⟩
  | .hbm, ⟨13, _⟩ => ⟨S_, .f32⟩
  | .hbm, ⟨14, _⟩ => ⟨S12288x24576, .f32⟩
  | .hbm, ⟨15, _⟩ => ⟨S12288x24576, .f32⟩
  | .hbm, ⟨16, _⟩ => ⟨S12288x24576, .f32⟩
  | .hbm, ⟨17, _⟩ => ⟨S_, .f32⟩
  | .hbm, ⟨18, _⟩ => ⟨S12288x24576, .f32⟩
  | .hbm, ⟨19, _⟩ => ⟨S12288x24576, .f32⟩
  | .hbm, ⟨20, _⟩ => ⟨S_, .f32⟩
  | .hbm, ⟨21, _⟩ => ⟨S12288, .f32⟩
  | .hbm, ⟨22, _⟩ => ⟨S12288x1, .f32⟩
  | .hbm, ⟨23, _⟩ => ⟨S12288x24576, .f32⟩
  | .hbm, ⟨24, _⟩ => ⟨S12288x24576, .f32⟩
  | .hbm, ⟨25, _⟩ => ⟨S12288x24576, .f32⟩
  | .hbm, ⟨26, _⟩ => ⟨S_, .f32⟩
  | .hbm, ⟨27, _⟩ => ⟨S12288, .f32⟩
  | .hbm, ⟨28, _⟩ => ⟨S12288x1, .f32⟩
  | .hbm, ⟨29, _⟩ => ⟨S12288x1, .f32⟩
  | .hbm, ⟨30, _⟩ => ⟨S12288x1, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S12288x1, .f32⟩
  | .hbm, ⟨35, _⟩ => ⟨S12288x1, .f32⟩
  | .hbm, ⟨36, _⟩ => ⟨S12288x128, .f32⟩
  | .local _ .vmem, ⟨0, _⟩ => ⟨S12288x2304, .fp8e4m3⟩
  | .local _ .vmem, ⟨1, _⟩ => ⟨S24576x2304, .fp8e4m3⟩
  | .local _ .vmem, ⟨2, _⟩ => ⟨S12288x2304, .bf16⟩
  | .local _ .vmem, ⟨3, _⟩ => ⟨S24576x2304, .bf16⟩
  | _, _ => ⟨S12288x2304, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S12288x2304 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S24576x2304 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S12288x2304 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S24576x2304 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Bwd.lean ====
abbrev S12288x24576 : Shape := ⟨2, ![12288, 24576]⟩
abbrev S12288 : Shape := ⟨1, ![12288]⟩
abbrev S24576x2304 : Shape := ⟨2, ![24576, 2304]⟩
abbrev S24576 : Shape := ⟨1, ![24576]⟩
abbrev S1x24576 : Shape := ⟨2, ![1, 24576]⟩
abbrev S12288x1 : Shape := ⟨2, ![12288, 1]⟩
abbrev S12288x128 : Shape := ⟨2, ![12288, 128]⟩
abbrev S12288x2304 : Shape := ⟨2, ![12288, 2304]⟩
abbrev S1024x1536 : Shape := ⟨2, ![1024, 1536]⟩
abbrev S1024x128 : Shape := ⟨2, ![1024, 128]⟩
abbrev S1536x2304 : Shape := ⟨2, ![1536, 2304]⟩
abbrev S1x1536 : Shape := ⟨2, ![1, 1536]⟩
abbrev S1024x2304 : Shape := ⟨2, ![1024, 2304]⟩
abbrev S256x128 : Shape := ⟨2, ![256, 128]⟩
abbrev S256 : Shape := ⟨1, ![256]⟩
abbrev S256x1 : Shape := ⟨2, ![256, 1]⟩
abbrev S1x128 : Shape := ⟨2, ![1, 128]⟩
abbrev S256x2304 : Shape := ⟨2, ![256, 2304]⟩
abbrev S256x1536 : Shape := ⟨2, ![256, 1536]⟩
abbrev S1024 : Shape := ⟨1, ![1024]⟩
abbrev S1024x1 : Shape := ⟨2, ![1024, 1]⟩

abbrev nBuf : Space → Nat
  | .hbm => 14
  | .vmem => 21
  | .smem => 0
  | _ => 0

abbrev bufTy : (tb : Table) → Fin (tcTables nBuf tb) → BufTy
  | .hbm, ⟨0, _⟩ => ⟨S12288x24576, .f32⟩
  | .hbm, ⟨1, _⟩ => ⟨S12288, .f32⟩
  | .hbm, ⟨2, _⟩ => ⟨S12288, .i32⟩
  | .hbm, ⟨3, _⟩ => ⟨S24576x2304, .fp8e4m3⟩
  | .hbm, ⟨4, _⟩ => ⟨S24576, .f32⟩
  | .hbm, ⟨5, _⟩ => ⟨S1x24576, .f32⟩
  | .hbm, ⟨6, _⟩ => ⟨S12288x1, .i32⟩
  | .hbm, ⟨7, _⟩ => ⟨S12288x128, .i32⟩
  | .hbm, ⟨8, _⟩ => ⟨S12288x1, .f32⟩
  | .hbm, ⟨9, _⟩ => ⟨S12288x128, .f32⟩
  | .hbm, ⟨10, _⟩ => ⟨S12288x24576, .fp8e5m2⟩
  | .hbm, ⟨11, _⟩ => ⟨S12288x128, .f32⟩
  | .hbm, ⟨12, _⟩ => ⟨S12288x2304, .bf16⟩
  | .hbm, ⟨13, _⟩ => ⟨S12288x128, .f32⟩
  | .local _ .vmem, ⟨0, _⟩ => ⟨S1024x1536, .f32⟩
  | .local _ .vmem, ⟨1, _⟩ => ⟨S1024x1536, .f32⟩
  | .local _ .vmem, ⟨2, _⟩ => ⟨S1024x128, .f32⟩
  | .local _ .vmem, ⟨3, _⟩ => ⟨S1024x128, .f32⟩
  | .local _ .vmem, ⟨4, _⟩ => ⟨S1024x128, .i32⟩
  | .local _ .vmem, ⟨5, _⟩ => ⟨S1024x128, .i32⟩
  | .local _ .vmem, ⟨6, _⟩ => ⟨S1536x2304, .fp8e4m3⟩
  | .local _ .vmem, ⟨7, _⟩ => ⟨S1536x2304, .fp8e4m3⟩
  | .local _ .vmem, ⟨8, _⟩ => ⟨S1x1536, .f32⟩
  | .local _ .vmem, ⟨9, _⟩ => ⟨S1x1536, .f32⟩
  | .local _ .vmem, ⟨10, _⟩ => ⟨S1024x1536, .fp8e5m2⟩
  | .local _ .vmem, ⟨11, _⟩ => ⟨S1024x1536, .fp8e5m2⟩
  | .local _ .vmem, ⟨12, _⟩ => ⟨S1024x128, .f32⟩
  | .local _ .vmem, ⟨13, _⟩ => ⟨S1024x128, .f32⟩
  | .local _ .vmem, ⟨14, _⟩ => ⟨S1024x2304, .bf16⟩
  | .local _ .vmem, ⟨15, _⟩ => ⟨S1024x2304, .bf16⟩
  | .local _ .vmem, ⟨16, _⟩ => ⟨S1024x128, .f32⟩
  | .local _ .vmem, ⟨17, _⟩ => ⟨S1024x128, .f32⟩
  | .local _ .vmem, ⟨18, _⟩ => ⟨S1024x2304, .f32⟩
  | .local _ .vmem, ⟨19, _⟩ => ⟨S1024x128, .f32⟩
  | .local _ .vmem, ⟨20, _⟩ => ⟨S1024x1536, .bf16⟩
  | _, _ => ⟨S12288x24576, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_v5_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![12, 16], ![false, false]⟩

def k0_cond2 (i : grid0.Coords) : BitVec 1 :=
  let arg1 : BitVec 32 := BitVec.ofNat 32 (i 1).val
  let c15_i32 : BitVec 32 := 15#32
  let v3520 : BitVec 1 := Scalar.cmpi .eq arg1 c15_i32
  let v3521 : BitVec 32 := Scalar.extui v3520
  let c0_i32_1338 : BitVec 32 := 0#32
  let v3522 : BitVec 1 := Scalar.cmpi .ne v3521 c0_i32_1338
  v3522

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1536x2304 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1536 .fp8e5m2 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x2304 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== BwdIdeal.lean ====
variable {F : FTy → Type} [FloatOps F] [Named F]
def κ : String → Option EReal := fun
  | "cap_log2e" => some ((30 * (Real.log 2)⁻¹ : ℝ) : EReal)
  | "ln2" => some ((Real.log 2 : ℝ) : EReal)
  | _ => none
-- ==== BwdRefIdeal.lean ====
abbrev S12288x24576 : Shape := ⟨2, ![12288, 24576]⟩
abbrev S12288 : Shape := ⟨1, ![12288]⟩
abbrev S24576x2304 : Shape := ⟨2, ![24576, 2304]⟩
abbrev S24576 : Shape := ⟨1, ![24576]⟩
abbrev S_ : Shape := ⟨0, ![]⟩
abbrev S12288x1 : Shape := ⟨2, ![12288, 1]⟩
abbrev S1x24576 : Shape := ⟨2, ![1, 24576]⟩
abbrev S12288x128x192 : Shape := ⟨3, ![12288, 128, 192]⟩
abbrev S12288x128 : Shape := ⟨2, ![12288, 128]⟩
abbrev S12288x128x1 : Shape := ⟨3, ![12288, 128, 1]⟩
abbrev S24576x1 : Shape := ⟨2, ![24576, 1]⟩
abbrev S12288x2304 : Shape := ⟨2, ![12288, 2304]⟩

abbrev nBuf : Space → Nat
  | .hbm => 89
  | .vmem => 5
  | .smem => 0
  | _ => 0

abbrev bufTy : (tb : Table) → Fin (tcTables nBuf tb) → BufTy
  | .hbm, ⟨0, _⟩ => ⟨S12288x24576, .f32⟩
  | .hbm, ⟨1, _⟩ => ⟨S12288, .f32⟩
  | .hbm, ⟨2, _⟩ => ⟨S12288, .i32⟩
  | .hbm, ⟨3, _⟩ => ⟨S24576x2304, .fp8e4m3⟩
  | .hbm, ⟨4, _⟩ => ⟨S24576, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S12288x24576, .f32⟩
  | .hbm, ⟨9, _⟩ => ⟨S12288x24576, .f32⟩
  | .hbm, ⟨10, _⟩ => ⟨S12288, .f32⟩
  | .hbm, ⟨11, _⟩ => ⟨S12288, .f32⟩
  | .hbm, ⟨12, _⟩ => ⟨S24576, .i32⟩
  | .hbm, ⟨13, _⟩ => ⟨S12288x1, .i32⟩
  | .hbm, ⟨14, _⟩ => ⟨S1x24576, .i32⟩
  | .hbm, ⟨15, _⟩ => ⟨S12288x24576, .i32⟩
  | .hbm, ⟨16, _⟩ => ⟨S12288x24576, .i32⟩
  | .hbm, ⟨17, _⟩ => ⟨S12288x24576, .i1⟩
  | .hbm, ⟨18, _⟩ => ⟨S12288x1, .f32⟩
  | .hbm, ⟨19, _⟩ => ⟨S12288x24576, .f32⟩
  | .hbm, ⟨20, _⟩ => ⟨S12288x24576, .f32⟩
  | .hbm, ⟨21, _⟩ => ⟨S12288x24576, .f32⟩
  | .hbm, ⟨22, _⟩ => ⟨S12288x24576, .f32⟩
  | .hbm, ⟨23, _⟩ => ⟨S12288x24576, .f32⟩
  | .hbm, ⟨24, _⟩ => ⟨S12288x24576, .f32⟩
  | .hbm, ⟨25, _⟩ => ⟨S_, .f32⟩
  | .hbm, ⟨26, _⟩ => ⟨S12288x24576, .f32⟩
  | .hbm, ⟨27, _⟩ => ⟨S12288x24576, .f32⟩
  | .hbm, ⟨28, _⟩ => ⟨S12288x24576, .f32⟩
  | .hbm, ⟨29, _⟩ => ⟨S12288x128x192, .f32⟩
  | .hbm, ⟨30, _⟩ => ⟨S12288x128x192, .f32⟩
  | .hbm, ⟨31, _⟩ => ⟨S_, .f32⟩
  | .hbm, ⟨32, _⟩ => ⟨S12288x128, .f32⟩
  | .hbm, ⟨33, _⟩ => ⟨S_, .f32⟩
  | .hbm, ⟨34, _⟩ => ⟨S12288x128, .f32⟩
  | .hbm, ⟨35, _⟩ => ⟨S12288x128, .f32⟩
  | .hbm, ⟨36, _⟩ => ⟨S_, .f32⟩
  | .hbm, ⟨37, _⟩ => ⟨S12288x128, .f32⟩
  | .hbm, ⟨38, _⟩ => ⟨S12288x128, .i1⟩
  | .hbm, ⟨39, _⟩ => ⟨S12288x128, .f32⟩
  | .hbm, ⟨40, _⟩ => ⟨S12288x128, .f32⟩
  | .hbm, ⟨41, _⟩ => ⟨S12288x128, .f32⟩
  | .hbm, ⟨42, _⟩ => ⟨S12288x128, .f32⟩
  | .hbm, ⟨43, _⟩ => ⟨S_, .f32⟩
  | .hbm, ⟨44, _⟩ => ⟨S12288x128, .f32⟩
  | .hbm, ⟨45, _⟩ => ⟨S12288x128, .f32⟩
  | .hbm, ⟨46, _⟩ => ⟨S_, .f32⟩
  | .hbm, ⟨47, _⟩ => ⟨S_, .f32⟩
  | .hbm, ⟨48, _⟩ => ⟨S12288x128, .f32⟩
  | .hbm, ⟨49, _⟩ => ⟨S12288x128, .f32⟩
  | .hbm, ⟨50, _⟩ => ⟨S12288x128, .f32⟩
  | .hbm, ⟨51, _⟩ => ⟨S12288x128, .f32⟩
  | .hbm, ⟨52, _⟩ => ⟨S12288x128, .f32⟩
  | .hbm, ⟨53, _⟩ => ⟨S12288x128, .f32⟩
  | .hbm, ⟨54, _⟩ => ⟨S12288x128, .f32⟩
  | .hbm, ⟨55, _⟩ => ⟨S12288x128x1, .f32⟩
  | .hbm, ⟨56, _⟩ => ⟨S12288x128x192, .f32⟩
  | .hbm, ⟨57, _⟩ => ⟨S12288x128x192, .f32⟩
  | .hbm, ⟨58, _⟩ => ⟨S_, .f32⟩
  | .hbm, ⟨59, _⟩ => ⟨S12288x128x192, .f32⟩
  | .hbm, ⟨60, _⟩ => ⟨S12288x128x192, .f32⟩
  | .hbm, ⟨61, _⟩ => ⟨S_, .f32⟩
  | .hbm, ⟨62, _⟩ => ⟨S12288x128x192, .f32⟩
  | .hbm, ⟨63, _⟩ => ⟨S12288x128x192, .f32⟩
  | .hbm, ⟨64, _⟩ => ⟨S12288x24576, .f32⟩
  | .hbm, ⟨65, _⟩ => ⟨S12288x24576, .fp8e5m2⟩
  | .hbm, ⟨66, _⟩ => ⟨S12288x24576, .bf16⟩
  | .hbm, ⟨67, _⟩ => ⟨S24576x2304, .bf16⟩
  | .hbm, ⟨68, _⟩ => ⟨S12288x128x192, .bf16⟩
  | .hbm, ⟨69, _⟩ => ⟨S12288x128, .bf16⟩
  | .hbm, ⟨70, _⟩ => ⟨S12288x128x1, .bf16⟩
  | .hbm, ⟨71, _⟩ => ⟨S12288x128x192, .bf16⟩
  | .hbm, ⟨72, _⟩ => ⟨S12288x128x192, .bf16⟩
  | .hbm, ⟨73, _⟩ => ⟨S12288x24576, .bf16⟩
  | .hbm, ⟨74, _⟩ => ⟨S24576, .bf16⟩
  | .hbm, ⟨75, _⟩ => ⟨S24576x1, .bf16⟩
  | .hbm, ⟨76, _⟩ => ⟨S24576x2304, .bf16⟩
  | .hbm, ⟨77, _⟩ => ⟨S24576x2304, .bf16⟩
  | .hbm, ⟨78, _⟩ => ⟨S12288x2304, .f32⟩
  | .hbm, ⟨79, _⟩ => ⟨S12288x2304, .bf16⟩
  | .hbm, ⟨80, _⟩ => ⟨S_, .f32⟩
  | .hbm, ⟨81, _⟩ => ⟨S_, .f32⟩
  | .hbm, ⟨82, _⟩ => ⟨S12288x24576, .f32⟩
  | .hbm, ⟨83, _⟩ => ⟨S12288x24576, .f32⟩
  | .hbm, ⟨84, _⟩ => ⟨S_, .f32⟩
  | .hbm, ⟨85, _⟩ => ⟨S12288, .f32⟩
  | .hbm, ⟨86, _⟩ => ⟨S12288, .f32⟩
  | .hbm, ⟨87, _⟩ => ⟨S12288x1, .f32⟩
  | .hbm, ⟨88, _⟩ => ⟨S12288x128, .f32⟩
  | .local _ .vmem, ⟨0, _⟩ => ⟨S12288x24576, .f32⟩
  | .local _ .vmem, ⟨1, _⟩ => ⟨S24576x2304, .fp8e4m3⟩
  | .local _ .vmem, ⟨2, _⟩ => ⟨S12288x24576, .fp8e5m2⟩
  | .local _ .vmem, ⟨3, _⟩ => ⟨S12288x24576, .bf16⟩
  | .local _ .vmem, ⟨4, _⟩ => ⟨S24576x2304, .bf16⟩
  | _, _ => ⟨S12288x24576, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_1 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_2 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_5 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_call0_v0 : Ref sig .tc := ⟨.hbm, 47, rfl⟩
abbrev main_call0_v1 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_7 : Ref sig .tc := ⟨.hbm, 58, rfl⟩
abbrev main_v43 : Ref sig .tc := ⟨.hbm, 59, rfl⟩
abbrev main_v44 : Ref sig .tc := ⟨.hbm, 60, rfl⟩
abbrev main_cst_8 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48_0 : Ref sig .tc := ⟨.hbm, 65, rfl⟩
abbrev main_v48_1 : Ref sig .tc := ⟨.hbm, 66, rfl⟩
abbrev main_v48_2 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_cst_9 : Ref sig .tc := ⟨.hbm, 80, rfl⟩
abbrev main_call1_v0 : Ref sig .tc := ⟨.hbm, 81, rfl⟩
abbrev main_call1_v1 : Ref sig .tc := ⟨.hbm, 82, rfl⟩
abbrev main_v61 : Ref sig .tc := ⟨.hbm, 83, rfl⟩
abbrev main_cst_10 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S12288x24576 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S24576x2304 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S12288x24576 .fp8e5m2 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S12288x24576 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S24576x2304 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.DwValue.lean ====
module

public import proofs.«01_k».proof.Proof.Gen.DwIdeal.Value
public import Idealize.ShloMosaic.Lib.Pipeline.ValueKit
public import Idealize.ShloMosaic.Lib.Pipeline.ReadBack
public import Idealize.ShloMosaic.Lib.Pointwise

@[expose] public section
noncomputable section
namespace Cert.DwIdeal.Value
open Cert.DwIdeal Cert.DwIdeal.Gen Idealize.ShloMosaic Idealize.ShloMosaic.TcCoe Idealize.SL.Sem

/-- What one token tile adds to the output block at `y`: the scaled codes of column `y 0` against column `y 1` of the hidden codes. -/
def part (x0 : Vec Ideal S1024x1536 .fp8e5m2) (x1 : Vec Ideal S1x8x1024 .f32) (x2 : Vec Ideal S1024x2304 .fp8e4m3) (y : S1536x2304.Idx) : Ideal .f32 :=
  ∑ k : Fin 1024, (x0 (ix2 k (y 0)) * x1 (ix3 0 ⟨(y 0).val / 192, Nat.div_lt_of_lt_mul (y 0).isLt⟩ k)) * x2 (ix2 k (y 1))

/-- One sub-tile's payload at an index of the output block. -/
theorem pay_tile (o g : Nat) (ho : o = g * 192)
    (i0 : ∀ a, (![0, o] : Fin 2 → Nat) a + (![1024, 384] : Fin 2 → Nat) a ≤ S1024x1536.size a)
    (i1 : ∀ a, (![0, g, 0] : Fin 3 → Nat) a + (![1, 1, 1024] : Fin 3 → Nat) a ≤ S1x8x1024.size a)
    (i2 : ∀ a, (![0, g + 1, 0] : Fin 3 → Nat) a + (![1, 1, 1024] : Fin 3 → Nat) a ≤ S1x8x1024.size a)
    (i3 : ∀ a, (![o, 0] : Fin 2 → Nat) a + (![384, 2304] : Fin 2 → Nat) a ≤ S1536x2304.size a)
    (x0 : Vec Ideal S1024x1536 .fp8e5m2) (x1 : Vec Ideal S1x8x1024 .f32) (x2 : Vec Ideal S1024x2304 .fp8e4m3)
    (acc : Vec Ideal S1536x2304 .f32) (i : (Rect.unit (s := S1536x2304) ![o, 0] ![384, 2304] i3).shape.Idx) :
    k0_pay3 (View.ld x0 (Rect.unit (s := S1024x1536) ![0, o] ![1024, 384] i0)) (View.ld x1 (Rect.unit (s := S1x8x1024) ![0, g, 0] ![1, 1, 1024] i1))
      (View.ld x1 (Rect.unit (s := S1x8x1024) ![0, g + 1, 0] ![1, 1, 1024] i2)) (View.ld acc (Rect.unit (s := S1536x2304) ![o, 0] ![384, 2304] i3)) x2 i
      = acc ((Rect.unit (s := S1536x2304) ![o, 0] ![384, 2304] i3).emb i) + part x0 x1 x2 ((Rect.unit (s := S1536x2304) ![o, 0] ![384, 2304] i3).emb i) := by
  unfold k0_pay3 part
  have hi : (i 0).val < 384 := (i 0).isLt
  have e0 : (((Rect.unit (s := S1536x2304) ![o, 0] ![384, 2304] i3).emb i) 0).val = o + (i 0).val := Rect.idx_unit_val _ _ i3 i 0
  have e1 : (((Rect.unit (s := S1536x2304) ![o, 0] ![384, 2304] i3).emb i) 1).val = 0 + (i 1).val := Rect.idx_unit_val _ _ i3 i 1
  generalize (Rect.unit (s := S1536x2304) ![o, 0] ![384, 2304] i3).emb i = y at e0 e1 ⊢
  pointwise
  refine congrArg₂ _ ?_ (Finset.sum_congr rfl fun k _ => ?_)
  · exact congrArg acc (funext fun a => Fin.ext (by fin_cases a; exacts [e0.symm, (e1.trans (Nat.zero_add _)).symm]))
  · have hh : x2 (ix2 k (i 1)) = x2 (ix2 k (y 1)) := congrArg x2 (by congr 1; exact Fin.ext (by omega))
    refine congrArg₂ _ ?_ hh
    split
    · refine congrArg₂ _ (congrArg x0 ?_) (congrArg x1 ?_)
      · congr 1; exact Fin.ext (by dsimp only; omega)
      · congr 1; exact Fin.ext (by dsimp only; omega)
    · refine congrArg₂ _ (congrArg x0 ?_) (congrArg x1 ?_)
      · congr 1; exact Fin.ext (by dsimp only; omega)
      · congr 1; exact Fin.ext (by dsimp only; omega)

variable (m : (ℓ : Loc nD τ sig) → Buf (Elt Ideal) ℓ)

theorem outA (c : Dev nD) (t : Fin cfg0.N) (h0 : t.val % 12 = 0) (y : S1536x2304.Idx) :
    outsAt0 m c t.val t.isLt y = 0 + part (iblk m c 0 t) (iblk m c 1 t) (iblk m c 2 t) y := by
  rw [outsAt0_A m c t h0]
  frame_open
  simp (disch := decide) only [↓ View.readCov_skip, ↓ View.readCov_cons_toLoadRect, ↓ View.readCov_fill]
  frame_out
  refine (View.canon_append_of_piecesOf (fun y => k0_pay2 (F := Ideal) y + part (iblk m c 0 t) (iblk m c 1 t) (iblk m c 2 t) y) [_] [_, _, _, _] ⟨?_, ?_, ?_, ?_, trivial⟩ y ?_).trans ?_
  · exact fun x => pay_tile 1152 6 rfl _ _ _ _ _ _ _ _ x
  · exact fun x => pay_tile 768 4 rfl _ _ _ _ _ _ _ _ x
  · exact fun x => pay_tile 384 2 rfl _ _ _ _ _ _ _ _ x
  · exact fun x => pay_tile 0 0 rfl _ _ _ _ _ _ _ _ x
  · exact View.cover_of_tiledL (s := S1536x2304) _ S384x2304.size (by sl_kernel_rfl) y
  · unfold k0_pay2; pointwise

theorem outB (c : Dev nD) (t : Fin cfg0.N) (h0 : ¬t.val % 12 = 0) (y : S1536x2304.Idx) :
    outsAt0 m c t.val t.isLt y = outsAt0 m c (t.val - 1) (Nat.lt_of_le_of_lt (Nat.sub_le _ _) t.isLt) y + part (iblk m c 0 t) (iblk m c 1 t) (iblk m c 2 t) y := by
  rw [outsAt0_B m c t h0]
  frame_out
  refine (View.canon_append_of_piecesOf (fun y => outsAt0 m c (t.val - 1) _ y + part (iblk m c 0 t) (iblk m c 1 t) (iblk m c 2 t) y) [] [_, _, _, _] ⟨?_, ?_, ?_, ?_, trivial⟩ y ?_)
  · exact fun x => pay_tile 1152 6 rfl _ _ _ _ _ _ _ _ x
  · exact fun x => pay_tile 768 4 rfl _ _ _ _ _ _ _ _ x
  · exact fun x => pay_tile 384 2 rfl _ _ _ _ _ _ _ _ x
  · exact fun x => pay_tile 0 0 rfl _ _ _ _ _ _ _ _ x
  · exact View.cover_of_tiledL (s := S1536x2304) _ S384x2304.size (by sl_kernel_rfl) y

/-- The windows' block indices at a point. -/
theorem idx (t : Fin cfg0.N) : win0_0.index t = ![t.val % 12, t.val / 12] ∧ win0_1.index t = ![t.val / 12, 0, t.val % 12]
    ∧ win0_2.index t = ![t.val % 12, 0] ∧ win0_3.index t = ![t.val / 12, 0] := by
  revert t; decide +kernel

/-- The four arguments, as plain arrays. -/
abbrev A0 (c : Dev nD) : Vec Ideal S12288x24576 .fp8e5m2 := m ((c : Thread nD τ).loc main_arg0)
abbrev A1 (c : Dev nD) : Vec Ideal S12288x128 .f32 := m ((c : Thread nD τ).loc main_arg1)
abbrev A2 (c : Dev nD) : Vec Ideal S12288x2304 .fp8e4m3 := m ((c : Thread nD τ).loc main_arg2)
abbrev A3 (c : Dev nD) : Vec Ideal S12288 .f32 := m ((c : Thread nD τ).loc main_arg3)

/-- The scale array the host hands the call: token scale times group scale, transposed and cut into vocabulary tiles. -/
theorem cs_read (c : Dev nD) (g : S16x8x12288.Idx) (hg : (g 0).val * 8 + (g 1).val < 128) :
    (V m c main_v4 : Vec Ideal S16x8x12288 .f32) g = (A1 m c (ix2 (g 2) ⟨(g 0).val * 8 + (g 1).val, hg⟩) * A3 m c (ix1 (g 2)) : Ideal .f32) := by
  entry_read
  pointwise

/-- The gradient as one sum over all tokens. -/
def dW (codes : Vec Ideal S12288x24576 .fp8e5m2) (gs : Vec Ideal S12288x128 .f32) (h : Vec Ideal S12288x2304 .fp8e4m3) (hs : Vec Ideal S12288 .f32) :
    Vec Ideal S24576x2304 .f32 := fun i =>
  ∑ k : Fin 12288, (codes (ix2 k (i 0)) * (gs (ix2 k ⟨(i 0).val / 192, Nat.div_lt_of_lt_mul (i 0).isLt⟩) * hs (ix1 k))) * h (ix2 k (i 1))

theorem final (c : Dev nD) : (dats m 0 c).arrAt 3 cfg0.N = dW (A0 m c) (A1 m c) (A2 m c) (A3 m c) := by
  refine (dats m 0 c).arrAt_eq_of_covers 3 _ (by decide +kernel) fun t hf y => ?_
  blk_simp
  rw [after0_3]
  rw [Pipeline.eq_sum_fin_of_reset_step_apply_of_flush (fun n h => outsAt0 m c n h) 12 (fun _ => 0) _ (fun t h j => outA m c t h j) (fun t h j => outB m c t h j) t ((flush0_3 t).mp hf) y]
  unfold part dW
  rw [zero_add]
  have ht : t.val % 12 = 11 := (flush0_3 t).mp hf
  have hN : t.val < 192 := lt_of_lt_of_eq t.isLt (show cfg0.N = 192 from N_0)
  have e0 : (((win0_3.blk t).view.emb y) 0).val = t.val / 12 * 1536 + (y 0).val := by
    blk_simp [(idx t).2.2.2]
  have e1 : (((win0_3.blk t).view.emb y) 1).val = (y 1).val := by
    blk_simp [(idx t).2.2.2]
  generalize (win0_3.blk t).view.emb y = z at e0 e1 ⊢
  refine Fin.sum_mul_add_congr fun s k hl => ?_
  have hs : s.val < 12 := s.isLt
  have hy : (y 0).val < 1536 := (y 0).isLt
  refine congrArg₂ _ (congrArg₂ _ ?_ ?_) ?_
  · blk_ext [iblk, V, (idx _).1]
  · have hb : iblk m c 1 ⟨12 * (t.val / 12) + s.val, by rw [show cfg0.N = 192 from N_0]; omega⟩ (ix3 0 ⟨(y 0).val / 192, Nat.div_lt_of_lt_mul (y 0).isLt⟩ k)
        = V m c main_v4 (ix3 ⟨t.val / 12, by omega⟩ ⟨(y 0).val / 192, by omega⟩ ⟨s.val * 1024 + k.val, hl⟩) := by
      blk_ext [iblk, (idx _).2.1]
    refine hb.trans ((cs_read m c _ (by show t.val / 12 * 8 + (y 0).val / 192 < 128; omega)).trans ?_)
    refine congrArg₂ _ (congrArg _ ?_) (congrArg _ ?_)
    · congr 1; exact Fin.ext (by show t.val / 12 * 8 + (y 0).val / 192 = (z 0).val / 192; omega)
    · rfl
  · blk_ext [iblk, V, (idx _).2.2.1]

end Cert.DwIdeal.Value
-- ==== Proof.DwRef.lean ====
module

public import proofs.«01_k».proof.Proof.Gen.DwRefIdeal.Read
public import Idealize.ShloMosaic.Lib.Pipeline.ValueKit
public import Idealize.ShloMosaic.Lib.Pointwise

@[expose] public section
noncomputable section
namespace Cert.DwRefIdeal.Value
open Cert.DwRefIdeal Cert.DwRefIdeal.Gen Idealize.ShloMosaic Idealize.ShloMosaic.TcCoe Idealize.SL.Sem

variable (m : (ℓ : Loc nD τ sig) → Buf (Elt Ideal) ℓ)

/-- The four arguments, as plain arrays. -/
abbrev A0 (c : Dev nD) : Vec Ideal S12288x24576 .fp8e5m2 := m ((c : Thread nD τ).loc main_arg0)
abbrev A1 (c : Dev nD) : Vec Ideal S12288x128 .f32 := m ((c : Thread nD τ).loc main_arg1)
abbrev A2 (c : Dev nD) : Vec Ideal S12288x2304 .fp8e4m3 := m ((c : Thread nD τ).loc main_arg2)
abbrev A3 (c : Dev nD) : Vec Ideal S12288 .f32 := m ((c : Thread nD τ).loc main_arg3)

/-- The one point's blocks are the whole arrays. -/
theorem idx (t : Fin cfg0.N) : win0_0.index t = ![0, 0] ∧ win0_1.index t = ![0, 0] ∧ win0_2.index t = ![0, 0] ∧ win0_3.index t = ![0, 0] := by
  revert t; decide +kernel

/-- The decoded gradient codes are the codes, read as numbers. -/
theorem reg0 (c : Dev nD) : (reg_main_v0_0 m c : Vec Ideal S12288x24576 .bf16) = fun i => A0 m c i := by
  unfold reg_main_v0_0
  refine (dats m 0 c).arrAt_eq_of_covers 2 _ (by decide +kernel) fun t hf y => ?_
  blk_simp
  rw [after0_2]
  frame_out
  unfold k0_pay1
  pointwise
  blk_ext [iblk, V, (idx t).1, (idx t).2.1, (idx t).2.2.1, (idx t).2.2.2]

/-- The decoded hidden codes are the codes, read as numbers. -/
theorem reg1 (c : Dev nD) : (reg_main_v0_1 m c : Vec Ideal S12288x2304 .bf16) = fun i => A2 m c i := by
  unfold reg_main_v0_1
  refine (dats m 0 c).arrAt_eq_of_covers 3 _ (by decide +kernel) fun t hf y => ?_
  blk_simp
  rw [after0_3]
  frame_out
  unfold k0_pay2
  pointwise
  blk_ext [iblk, V, (idx t).1, (idx t).2.1, (idx t).2.2.1, (idx t).2.2.2]

/-- The reference's result: every code times its group's scale, every hidden code times its token's scale, summed over the tokens. -/
def dWref (codes : Vec Ideal S12288x24576 .fp8e5m2) (gs : Vec Ideal S12288x128 .f32) (h : Vec Ideal S12288x2304 .fp8e4m3) (hs : Vec Ideal S12288 .f32) :
    Vec Ideal S24576x2304 .f32 := fun i =>
  ∑ k : Fin 12288, (codes (ix2 k (i 0)) * gs (ix2 k ⟨(i 0).val / 192, Nat.div_lt_of_lt_mul (i 0).isLt⟩)) * (h (ix2 k (i 1)) * hs (ix1 k))

theorem ref_read (c : Dev nD) : Read.val_main_v11 (F := Ideal) (A1 m c) (A3 m c) (reg_main_v0_0 m c) (reg_main_v0_1 m c)
    = dWref (A0 m c) (A1 m c) (A2 m c) (A3 m c) := by
  rw [reg0, reg1]
  funext i
  rw [Read.val_main_v11_apply]
  unfold dWref
  refine Finset.sum_congr rfl fun k _ => ?_
  rw [Read.val_main_v6_apply, Read.val_main_v5_apply, Read.val_main_v1_apply, Read.val_main_v4_apply, Read.val_main_v3_apply, Read.val_main_v2_apply,
    Read.val_main_v10_apply, Read.val_main_v9_apply, Read.val_main_v8_apply, Read.val_main_v7_apply]
  pointwise
  have h0 : (i 0).val < 24576 := (i 0).isLt
  refine congrArg₂ _ (congrArg₂ _ (congrArg _ ?_) (congrArg _ ?_)) (congrArg₂ _ (congrArg _ ?_) (congrArg _ ?_))
  · funext a
    refine Fin.ext ?_
    have hk : k.val < 12288 := k.isLt
    match a with
    | ⟨0, _⟩ => show (((k.val * 24576 + (i 0).val) / 24576 * 128 + (k.val * 24576 + (i 0).val) / 192 % 128) * 192 + (k.val * 24576 + (i 0).val) % 192) / 24576 = k.val; omega
    | ⟨1, _⟩ => show (((k.val * 24576 + (i 0).val) / 24576 * 128 + (k.val * 24576 + (i 0).val) / 192 % 128) * 192 + (k.val * 24576 + (i 0).val) % 192) % 24576 = (i 0).val; omega
  · funext a
    refine Fin.ext ?_
    match a with
    | ⟨0, _⟩ => show (k.val * 24576 + (i 0).val) / 24576 = k.val; omega
    | ⟨1, _⟩ => show (k.val * 24576 + (i 0).val) / 192 % 128 = (i 0).val / 192; omega
  · funext a
    match a with
    | ⟨0, _⟩ => rfl
    | ⟨1, _⟩ => rfl
  · funext a
    match a with
    | ⟨0, _⟩ => rfl

end Cert.DwRefIdeal.Value
-- ==== Proof.FwdBase.lean ====
module

public import proofs.«01_k».proof.Proof.Gen.FwdIdeal.Value
public import Idealize.ShloMosaic.Lib.Pipeline.ValueKit
public import Idealize.ShloMosaic.Lib.Pipeline.ReadBack
public import Idealize.ShloMosaic.Lib.Pointwise

@[expose] public section
noncomputable section
namespace Cert.FwdIdeal.Value
open Cert.FwdIdeal Cert.FwdIdeal.Gen Idealize.ShloMosaic Idealize.ShloMosaic.TcCoe Idealize.SL.Sem

/-- The two named constants, and the literal 1/30 both programs share. -/
abbrev CL : Ideal .f32 := Named.named (F := Ideal) κ "cap_log2e" (φ := .f32) 0x422D1F97#32
abbrev L2 : Ideal .f32 := Named.named (F := Ideal) κ "log2e" (φ := .f32) 0x3FB8AA3B#32
abbrev IC : Ideal .f32 := Ideal.ofBits .f32 0x3D088889#32

/-- The capped logit (before the factor 30) that a grid point leaves at `y` of its block. -/
def tv (x0 : Vec Ideal S1024x2304 .fp8e4m3) (x1 : Vec Ideal S1024x128 .f32) (x2 : Vec Ideal S3072x2304 .fp8e4m3) (x3 : Vec Ideal S1x3072 .f32)
    (y : S1024x3072.Idx) : Ideal .f32 :=
  Ideal.tanh ((∑ k : Fin 2304, x0 (ix2 (y 0) k) * x2 (ix2 (y 1) k)) * x1 (ix2 (y 0) ⟨(y 1).val % 128, Nat.mod_lt _ (by decide)⟩) * (x3 (ix2 0 (y 1)) * IC))

/-- The term a grid point adds to the running sum of lane `y 1` for its lane group `j`. -/
def ev (x0 : Vec Ideal S1024x2304 .fp8e4m3) (x1 : Vec Ideal S1024x128 .f32) (x2 : Vec Ideal S3072x2304 .fp8e4m3) (x3 : Vec Ideal S1x3072 .f32)
    (y : S1024x128.Idx) (j : Fin 24) : Ideal .f32 :=
  FloatOps.exp2 (F := Ideal) (φ := .f32) (tv x0 x1 x2 x3 (ix2 (y 0) ⟨j.val * 128 + (y 1).val, by have : (y 1).val < 128 := (y 1).isLt; omega⟩) * CL - CL)

/-- The left half of a sub-tile. -/
theorem pay_even (o r : Nat) (hr : r % 128 = 0)
    (i0 : ∀ a, (![o, 0] : Fin 2 → Nat) a + (![512, 2304] : Fin 2 → Nat) a ≤ S1024x2304.size a)
    (i1 : ∀ a, (![o, 0] : Fin 2 → Nat) a + (![512, 128] : Fin 2 → Nat) a ≤ S1024x128.size a)
    (i2 : ∀ a, (![r, 0] : Fin 2 → Nat) a + (![256, 2304] : Fin 2 → Nat) a ≤ S3072x2304.size a)
    (i3 : ∀ a, (![0, r] : Fin 2 → Nat) a + (![1, 256] : Fin 2 → Nat) a ≤ S1x3072.size a)
    (x0 : Vec Ideal S1024x2304 .fp8e4m3) (x1 : Vec Ideal S1024x128 .f32) (x2 : Vec Ideal S3072x2304 .fp8e4m3) (x3 : Vec Ideal S1x3072 .f32)
    (i : S512x128.Idx) (y : S1024x3072.Idx) (e0 : (y 0).val = o + (i 0).val) (e1 : (y 1).val = r + (i 1).val) :
    k0_pay7 (View.ld x0 (Rect.unit (s := S1024x2304) ![o, 0] ![512, 2304] i0)) (View.ld x2 (Rect.unit (s := S3072x2304) ![r, 0] ![256, 2304] i2))
      (View.ld x3 (Rect.unit (s := S1x3072) ![0, r] ![1, 256] i3)) (View.ld x1 (Rect.unit (s := S1024x128) ![o, 0] ![512, 128] i1)) i = tv x0 x1 x2 x3 y := by
  unfold k0_pay7 k0_pay6 k0_pay5 k0_pay4 tv
  have hi : (i 0).val < 512 := (i 0).isLt
  have hj : (i 1).val < 128 := (i 1).isLt
  pointwise
  refine congrArg _ (congrArg₂ _ (congrArg₂ _ (Finset.sum_congr rfl fun k _ => congrArg₂ _ (congrArg x0 ?_) (congrArg x2 ?_)) (congrArg x1 ?_)) (congrArg (· * _) (congrArg x3 ?_)))
  all_goals refine funext fun a => Fin.ext ?_
  all_goals fin_cases a <;> dsimp <;> omega

/-- The right half. -/
theorem pay_odd (o r : Nat) (hr : r % 128 = 0)
    (i0 : ∀ a, (![o, 0] : Fin 2 → Nat) a + (![512, 2304] : Fin 2 → Nat) a ≤ S1024x2304.size a)
    (i1 : ∀ a, (![o, 0] : Fin 2 → Nat) a + (![512, 128] : Fin 2 → Nat) a ≤ S1024x128.size a)
    (i2 : ∀ a, (![r, 0] : Fin 2 → Nat) a + (![256, 2304] : Fin 2 → Nat) a ≤ S3072x2304.size a)
    (i3 : ∀ a, (![0, r] : Fin 2 → Nat) a + (![1, 256] : Fin 2 → Nat) a ≤ S1x3072.size a)
    (x0 : Vec Ideal S1024x2304 .fp8e4m3) (x1 : Vec Ideal S1024x128 .f32) (x2 : Vec Ideal S3072x2304 .fp8e4m3) (x3 : Vec Ideal S1x3072 .f32)
    (i : S512x128.Idx) (y : S1024x3072.Idx) (e0 : (y 0).val = o + (i 0).val) (e1 : (y 1).val = r + 128 + (i 1).val) :
    k0_pay9 (View.ld x0 (Rect.unit (s := S1024x2304) ![o, 0] ![512, 2304] i0)) (View.ld x2 (Rect.unit (s := S3072x2304) ![r, 0] ![256, 2304] i2))
      (View.ld x3 (Rect.unit (s := S1x3072) ![0, r] ![1, 256] i3)) (View.ld x1 (Rect.unit (s := S1024x128) ![o, 0] ![512, 128] i1)) i = tv x0 x1 x2 x3 y := by
  unfold k0_pay9 k0_pay6 k0_pay5 k0_pay4 tv
  have hi : (i 0).val < 512 := (i 0).isLt
  have hj : (i 1).val < 128 := (i 1).isLt
  pointwise
  refine congrArg _ (congrArg₂ _ (congrArg₂ _ (Finset.sum_congr rfl fun k _ => congrArg₂ _ (congrArg x0 ?_) (congrArg x2 ?_)) (congrArg x1 ?_)) (congrArg (· * _) (congrArg x3 ?_)))
  all_goals refine funext fun a => Fin.ext ?_
  all_goals fin_cases a <;> dsimp <;> omega

/-- The left half as a stored piece. -/
theorem tile_even (o r p : Nat) (hr : r % 128 = 0) (hp : p = r)
    (i0 : ∀ a, (![o, 0] : Fin 2 → Nat) a + (![512, 2304] : Fin 2 → Nat) a ≤ S1024x2304.size a)
    (i1 : ∀ a, (![o, 0] : Fin 2 → Nat) a + (![512, 128] : Fin 2 → Nat) a ≤ S1024x128.size a)
    (i2 : ∀ a, (![r, 0] : Fin 2 → Nat) a + (![256, 2304] : Fin 2 → Nat) a ≤ S3072x2304.size a)
    (i3 : ∀ a, (![0, r] : Fin 2 → Nat) a + (![1, 256] : Fin 2 → Nat) a ≤ S1x3072.size a)
    (i4 : ∀ a, (![o, p] : Fin 2 → Nat) a + (![512, 128] : Fin 2 → Nat) a ≤ S1024x3072.size a)
    (x0 : Vec Ideal S1024x2304 .fp8e4m3) (x1 : Vec Ideal S1024x128 .f32) (x2 : Vec Ideal S3072x2304 .fp8e4m3) (x3 : Vec Ideal S1x3072 .f32)
    (i : (Rect.unit (s := S1024x3072) ![o, p] ![512, 128] i4).shape.Idx) :
    k0_pay7 (View.ld x0 (Rect.unit (s := S1024x2304) ![o, 0] ![512, 2304] i0)) (View.ld x2 (Rect.unit (s := S3072x2304) ![r, 0] ![256, 2304] i2))
      (View.ld x3 (Rect.unit (s := S1x3072) ![0, r] ![1, 256] i3)) (View.ld x1 (Rect.unit (s := S1024x128) ![o, 0] ![512, 128] i1)) i
      = tv x0 x1 x2 x3 ((Rect.unit (s := S1024x3072) ![o, p] ![512, 128] i4).emb i) := by
  have e0 : (((Rect.unit (s := S1024x3072) ![o, p] ![512, 128] i4).emb i) 0).val = o + (i 0).val := Rect.idx_unit_val _ _ i4 i 0
  have e1 : (((Rect.unit (s := S1024x3072) ![o, p] ![512, 128] i4).emb i) 1).val = p + (i 1).val := Rect.idx_unit_val _ _ i4 i 1
  exact pay_even o r hr i0 i1 i2 i3 x0 x1 x2 x3 i _ e0 (e1.trans (congrArg (· + (i 1).val) hp))

/-- The right half as a stored piece. -/
theorem tile_odd (o r p : Nat) (hr : r % 128 = 0) (hp : p = r + 128)
    (i0 : ∀ a, (![o, 0] : Fin 2 → Nat) a + (![512, 2304] : Fin 2 → Nat) a ≤ S1024x2304.size a)
    (i1 : ∀ a, (![o, 0] : Fin 2 → Nat) a + (![512, 128] : Fin 2 → Nat) a ≤ S1024x128.size a)
    (i2 : ∀ a, (![r, 0] : Fin 2 → Nat) a + (![256, 2304] : Fin 2 → Nat) a ≤ S3072x2304.size a)
    (i3 : ∀ a, (![0, r] : Fin 2 → Nat) a + (![1, 256] : Fin 2 → Nat) a ≤ S1x3072.size a)
    (i4 : ∀ a, (![o, p] : Fin 2 → Nat) a + (![512, 128] : Fin 2 → Nat) a ≤ S1024x3072.size a)
    (x0 : Vec Ideal S1024x2304 .fp8e4m3) (x1 : Vec Ideal S1024x128 .f32) (x2 : Vec Ideal S3072x2304 .fp8e4m3) (x3 : Vec Ideal S1x3072 .f32)
    (i : (Rect.unit (s := S1024x3072) ![o, p] ![512, 128] i4).shape.Idx) :
    k0_pay9 (View.ld x0 (Rect.unit (s := S1024x2304) ![o, 0] ![512, 2304] i0)) (View.ld x2 (Rect.unit (s := S3072x2304) ![r, 0] ![256, 2304] i2))
      (View.ld x3 (Rect.unit (s := S1x3072) ![0, r] ![1, 256] i3)) (View.ld x1 (Rect.unit (s := S1024x128) ![o, 0] ![512, 128] i1)) i
      = tv x0 x1 x2 x3 ((Rect.unit (s := S1024x3072) ![o, p] ![512, 128] i4).emb i) := by
  have e0 : (((Rect.unit (s := S1024x3072) ![o, p] ![512, 128] i4).emb i) 0).val = o + (i 0).val := Rect.idx_unit_val _ _ i4 i 0
  have e1 : (((Rect.unit (s := S1024x3072) ![o, p] ![512, 128] i4).emb i) 1).val = p + (i 1).val := Rect.idx_unit_val _ _ i4 i 1
  exact pay_odd o r hr i0 i1 i2 i3 x0 x1 x2 x3 i _ e0 (e1.trans (congrArg (· + (i 1).val) hp))

/-- One read-modify-write of the running sums: both halves' terms are added. -/
theorem pay_sum (o r q : Nat) (hr : r = q * 256) (hq : q < 12)
    (i0 : ∀ a, (![o, 0] : Fin 2 → Nat) a + (![512, 2304] : Fin 2 → Nat) a ≤ S1024x2304.size a)
    (i1 : ∀ a, (![o, 0] : Fin 2 → Nat) a + (![512, 128] : Fin 2 → Nat) a ≤ S1024x128.size a)
    (i2 : ∀ a, (![r, 0] : Fin 2 → Nat) a + (![256, 2304] : Fin 2 → Nat) a ≤ S3072x2304.size a)
    (i3 : ∀ a, (![0, r] : Fin 2 → Nat) a + (![1, 256] : Fin 2 → Nat) a ≤ S1x3072.size a)
    (x0 : Vec Ideal S1024x2304 .fp8e4m3) (x1 : Vec Ideal S1024x128 .f32) (x2 : Vec Ideal S3072x2304 .fp8e4m3) (x3 : Vec Ideal S1x3072 .f32)
    (i : S512x128.Idx) (y : S1024x128.Idx) (e0 : (y 0).val = o + (i 0).val) (e1 : (y 1).val = (i 1).val) (acc : Vec Ideal S512x128 .f32) :
    k0_pay11 (k0_pay8 (View.ld x0 (Rect.unit (s := S1024x2304) ![o, 0] ![512, 2304] i0)) (View.ld x2 (Rect.unit (s := S3072x2304) ![r, 0] ![256, 2304] i2))
        (View.ld x3 (Rect.unit (s := S1x3072) ![0, r] ![1, 256] i3)) (View.ld x1 (Rect.unit (s := S1024x128) ![o, 0] ![512, 128] i1)))
      (k0_pay10 (View.ld x0 (Rect.unit (s := S1024x2304) ![o, 0] ![512, 2304] i0)) (View.ld x2 (Rect.unit (s := S3072x2304) ![r, 0] ![256, 2304] i2))
        (View.ld x3 (Rect.unit (s := S1x3072) ![0, r] ![1, 256] i3)) (View.ld x1 (Rect.unit (s := S1024x128) ![o, 0] ![512, 128] i1))) acc i
      = acc i + (ev x0 x1 x2 x3 y ⟨2 * q, by omega⟩ + ev x0 x1 x2 x3 y ⟨2 * q + 1, by omega⟩) := by
  unfold k0_pay11 k0_pay8 k0_pay10 ev
  have hj : (i 1).val < 128 := (i 1).isLt
  pointwise
  rw [pay_even o r (by omega) i0 i1 i2 i3 x0 x1 x2 x3 i (ix2 (y 0) ⟨2 * q * 128 + (y 1).val, by omega⟩) e0 (by dsimp; omega),
    pay_odd o r (by omega) i0 i1 i2 i3 x0 x1 x2 x3 i (ix2 (y 0) ⟨(2 * q + 1) * 128 + (y 1).val, by omega⟩) e0 (by dsimp; omega)]

/-- Twelve pairs added one after the other are one sum over the 24 lane groups. -/
theorem sum24 (a : EReal) (f : Fin 24 → EReal) :
    a + (f 0 + f 1) + (f 2 + f 3) + (f 4 + f 5) + (f 6 + f 7) + (f 8 + f 9) + (f 10 + f 11) + (f 12 + f 13) + (f 14 + f 15) + (f 16 + f 17) + (f 18 + f 19)
      + (f 20 + f 21) + (f 22 + f 23) = a + ∑ j, f j := by
  simp only [Fin.sum_univ_succ, Fin.sum_univ_zero, add_zero, add_assoc]
  rfl

/-- Reading stored row halves: the last store over `y` decides, -/
theorem canon_hit (o : Nat) (inb : ∀ a, (![o, 0] : Fin 2 → Nat) a + (![512, 128] : Fin 2 → Nat) a ≤ S1024x128.size a)
    (w : S512x128.Idx → Ideal .f32) (L : List (View.Piece (Elt Ideal) S1024x128 .f32)) (y : S1024x128.Idx)
    (h0 : o ≤ (y 0).val) (h1 : (y 0).val < o + 512) (v : Ideal .f32)
    (hw : ∀ i : S512x128.Idx, (y 0).val = o + (i 0).val → (y 1).val = (i 1).val → w i = v) :
    View.canon ((⟨Rect.unit (s := S1024x128) ![o, 0] ![512, 128] inb, w⟩ : View.Piece (Elt Ideal) S1024x128 .f32) :: L) y = v := by
  have hy : y = (Rect.unit (s := S1024x128) ![o, 0] ![512, 128] inb).emb (ix2 ⟨(y 0).val - o, by omega⟩ (y 1)) := by
    refine funext fun a => Fin.ext ?_
    refine Eq.trans ?_ (Rect.idx_unit_val _ _ inb (ix2 ⟨(y 0).val - o, by omega⟩ (y 1)) a).symm
    fin_cases a
    · show (y 0).val = o + ((y 0).val - o); omega
    · show (y 1).val = 0 + (y 1).val; omega
  have := View.canon_cons_emb (Val := Elt Ideal) (Rect.unit (s := S1024x128) ![o, 0] ![512, 128] inb) w L (ix2 ⟨(y 0).val - o, by omega⟩ (y 1))
  rw [← hy] at this
  exact this.trans (hw _ (by dsimp; omega) rfl)

/-- and a store of the other half is passed over. -/
theorem canon_skip (o : Nat) (inb : ∀ a, (![o, 0] : Fin 2 → Nat) a + (![512, 128] : Fin 2 → Nat) a ≤ S1024x128.size a)
    (w : S512x128.Idx → Ideal .f32) (L : List (View.Piece (Elt Ideal) S1024x128 .f32)) (y : S1024x128.Idx)
    (h : (y 0).val < o) (v : Ideal .f32) (hL : View.canon L y = v) :
    View.canon ((⟨Rect.unit (s := S1024x128) ![o, 0] ![512, 128] inb, w⟩ : View.Piece (Elt Ideal) S1024x128 .f32) :: L) y = v := by
  refine (View.canon_cons_of_not_mem (Val := Elt Ideal) _ L ?_).trans hL
  exact Rect.not_mem_set_of_axis _ y 0 o 512 rfl rfl rfl (.inl h)

/-- The running sums a half reads are those of its rows. -/
theorem old_row (o : Nat) (inb : ∀ a, (![o, 0] : Fin 2 → Nat) a + (![512, 128] : Fin 2 → Nat) a ≤ S1024x128.size a) (x : Vec Ideal S1024x128 .f32)
    (y : S1024x128.Idx) (i : S512x128.Idx) (e0 : (y 0).val = o + (i 0).val) (e1 : (y 1).val = (i 1).val) :
    View.ld x (Rect.unit (s := S1024x128) ![o, 0] ![512, 128] inb) i = x y := by
  refine congrArg x (funext fun a => Fin.ext ((Rect.idx_unit_val _ _ inb i a).trans ?_))
  fin_cases a
  · exact e0.symm
  · exact (Nat.zero_add _).trans e1.symm

/-- Reading stored lane groups from the right: a store that reaches `y`'s column from the left of all later ones decides, -/
theorem canon_tile (o p : Nat) (inb : ∀ a, (![o, p] : Fin 2 → Nat) a + (![512, 128] : Fin 2 → Nat) a ≤ S1024x3072.size a)
    (w : S512x128.Idx → Ideal .f32) (L : List (View.Piece (Elt Ideal) S1024x3072 .f32)) (G : S1024x3072.Idx → Ideal .f32) (y : S1024x3072.Idx)
    (h0 : o ≤ (y 0).val) (h1 : (y 0).val < o + 512) (h2 : (y 1).val < p + 128)
    (hw : ∀ i : S512x128.Idx, w i = G ((Rect.unit (s := S1024x3072) ![o, p] ![512, 128] inb).emb i))
    (hL : (y 1).val < p → View.canon L y = G y) :
    View.canon ((⟨Rect.unit (s := S1024x3072) ![o, p] ![512, 128] inb, w⟩ : View.Piece (Elt Ideal) S1024x3072 .f32) :: L) y = G y := by
  by_cases h : (y 1).val < p
  · refine (View.canon_cons_of_not_mem (Val := Elt Ideal) _ L ?_).trans (hL h)
    exact Rect.not_mem_set_of_axis _ y 1 p 128 rfl rfl rfl (.inl h)
  · have hy : y = (Rect.unit (s := S1024x3072) ![o, p] ![512, 128] inb).emb (ix2 ⟨(y 0).val - o, by omega⟩ ⟨(y 1).val - p, by omega⟩) := by
      refine funext fun a => Fin.ext ?_
      refine Eq.trans ?_ (Rect.idx_unit_val _ _ inb (ix2 ⟨(y 0).val - o, by omega⟩ ⟨(y 1).val - p, by omega⟩) a).symm
      fin_cases a
      · show (y 0).val = o + ((y 0).val - o); omega
      · show (y 1).val = p + ((y 1).val - p); omega
    have := View.canon_cons_emb (Val := Elt Ideal) (Rect.unit (s := S1024x3072) ![o, p] ![512, 128] inb) w L (ix2 ⟨(y 0).val - o, by omega⟩ ⟨(y 1).val - p, by omega⟩)
    have hw' := hw (ix2 ⟨(y 0).val - o, by omega⟩ ⟨(y 1).val - p, by omega⟩)
    rw [← hy] at this hw'
    exact this.trans hw'

/-- and a store of the other half of the rows is passed over. -/
theorem canon_pass (o p : Nat) (inb : ∀ a, (![o, p] : Fin 2 → Nat) a + (![512, 128] : Fin 2 → Nat) a ≤ S1024x3072.size a)
    (w : S512x128.Idx → Ideal .f32) (L : List (View.Piece (Elt Ideal) S1024x3072 .f32)) (y : S1024x3072.Idx)
    (h : (y 0).val < o) (v : Ideal .f32) (hL : View.canon L y = v) :
    View.canon ((⟨Rect.unit (s := S1024x3072) ![o, p] ![512, 128] inb, w⟩ : View.Piece (Elt Ideal) S1024x3072 .f32) :: L) y = v := by
  refine (View.canon_cons_of_not_mem (Val := Elt Ideal) _ L ?_).trans hL
  exact Rect.not_mem_set_of_axis _ y 0 o 512 rfl rfl rfl (.inl h)

end Cert.FwdIdeal.Value
-- ==== Proof.FwdTA.lean ====
module

public import proofs.«01_k».proof.Proof.FwdBase

@[expose] public section
noncomputable section
namespace Cert.FwdIdeal.Value
open Cert.FwdIdeal Cert.FwdIdeal.Gen Idealize.ShloMosaic Idealize.ShloMosaic.TcCoe Idealize.SL.Sem

variable (m : (ℓ : Loc nD τ sig) → Buf (Elt Ideal) ℓ)

set_option maxHeartbeats 4000000 in
theorem tA (c : Dev nD) (t : Fin cfg0.N) (h0 : t.val % 8 = 0) (h1 : ¬t.val % 8 = 7) (y : S1024x3072.Idx) :
    (outsAt0 m c t.val t.isLt).1 y = tv (iblk m c 0 t) (iblk m c 1 t) (iblk m c 2 t) (iblk m c 3 t) y := by
  rw [outsAt0_A m c t h0 h1]
  dsimp only
  frame_out
  have hy0 : (y 0).val < 1024 := (y 0).isLt
  have hy : (y 1).val < 2944 + 128 := (y 1).isLt
  by_cases h : 512 ≤ (y 0).val
  · refine canon_tile 512 2944 _ _ _ (fun y => tv (iblk m c 0 t) (iblk m c 1 t) (iblk m c 2 t) (iblk m c 3 t) y) y (by omega) (by omega) hy (fun i => tile_odd 512 2816 2944 rfl rfl _ _ _ _ _ (iblk m c 0 t) (iblk m c 1 t) (iblk m c 2 t) (iblk m c 3 t) i) fun hy => ?_
    refine canon_tile 512 2816 _ _ _ (fun y => tv (iblk m c 0 t) (iblk m c 1 t) (iblk m c 2 t) (iblk m c 3 t) y) y (by omega) (by omega) hy (fun i => tile_even 512 2816 2816 rfl rfl _ _ _ _ _ (iblk m c 0 t) (iblk m c 1 t) (iblk m c 2 t) (iblk m c 3 t) i) fun hy => ?_
    refine canon_tile 512 2688 _ _ _ (fun y => tv (iblk m c 0 t) (iblk m c 1 t) (iblk m c 2 t) (iblk m c 3 t) y) y (by omega) (by omega) hy (fun i => tile_odd 512 2560 2688 rfl rfl _ _ _ _ _ (iblk m c 0 t) (iblk m c 1 t) (iblk m c 2 t) (iblk m c 3 t) i) fun hy => ?_
    refine canon_tile 512 2560 _ _ _ (fun y => tv (iblk m c 0 t) (iblk m c 1 t) (iblk m c 2 t) (iblk m c 3 t) y) y (by omega) (by omega) hy (fun i => tile_even 512 2560 2560 rfl rfl _ _ _ _ _ (iblk m c 0 t) (iblk m c 1 t) (iblk m c 2 t) (iblk m c 3 t) i) fun hy => ?_
    refine canon_tile 512 2432 _ _ _ (fun y => tv (iblk m c 0 t) (iblk m c 1 t) (iblk m c 2 t) (iblk m c 3 t) y) y (by omega) (by omega) hy (fun i => tile_odd 512 2304 2432 rfl rfl _ _ _ _ _ (iblk m c 0 t) (iblk m c 1 t) (iblk m c 2 t) (iblk m c 3 t) i) fun hy => ?_
    refine canon_tile 512 2304 _ _ _ (fun y => tv (iblk m c 0 t) (iblk m c 1 t) (iblk m c 2 t) (iblk m c 3 t) y) y (by omega) (by omega) hy (fun i => tile_even 512 2304 2304 rfl rfl _ _ _ _ _ (iblk m c 0 t) (iblk m c 1 t) (iblk m c 2 t) (iblk m c 3 t) i) fun hy => ?_
    refine canon_tile 512 2176 _ _ _ (fun y => tv (iblk m c 0 t) (iblk m c 1 t) (iblk m c 2 t) (iblk m c 3 t) y) y (by omega) (by omega) hy (fun i => tile_odd 512 2048 2176 rfl rfl _ _ _ _ _ (iblk m c 0 t) (iblk m c 1 t) (iblk m c 2 t) (iblk m c 3 t) i) fun hy => ?_
    refine canon_tile 512 2048 _ _ _ (fun y => tv (iblk m c 0 t) (iblk m c 1 t) (iblk m c 2 t) (iblk m c 3 t) y) y (by omega) (by omega) hy (fun i => tile_even 512 2048 2048 rfl rfl _ _ _ _ _ (iblk m c 0 t) (iblk m c 1 t) (iblk m c 2 t) (iblk m c 3 t) i) fun hy => ?_
    refine canon_tile 512 1920 _ _ _ (fun y => tv (iblk m c 0 t) (iblk m c 1 t) (iblk m c 2 t) (iblk m c 3 t) y) y (by omega) (by omega) hy (fun i => tile_odd 512 1792 1920 rfl rfl _ _ _ _ _ (iblk m c 0 t) (iblk m c 1 t) (iblk m c 2 t) (iblk m c 3 t) i) fun hy => ?_
    refine canon_tile 512 1792 _ _ _ (fun y => tv (iblk m c 0 t) (iblk m c 1 t) (iblk m c 2 t) (iblk m c 3 t) y) y (by omega) (by omega) hy (fun i => tile_even 512 1792 1792 rfl rfl _ _ _ _ _ (iblk m c 0 t) (iblk m c 1 t) (iblk m c 2 t) (iblk m c 3 t) i) fun hy => ?_
    refine canon_tile 512 1664 _ _ _ (fun y => tv (iblk m c 0 t) (iblk m c 1 t) (iblk m c 2 t) (iblk m c 3 t) y) y (by omega) (by omega) hy (fun i => tile_odd 512 1536 1664 rfl rfl _ _ _ _ _ (iblk m c 0 t) (iblk m c 1 t) (iblk m c 2 t) (iblk m c 3 t) i) fun hy => ?_
    refine canon_tile 512 1536 _ _ _ (fun y => tv (iblk m c 0 t) (iblk m c 1 t) (iblk m c 2 t) (iblk m c 3 t) y) y (by omega) (by omega) hy (fun i => tile_even 512 1536 1536 rfl rfl _ _ _ _ _ (iblk m c 0 t) (iblk m c 1 t) (iblk m c 2 t) (iblk m c 3 t) i) fun hy => ?_
    refine canon_tile 512 1408 _ _ _ (fun y => tv (iblk m c 0 t) (iblk m c 1 t) (iblk m c 2 t) (iblk m c 3 t) y) y (by omega) (by omega) hy (fun i => tile_odd 512 1280 1408 rfl rfl _ _ _ _ _ (iblk m c 0 t) (iblk m c 1 t) (iblk m c 2 t) (iblk m c 3 t) i) fun hy => ?_
    refine canon_tile 512 1280 _ _ _ (fun y => tv (iblk m c 0 t) (iblk m c 1 t) (iblk m c 2 t) (iblk m c 3 t) y) y (by omega) (by omega) hy (fun i => tile_even 512 1280 1280 rfl rfl _ _ _ _ _ (iblk m c 0 t) (iblk m c 1 t) (iblk m c 2 t) (iblk m c 3 t) i) fun hy => ?_
    refine canon_tile 512 1152 _ _ _ (fun y => tv (iblk m c 0 t) (iblk m c 1 t) (iblk m c 2 t) (iblk m c 3 t) y) y (by omega) (by omega) hy (fun i => tile_odd 512 1024 1152 rfl rfl _ _ _ _ _ (iblk m c 0 t) (iblk m c 1 t) (iblk m c 2 t) (iblk m c 3 t) i) fun hy => ?_
    refine canon_tile 512 1024 _ _ _ (fun y => tv (iblk m c 0 t) (iblk m c 1 t) (iblk m c 2 t) (iblk m c 3 t) y) y (by omega) (by omega) hy (fun i => tile_even 512 1024 1024 rfl rfl _ _ _ _ _ (iblk m c 0 t) (iblk m c 1 t) (iblk m c 2 t) (iblk m c 3 t) i) fun hy => ?_
    refine canon_tile 512 896 _ _ _ (fun y => tv (iblk m c 0 t) (iblk m c 1 t) (iblk m c 2 t) (iblk m c 3 t) y) y (by omega) (by omega) hy (fun i => tile_odd 512 768 896 rfl rfl _ _ _ _ _ (iblk m c 0 t) (iblk m c 1 t) (iblk m c 2 t) (iblk m c 3 t) i) fun hy => ?_
    refine canon_tile 512 768 _ _ _ (fun y => tv (iblk m c 0 t) (iblk m c 1 t) (iblk m c 2 t) (iblk m c 3 t) y) y (by omega) (by omega) hy (fun i => tile_even 512 768 768 rfl rfl _ _ _ _ _ (iblk m c 0 t) (iblk m c 1 t) (iblk m c 2 t) (iblk m c 3 t) i) fun hy => ?_
    refine canon_tile 512 640 _ _ _ (fun y => tv (iblk m c 0 t) (iblk m c 1 t) (iblk m c 2 t) (iblk m c 3 t) y) y (by omega) (by omega) hy (fun i => tile_odd 512 512 640 rfl rfl _ _ _ _ _ (iblk m c 0 t) (iblk m c 1 t) (iblk m c 2 t) (iblk m c 3 t) i) fun hy => ?_
    refine canon_tile 512 512 _ _ _ (fun y => tv (iblk m c 0 t) (iblk m c 1 t) (iblk m c 2 t) (iblk m c 3 t) y) y (by omega) (by omega) hy (fun i => tile_even 512 512 512 rfl rfl _ _ _ _ _ (iblk m c 0 t) (iblk m c 1 t) (iblk m c 2 t) (iblk m c 3 t) i) fun hy => ?_
    refine canon_tile 512 384 _ _ _ (fun y => tv (iblk m c 0 t) (iblk m c 1 t) (iblk m c 2 t) (iblk m c 3 t) y) y (by omega) (by omega) hy (fun i => tile_odd 512 256 384 rfl rfl _ _ _ _ _ (iblk m c 0 t) (iblk m c 1 t) (iblk m c 2 t) (iblk m c 3 t) i) fun hy => ?_
    refine canon_tile 512 256 _ _ _ (fun y => tv (iblk m c 0 t) (iblk m c 1 t) (iblk m c 2 t) (iblk m c 3 t) y) y (by omega) (by omega) hy (fun i => tile_even 512 256 256 rfl rfl _ _ _ _ _ (iblk m c 0 t) (iblk m c 1 t) (iblk m c 2 t) (iblk m c 3 t) i) fun hy => ?_
    refine canon_tile 512 128 _ _ _ (fun y => tv (iblk m c 0 t) (iblk m c 1 t) (iblk m c 2 t) (iblk m c 3 t) y) y (by omega) (by omega) hy (fun i => tile_odd 512 0 128 rfl rfl _ _ _ _ _ (iblk m c 0 t) (iblk m c 1 t) (iblk m c 2 t) (iblk m c 3 t) i) fun hy => ?_
    refine canon_tile 512 0 _ _ _ (fun y => tv (iblk m c 0 t) (iblk m c 1 t) (iblk m c 2 t) (iblk m c 3 t) y) y (by omega) (by omega) hy (fun i => tile_even 512 0 0 rfl rfl _ _ _ _ _ (iblk m c 0 t) (iblk m c 1 t) (iblk m c 2 t) (iblk m c 3 t) i) fun hy => ?_
    exact absurd hy (Nat.not_lt_zero _)
  · iterate 24 refine canon_pass 512 _ _ _ _ y (by omega) _ ?_
    refine canon_tile 0 2944 _ _ _ (fun y => tv (iblk m c 0 t) (iblk m c 1 t) (iblk m c 2 t) (iblk m c 3 t) y) y (by omega) (by omega) hy (fun i => tile_odd 0 2816 2944 rfl rfl _ _ _ _ _ (iblk m c 0 t) (iblk m c 1 t) (iblk m c 2 t) (iblk m c 3 t) i) fun hy => ?_
    refine canon_tile 0 2816 _ _ _ (fun y => tv (iblk m c 0 t) (iblk m c 1 t) (iblk m c 2 t) (iblk m c 3 t) y) y (by omega) (by omega) hy (fun i => tile_even 0 2816 2816 rfl rfl _ _ _ _ _ (iblk m c 0 t) (iblk m c 1 t) (iblk m c 2 t) (iblk m c 3 t) i) fun hy => ?_
    refine canon_tile 0 2688 _ _ _ (fun y => tv (iblk m c 0 t) (iblk m c 1 t) (iblk m c 2 t) (iblk m c 3 t) y) y (by omega) (by omega) hy (fun i => tile_odd 0 2560 2688 rfl rfl _ _ _ _ _ (iblk m c 0 t) (iblk m c 1 t) (iblk m c 2 t) (iblk m c 3 t) i) fun hy => ?_
    refine canon_tile 0 2560 _ _ _ (fun y => tv (iblk m c 0 t) (iblk m c 1 t) (iblk m c 2 t) (iblk m c 3 t) y) y (by omega) (by omega) hy (fun i => tile_even 0 2560 2560 rfl rfl _ _ _ _ _ (iblk m c 0 t) (iblk m c 1 t) (iblk m c 2 t) (iblk m c 3 t) i) fun hy => ?_
    refine canon_tile 0 2432 _ _ _ (fun y => tv (iblk m c 0 t) (iblk m c 1 t) (iblk m c 2 t) (iblk m c 3 t) y) y (by omega) (by omega) hy (fun i => tile_odd 0 2304 2432 rfl rfl _ _ _ _ _ (iblk m c 0 t) (iblk m c 1 t) (iblk m c 2 t) (iblk m c 3 t) i) fun hy => ?_
    refine canon_tile 0 2304 _ _ _ (fun y => tv (iblk m c 0 t) (iblk m c 1 t) (iblk m c 2 t) (iblk m c 3 t) y) y (by omega) (by omega) hy (fun i => tile_even 0 2304 2304 rfl rfl _ _ _ _ _ (iblk m c 0 t) (iblk m c 1 t) (iblk m c 2 t) (iblk m c 3 t) i) fun hy => ?_
    refine canon_tile 0 2176 _ _ _ (fun y => tv (iblk m c 0 t) (iblk m c 1 t) (iblk m c 2 t) (iblk m c 3 t) y) y (by omega) (by omega) hy (fun i => tile_odd 0 2048 2176 rfl rfl _ _ _ _ _ (iblk m c 0 t) (iblk m c 1 t) (iblk m c 2 t) (iblk m c 3 t) i) fun hy => ?_
    refine canon_tile 0 2048 _ _ _ (fun y => tv (iblk m c 0 t) (iblk m c 1 t) (iblk m c 2 t) (iblk m c 3 t) y) y (by omega) (by omega) hy (fun i => tile_even 0 2048 2048 rfl rfl _ _ _ _ _ (iblk m c 0 t) (iblk m c 1 t) (iblk m c 2 t) (iblk m c 3 t) i) fun hy => ?_
    refine canon_tile 0 1920 _ _ _ (fun y => tv (iblk m c 0 t) (iblk m c 1 t) (iblk m c 2 t) (iblk m c 3 t) y) y (by omega) (by omega) hy (fun i => tile_odd 0 1792 1920 rfl rfl _ _ _ _ _ (iblk m c 0 t) (iblk m c 1 t) (iblk m c 2 t) (iblk m c 3 t) i) fun hy => ?_
    refine canon_tile 0 1792 _ _ _ (fun y => tv (iblk m c 0 t) (iblk m c 1 t) (iblk m c 2 t) (iblk m c 3 t) y) y (by omega) (by omega) hy (fun i => tile_even 0 1792 1792 rfl rfl _ _ _ _ _ (iblk m c 0 t) (iblk m c 1 t) (iblk m c 2 t) (iblk m c 3 t) i) fun hy => ?_
    refine canon_tile 0 1664 _ _ _ (fun y => tv (iblk m c 0 t) (iblk m c 1 t) (iblk m c 2 t) (iblk m c 3 t) y) y (by omega) (by omega) hy (fun i => tile_odd 0 1536 1664 rfl rfl _ _ _ _ _ (iblk m c 0 t) (iblk m c 1 t) (iblk m c 2 t) (iblk m c 3 t) i) fun hy => ?_
    refine canon_tile 0 1536 _ _ _ (fun y => tv (iblk m c 0 t) (iblk m c 1 t) (iblk m c 2 t) (iblk m c 3 t) y) y (by omega) (by omega) hy (fun i => tile_even 0 1536 1536 rfl rfl _ _ _ _ _ (iblk m c 0 t) (iblk m c 1 t) (iblk m c 2 t) (iblk m c 3 t) i) fun hy => ?_
    refine canon_tile 0 1408 _ _ _ (fun y => tv (iblk m c 0 t) (iblk m c 1 t) (iblk m c 2 t) (iblk m c 3 t) y) y (by omega) (by omega) hy (fun i => tile_odd 0 1280 1408 rfl rfl _ _ _ _ _ (iblk m c 0 t) (iblk m c 1 t) (iblk m c 2 t) (iblk m c 3 t) i) fun hy => ?_
    refine canon_tile 0 1280 _ _ _ (fun y => tv (iblk m c 0 t) (iblk m c 1 t) (iblk m c 2 t) (iblk m c 3 t) y) y (by omega) (by omega) hy (fun i => tile_even 0 1280 1280 rfl rfl _ _ _ _ _ (iblk m c 0 t) (iblk m c 1 t) (iblk m c 2 t) (iblk m c 3 t) i) fun hy => ?_
    refine canon_tile 0 1152 _ _ _ (fun y => tv (iblk m c 0 t) (iblk m c 1 t) (iblk m c 2 t) (iblk m c 3 t) y) y (by omega) (by omega) hy (fun i => tile_odd 0 1024 1152 rfl rfl _ _ _ _ _ (iblk m c 0 t) (iblk m c 1 t) (iblk m c 2 t) (iblk m c 3 t) i) fun hy => ?_
    refine canon_tile 0 1024 _ _ _ (fun y => tv (iblk m c 0 t) (iblk m c 1 t) (iblk m c 2 t) (iblk m c 3 t) y) y (by omega) (by omega) hy (fun i => tile_even 0 1024 1024 rfl rfl _ _ _ _ _ (iblk m c 0 t) (iblk m c 1 t) (iblk m c 2 t) (iblk m c 3 t) i) fun hy => ?_
    refine canon_tile 0 896 _ _ _ (fun y => tv (iblk m c 0 t) (iblk m c 1 t) (iblk m c 2 t) (iblk m c 3 t) y) y (by omega) (by omega) hy (fun i => tile_odd 0 768 896 rfl rfl _ _ _ _ _ (iblk m c 0 t) (iblk m c 1 t) (iblk m c 2 t) (iblk m c 3 t) i) fun hy => ?_
    refine canon_tile 0 768 _ _ _ (fun y => tv (iblk m c 0 t) (iblk m c 1 t) (iblk m c 2 t) (iblk m c 3 t) y) y (by omega) (by omega) hy (fun i => tile_even 0 768 768 rfl rfl _ _ _ _ _ (iblk m c 0 t) (iblk m c 1 t) (iblk m c 2 t) (iblk m c 3 t) i) fun hy => ?_
    refine canon_tile 0 640 _ _ _ (fun y => tv (iblk m c 0 t) (iblk m c 1 t) (iblk m c 2 t) (iblk m c 3 t) y) y (by omega) (by omega) hy (fun i => tile_odd 0 512 640 rfl rfl _ _ _ _ _ (iblk m c 0 t) (iblk m c 1 t) (iblk m c 2 t) (iblk m c 3 t) i) fun hy => ?_
    refine canon_tile 0 512 _ _ _ (fun y => tv (iblk m c 0 t) (iblk m c 1 t) (iblk m c 2 t) (iblk m c 3 t) y) y (by omega) (by omega) hy (fun i => tile_even 0 512 512 rfl rfl _ _ _ _ _ (iblk m c 0 t) (iblk m c 1 t) (iblk m c 2 t) (iblk m c 3 t) i) fun hy => ?_
    refine canon_tile 0 384 _ _ _ (fun y => tv (iblk m c 0 t) (iblk m c 1 t) (iblk m c 2 t) (iblk m c 3 t) y) y (by omega) (by omega) hy (fun i => tile_odd 0 256 384 rfl rfl _ _ _ _ _ (iblk m c 0 t) (iblk m c 1 t) (iblk m c 2 t) (iblk m c 3 t) i) fun hy => ?_
    refine canon_tile 0 256 _ _ _ (fun y => tv (iblk m c 0 t) (iblk m c 1 t) (iblk m c 2 t) (iblk m c 3 t) y) y (by omega) (by omega) hy (fun i => tile_even 0 256 256 rfl rfl _ _ _ _ _ (iblk m c 0 t) (iblk m c 1 t) (iblk m c 2 t) (iblk m c 3 t) i) fun hy => ?_
    refine canon_tile 0 128 _ _ _ (fun y => tv (iblk m c 0 t) (iblk m c 1 t) (iblk m c 2 t) (iblk m c 3 t) y) y (by omega) (by omega) hy (fun i => tile_odd 0 0 128 rfl rfl _ _ _ _ _ (iblk m c 0 t) (iblk m c 1 t) (iblk m c 2 t) (iblk m c 3 t) i) fun hy => ?_
    refine canon_tile 0 0 _ _ _ (fun y => tv (iblk m c 0 t) (iblk m c 1 t) (iblk m c 2 t) (iblk m c 3 t) y) y (by omega) (by omega) hy (fun i => tile_even 0 0 0 rfl rfl _ _ _ _ _ (iblk m c 0 t) (iblk m c 1 t) (iblk m c 2 t) (iblk m c 3 t) i) fun hy => ?_
    exact absurd hy (Nat.not_lt_zero _)

end Cert.FwdIdeal.Value
-- ==== Proof.FwdSA.lean ====
module

public import proofs.«01_k».proof.Proof.FwdBase

@[expose] public section
noncomputable section
namespace Cert.FwdIdeal.Value
open Cert.FwdIdeal Cert.FwdIdeal.Gen Idealize.ShloMosaic Idealize.ShloMosaic.TcCoe Idealize.SL.Sem

variable (m : (ℓ : Loc nD τ sig) → Buf (Elt Ideal) ℓ)

set_option maxHeartbeats 4000000 in
theorem sA (c : Dev nD) (t : Fin cfg0.N) (h0 : t.val % 8 = 0) (h1 : ¬t.val % 8 = 7) (y : S1024x128.Idx) :
    (outsAt0 m c t.val t.isLt).2.2 y = 0 + ∑ j, ev (iblk m c 0 t) (iblk m c 1 t) (iblk m c 2 t) (iblk m c 3 t) y j := by
  rw [← sum24, outsAt0_A m c t h0 h1]
  dsimp only
  frame_open
  simp (disch := decide) only [↓ View.readCov_skip, ↓ View.readCov_cons_toLoadRect, ↓ View.readCov_fill]
  frame_out
  have hy : (y 0).val < 1024 := (y 0).isLt
  by_cases h : 512 ≤ (y 0).val
  · refine canon_hit 512 _ _ _ y h (by omega) _ fun i e0 e1 => ?_
    refine (pay_sum 512 2816 11 rfl (by decide) _ _ _ _ (iblk m c 0 t) (iblk m c 1 t) (iblk m c 2 t) (iblk m c 3 t) i y e0 e1 _).trans (congrArg (· + _) ?_)
    refine (pay_sum 512 2560 10 rfl (by decide) _ _ _ _ (iblk m c 0 t) (iblk m c 1 t) (iblk m c 2 t) (iblk m c 3 t) i y e0 e1 _).trans (congrArg (· + _) ?_)
    refine (pay_sum 512 2304 9 rfl (by decide) _ _ _ _ (iblk m c 0 t) (iblk m c 1 t) (iblk m c 2 t) (iblk m c 3 t) i y e0 e1 _).trans (congrArg (· + _) ?_)
    refine (pay_sum 512 2048 8 rfl (by decide) _ _ _ _ (iblk m c 0 t) (iblk m c 1 t) (iblk m c 2 t) (iblk m c 3 t) i y e0 e1 _).trans (congrArg (· + _) ?_)
    refine (pay_sum 512 1792 7 rfl (by decide) _ _ _ _ (iblk m c 0 t) (iblk m c 1 t) (iblk m c 2 t) (iblk m c 3 t) i y e0 e1 _).trans (congrArg (· + _) ?_)
    refine (pay_sum 512 1536 6 rfl (by decide) _ _ _ _ (iblk m c 0 t) (iblk m c 1 t) (iblk m c 2 t) (iblk m c 3 t) i y e0 e1 _).trans (congrArg (· + _) ?_)
    refine (pay_sum 512 1280 5 rfl (by decide) _ _ _ _ (iblk m c 0 t) (iblk m c 1 t) (iblk m c 2 t) (iblk m c 3 t) i y e0 e1 _).trans (congrArg (· + _) ?_)
    refine (pay_sum 512 1024 4 rfl (by decide) _ _ _ _ (iblk m c 0 t) (iblk m c 1 t) (iblk m c 2 t) (iblk m c 3 t) i y e0 e1 _).trans (congrArg (· + _) ?_)
    refine (pay_sum 512 768 3 rfl (by decide) _ _ _ _ (iblk m c 0 t) (iblk m c 1 t) (iblk m c 2 t) (iblk m c 3 t) i y e0 e1 _).trans (congrArg (· + _) ?_)
    refine (pay_sum 512 512 2 rfl (by decide) _ _ _ _ (iblk m c 0 t) (iblk m c 1 t) (iblk m c 2 t) (iblk m c 3 t) i y e0 e1 _).trans (congrArg (· + _) ?_)
    refine (pay_sum 512 256 1 rfl (by decide) _ _ _ _ (iblk m c 0 t) (iblk m c 1 t) (iblk m c 2 t) (iblk m c 3 t) i y e0 e1 _).trans (congrArg (· + _) ?_)
    refine (pay_sum 512 0 0 rfl (by decide) _ _ _ _ (iblk m c 0 t) (iblk m c 1 t) (iblk m c 2 t) (iblk m c 3 t) i y e0 e1 _).trans (congrArg (· + _) ?_)
    unfold k0_pay3; pointwise
  · iterate 12 refine canon_skip 512 _ _ _ y (by omega) _ ?_
    refine canon_hit 0 _ _ _ y (by omega) (by omega) _ fun i e0 e1 => ?_
    refine (pay_sum 0 2816 11 rfl (by decide) _ _ _ _ (iblk m c 0 t) (iblk m c 1 t) (iblk m c 2 t) (iblk m c 3 t) i y e0 e1 _).trans (congrArg (· + _) ?_)
    refine (pay_sum 0 2560 10 rfl (by decide) _ _ _ _ (iblk m c 0 t) (iblk m c 1 t) (iblk m c 2 t) (iblk m c 3 t) i y e0 e1 _).trans (congrArg (· + _) ?_)
    refine (pay_sum 0 2304 9 rfl (by decide) _ _ _ _ (iblk m c 0 t) (iblk m c 1 t) (iblk m c 2 t) (iblk m c 3 t) i y e0 e1 _).trans (congrArg (· + _) ?_)
    refine (pay_sum 0 2048 8 rfl (by decide) _ _ _ _ (iblk m c 0 t) (iblk m c 1 t) (iblk m c 2 t) (iblk m c 3 t) i y e0 e1 _).trans (congrArg (· + _) ?_)
    refine (pay_sum 0 1792 7 rfl (by decide) _ _ _ _ (iblk m c 0 t) (iblk m c 1 t) (iblk m c 2 t) (iblk m c 3 t) i y e0 e1 _).trans (congrArg (· + _) ?_)
    refine (pay_sum 0 1536 6 rfl (by decide) _ _ _ _ (iblk m c 0 t) (iblk m c 1 t) (iblk m c 2 t) (iblk m c 3 t) i y e0 e1 _).trans (congrArg (· + _) ?_)
    refine (pay_sum 0 1280 5 rfl (by decide) _ _ _ _ (iblk m c 0 t) (iblk m c 1 t) (iblk m c 2 t) (iblk m c 3 t) i y e0 e1 _).trans (congrArg (· + _) ?_)
    refine (pay_sum 0 1024 4 rfl (by decide) _ _ _ _ (iblk m c 0 t) (iblk m c 1 t) (iblk m c 2 t) (iblk m c 3 t) i y e0 e1 _).trans (congrArg (· + _) ?_)
    refine (pay_sum 0 768 3 rfl (by decide) _ _ _ _ (iblk m c 0 t) (iblk m c 1 t) (iblk m c 2 t) (iblk m c 3 t) i y e0 e1 _).trans (congrArg (· + _) ?_)
    refine (pay_sum 0 512 2 rfl (by decide) _ _ _ _ (iblk m c 0 t) (iblk m c 1 t) (iblk m c 2 t) (iblk m c 3 t) i y e0 e1 _).trans (congrArg (· + _) ?_)
    refine (pay_sum 0 256 1 rfl (by decide) _ _ _ _ (iblk m c 0 t) (iblk m c 1 t) (iblk m c 2 t) (iblk m c 3 t) i y e0 e1 _).trans (congrArg (· + _) ?_)
    refine (pay_sum 0 0 0 rfl (by decide) _ _ _ _ (iblk m c 0 t) (iblk m c 1 t) (iblk m c 2 t) (iblk m c 3 t) i y e0 e1 _).trans (congrArg (· + _) ?_)
    unfold k0_pay3; pointwise

end Cert.FwdIdeal.Value
-- ==== Proof.FwdTB.lean ====
module

public import proofs.«01_k».proof.Proof.FwdBase

@[expose] public section
noncomputable section
namespace Cert.FwdIdeal.Value
open Cert.FwdIdeal Cert.FwdIdeal.Gen Idealize.ShloMosaic Idealize.ShloMosaic.TcCoe Idealize.SL.Sem

variable (m : (ℓ : Loc nD τ sig) → Buf (Elt Ideal) ℓ)

set_option maxHeartbeats 4000000 in
theorem tB (c : Dev nD) (t : Fin cfg0.N) (h0 : ¬t.val % 8 = 0) (h1 : ¬t.val % 8 = 7) (y : S1024x3072.Idx) :
    (outsAt0 m c t.val t.isLt).1 y = tv (iblk m c 0 t) (iblk m c 1 t) (iblk m c 2 t) (iblk m c 3 t) y := by
  rw [outsAt0_B m c t h0 h1]
  dsimp only
  frame_out
  have hy0 : (y 0).val < 1024 := (y 0).isLt
  have hy : (y 1).val < 2944 + 128 := (y 1).isLt
  by_cases h : 512 ≤ (y 0).val
  · refine canon_tile 512 2944 _ _ _ (fun y => tv (iblk m c 0 t) (iblk m c 1 t) (iblk m c 2 t) (iblk m c 3 t) y) y (by omega) (by omega) hy (fun i => tile_odd 512 2816 2944 rfl rfl _ _ _ _ _ (iblk m c 0 t) (iblk m c 1 t) (iblk m c 2 t) (iblk m c 3 t) i) fun hy => ?_
    refine canon_tile 512 2816 _ _ _ (fun y => tv (iblk m c 0 t) (iblk m c 1 t) (iblk m c 2 t) (iblk m c 3 t) y) y (by omega) (by omega) hy (fun i => tile_even 512 2816 2816 rfl rfl _ _ _ _ _ (iblk m c 0 t) (iblk m c 1 t) (iblk m c 2 t) (iblk m c 3 t) i) fun hy => ?_
    refine canon_tile 512 2688 _ _ _ (fun y => tv (iblk m c 0 t) (iblk m c 1 t) (iblk m c 2 t) (iblk m c 3 t) y) y (by omega) (by omega) hy (fun i => tile_odd 512 2560 2688 rfl rfl _ _ _ _ _ (iblk m c 0 t) (iblk m c 1 t) (iblk m c 2 t) (iblk m c 3 t) i) fun hy => ?_
    refine canon_tile 512 2560 _ _ _ (fun y => tv (iblk m c 0 t) (iblk m c 1 t) (iblk m c 2 t) (iblk m c 3 t) y) y (by omega) (by omega) hy (fun i => tile_even 512 2560 2560 rfl rfl _ _ _ _ _ (iblk m c 0 t) (iblk m c 1 t) (iblk m c 2 t) (iblk m c 3 t) i) fun hy => ?_
    refine canon_tile 512 2432 _ _ _ (fun y => tv (iblk m c 0 t) (iblk m c 1 t) (iblk m c 2 t) (iblk m c 3 t) y) y (by omega) (by omega) hy (fun i => tile_odd 512 2304 2432 rfl rfl _ _ _ _ _ (iblk m c 0 t) (iblk m c 1 t) (iblk m c 2 t) (iblk m c 3 t) i) fun hy => ?_
    refine canon_tile 512 2304 _ _ _ (fun y => tv (iblk m c 0 t) (iblk m c 1 t) (iblk m c 2 t) (iblk m c 3 t) y) y (by omega) (by omega) hy (fun i => tile_even 512 2304 2304 rfl rfl _ _ _ _ _ (iblk m c 0 t) (iblk m c 1 t) (iblk m c 2 t) (iblk m c 3 t) i) fun hy => ?_
    refine canon_tile 512 2176 _ _ _ (fun y => tv (iblk m c 0 t) (iblk m c 1 t) (iblk m c 2 t) (iblk m c 3 t) y) y (by omega) (by omega) hy (fun i => tile_odd 512 2048 2176 rfl rfl _ _ _ _ _ (iblk m c 0 t) (iblk m c 1 t) (iblk m c 2 t) (iblk m c 3 t) i) fun hy => ?_
    refine canon_tile 512 2048 _ _ _ (fun y => tv (iblk m c 0 t) (iblk m c 1 t) (iblk m c 2 t) (iblk m c 3 t) y) y (by omega) (by omega) hy (fun i => tile_even 512 2048 2048 rfl rfl _ _ _ _ _ (iblk m c 0 t) (iblk m c 1 t) (iblk m c 2 t) (iblk m c 3 t) i) fun hy => ?_
    refine canon_tile 512 1920 _ _ _ (fun y => tv (iblk m c 0 t) (iblk m c 1 t) (iblk m c 2 t) (iblk m c 3 t) y) y (by omega) (by omega) hy (fun i => tile_odd 512 1792 1920 rfl rfl _ _ _ _ _ (iblk m c 0 t) (iblk m c 1 t) (iblk m c 2 t) (iblk m c 3 t) i) fun hy => ?_
    refine canon_tile 512 1792 _ _ _ (fun y => tv (iblk m c 0 t) (iblk m c 1 t) (iblk m c 2 t) (iblk m c 3 t) y) y (by omega) (by omega) hy (fun i => tile_even 512 1792 1792 rfl rfl _ _ _ _ _ (iblk m c 0 t) (iblk m c 1 t) (iblk m c 2 t) (iblk m c 3 t) i) fun hy => ?_
    refine canon_tile 512 1664 _ _ _ (fun y => tv (iblk m c 0 t) (iblk m c 1 t) (iblk m c 2 t) (iblk m c 3 t) y) y (by omega) (by omega) hy (fun i => tile_odd 512 1536 1664 rfl rfl _ _ _ _ _ (iblk m c 0 t) (iblk m c 1 t) (iblk m c 2 t) (iblk m c 3 t) i) fun hy => ?_
    refine canon_tile 512 1536 _ _ _ (fun y => tv (iblk m c 0 t) (iblk m c 1 t) (iblk m c 2 t) (iblk m c 3 t) y) y (by omega) (by omega) hy (fun i => tile_even 512 1536 1536 rfl rfl _ _ _ _ _ (iblk m c 0 t) (iblk m c 1 t) (iblk m c 2 t) (iblk m c 3 t) i) fun hy => ?_
    refine canon_tile 512 1408 _ _ _ (fun y => tv (iblk m c 0 t) (iblk m c 1 t) (iblk m c 2 t) (iblk m c 3 t) y) y (by omega) (by omega) hy (fun i => tile_odd 512 1280 1408 rfl rfl _ _ _ _ _ (iblk m c 0 t) (iblk m c 1 t) (iblk m c 2 t) (iblk m c 3 t) i) fun hy => ?_
    refine canon_tile 512 1280 _ _ _ (fun y => tv (iblk m c 0 t) (iblk m c 1 t) (iblk m c 2 t) (iblk m c 3 t) y) y (by omega) (by omega) hy (fun i => tile_even 512 1280 1280 rfl rfl _ _ _ _ _ (iblk m c 0 t) (iblk m c 1 t) (iblk m c 2 t) (iblk m c 3 t) i) fun hy => ?_
    refine canon_tile 512 1152 _ _ _ (fun y => tv (iblk m c 0 t) (iblk m c 1 t) (iblk m c 2 t) (iblk m c 3 t) y) y (by omega) (by omega) hy (fun i => tile_odd 512 1024 1152 rfl rfl _ _ _ _ _ (iblk m c 0 t) (iblk m c 1 t) (iblk m c 2 t) (iblk m c 3 t) i) fun hy => ?_
    refine canon_tile 512 1024 _ _ _ (fun y => tv (iblk m c 0 t) (iblk m c 1 t) (iblk m c 2 t) (iblk m c 3 t) y) y (by omega) (by omega) hy (fun i => tile_even 512 1024 1024 rfl rfl _ _ _ _ _ (iblk m c 0 t) (iblk m c 1 t) (iblk m c 2 t) (iblk m c 3 t) i) fun hy => ?_
    refine canon_tile 512 896 _ _ _ (fun y => tv (iblk m c 0 t) (iblk m c 1 t) (iblk m c 2 t) (iblk m c 3 t) y) y (by omega) (by omega) hy (fun i => tile_odd 512 768 896 rfl rfl _ _ _ _ _ (iblk m c 0 t) (iblk m c 1 t) (iblk m c 2 t) (iblk m c 3 t) i) fun hy => ?_
    refine canon_tile 512 768 _ _ _ (fun y => tv (iblk m c 0 t) (iblk m c 1 t) (iblk m c 2 t) (iblk m c 3 t) y) y (by omega) (by omega) hy (fun i => tile_even 512 768 768 rfl rfl _ _ _ _ _ (iblk m c 0 t) (iblk m c 1 t) (iblk m c 2 t) (iblk m c 3 t) i) fun hy => ?_
    refine canon_tile 512 640 _ _ _ (fun y => tv (iblk m c 0 t) (iblk m c 1 t) (iblk m c 2 t) (iblk m c 3 t) y) y (by omega) (by omega) hy (fun i => tile_odd 512 512 640 rfl rfl _ _ _ _ _ (iblk m c 0 t) (iblk m c 1 t) (iblk m c 2 t) (iblk m c 3 t) i) fun hy => ?_
    refine canon_tile 512 512 _ _ _ (fun y => tv (iblk m c 0 t) (iblk m c 1 t) (iblk m c 2 t) (iblk m c 3 t) y) y (by omega) (by omega) hy (fun i => tile_even 512 512 512 rfl rfl _ _ _ _ _ (iblk m c 0 t) (iblk m c 1 t) (iblk m c 2 t) (iblk m c 3 t) i) fun hy => ?_
    refine canon_tile 512 384 _ _ _ (fun y => tv (iblk m c 0 t) (iblk m c 1 t) (iblk m c 2 t) (iblk m c 3 t) y) y (by omega) (by omega) hy (fun i => tile_odd 512 256 384 rfl rfl _ _ _ _ _ (iblk m c 0 t) (iblk m c 1 t) (iblk m c 2 t) (iblk m c 3 t) i) fun hy => ?_
    refine canon_tile 512 256 _ _ _ (fun y => tv (iblk m c 0 t) (iblk m c 1 t) (iblk m c 2 t) (iblk m c 3 t) y) y (by omega) (by omega) hy (fun i => tile_even 512 256 256 rfl rfl _ _ _ _ _ (iblk m c 0 t) (iblk m c 1 t) (iblk m c 2 t) (iblk m c 3 t) i) fun hy => ?_
    refine canon_tile 512 128 _ _ _ (fun y => tv (iblk m c 0 t) (iblk m c 1 t) (iblk m c 2 t) (iblk m c 3 t) y) y (by omega) (by omega) hy (fun i => tile_odd 512 0 128 rfl rfl _ _ _ _ _ (iblk m c 0 t) (iblk m c 1 t) (iblk m c 2 t) (iblk m c 3 t) i) fun hy => ?_
    refine canon_tile 512 0 _ _ _ (fun y => tv (iblk m c 0 t) (iblk m c 1 t) (iblk m c 2 t) (iblk m c 3 t) y) y (by omega) (by omega) hy (fun i => tile_even 512 0 0 rfl rfl _ _ _ _ _ (iblk m c 0 t) (iblk m c 1 t) (iblk m c 2 t) (iblk m c 3 t) i) fun hy => ?_
    exact absurd hy (Nat.not_lt_zero _)
  · iterate 24 refine canon_pass 512 _ _ _ _ y (by omega) _ ?_
    refine canon_tile 0 2944 _ _ _ (fun y => tv (iblk m c 0 t) (iblk m c 1 t) (iblk m c 2 t) (iblk m c 3 t) y) y (by omega) (by omega) hy (fun i => tile_odd 0 2816 2944 rfl rfl _ _ _ _ _ (iblk m c 0 t) (iblk m c 1 t) (iblk m c 2 t) (iblk m c 3 t) i) fun hy => ?_
    refine canon_tile 0 2816 _ _ _ (fun y => tv (iblk m c 0 t) (iblk m c 1 t) (iblk m c 2 t) (iblk m c 3 t) y) y (by omega) (by omega) hy (fun i => tile_even 0 2816 2816 rfl rfl _ _ _ _ _ (iblk m c 0 t) (iblk m c 1 t) (iblk m c 2 t) (iblk m c 3 t) i) fun hy => ?_
    refine canon_tile 0 2688 _ _ _ (fun y => tv (iblk m c 0 t) (iblk m c 1 t) (iblk m c 2 t) (iblk m c 3 t) y) y (by omega) (by omega) hy (fun i => tile_odd 0 2560 2688 rfl rfl _ _ _ _ _ (iblk m c 0 t) (iblk m c 1 t) (iblk m c 2 t) (iblk m c 3 t) i) fun hy => ?_
    refine canon_tile 0 2560 _ _ _ (fun y => tv (iblk m c 0 t) (iblk m c 1 t) (iblk m c 2 t) (iblk m c 3 t) y) y (by omega) (by omega) hy (fun i => tile_even 0 2560 2560 rfl rfl _ _ _ _ _ (iblk m c 0 t) (iblk m c 1 t) (iblk m c 2 t) (iblk m c 3 t) i) fun hy => ?_
    refine canon_tile 0 2432 _ _ _ (fun y => tv (iblk m c 0 t) (iblk m c 1 t) (iblk m c 2 t) (iblk m c 3 t) y) y (by omega) (by omega) hy (fun i => tile_odd 0 2304 2432 rfl rfl _ _ _ _ _ (iblk m c 0 t) (iblk m c 1 t) (iblk m c 2 t) (iblk m c 3 t) i) fun hy => ?_
    refine canon_tile 0 2304 _ _ _ (fun y => tv (iblk m c 0 t) (iblk m c 1 t) (iblk m c 2 t) (iblk m c 3 t) y) y (by omega) (by omega) hy (fun i => tile_even 0 2304 2304 rfl rfl _ _ _ _ _ (iblk m c 0 t) (iblk m c 1 t) (iblk m c 2 t) (iblk m c 3 t) i) fun hy => ?_
    refine canon_tile 0 2176 _ _ _ (fun y => tv (iblk m c 0 t) (iblk m c 1 t) (iblk m c 2 t) (iblk m c 3 t) y) y (by omega) (by omega) hy (fun i => tile_odd 0 2048 2176 rfl rfl _ _ _ _ _ (iblk m c 0 t) (iblk m c 1 t) (iblk m c 2 t) (iblk m c 3 t) i) fun hy => ?_
    refine canon_tile 0 2048 _ _ _ (fun y => tv (iblk m c 0 t) (iblk m c 1 t) (iblk m c 2 t) (iblk m c 3 t) y) y (by omega) (by omega) hy (fun i => tile_even 0 2048 2048 rfl rfl _ _ _ _ _ (iblk m c 0 t) (iblk m c 1 t) (iblk m c 2 t) (iblk m c 3 t) i) fun hy => ?_
    refine canon_tile 0 1920 _ _ _ (fun y => tv (iblk m c 0 t) (iblk m c 1 t) (iblk m c 2 t) (iblk m c 3 t) y) y (by omega) (by omega) hy (fun i => tile_odd 0 1792 1920 rfl rfl _ _ _ _ _ (iblk m c 0 t) (iblk m c 1 t) (iblk m c 2 t) (iblk m c 3 t) i) fun hy => ?_
    refine canon_tile 0 1792 _ _ _ (fun y => tv (iblk m c 0 t) (iblk m c 1 t) (iblk m c 2 t) (iblk m c 3 t) y) y (by omega) (by omega) hy (fun i => tile_even 0 1792 1792 rfl rfl _ _ _ _ _ (iblk m c 0 t) (iblk m c 1 t) (iblk m c 2 t) (iblk m c 3 t) i) fun hy => ?_
    refine canon_tile 0 1664 _ _ _ (fun y => tv (iblk m c 0 t) (iblk m c 1 t) (iblk m c 2 t) (iblk m c 3 t) y) y (by omega) (by omega) hy (fun i => tile_odd 0 1536 1664 rfl rfl _ _ _ _ _ (iblk m c 0 t) (iblk m c 1 t) (iblk m c 2 t) (iblk m c 3 t) i) fun hy => ?_
    refine canon_tile 0 1536 _ _ _ (fun y => tv (iblk m c 0 t) (iblk m c 1 t) (iblk m c 2 t) (iblk m c 3 t) y) y (by omega) (by omega) hy (fun i => tile_even 0 1536 1536 rfl rfl _ _ _ _ _ (iblk m c 0 t) (iblk m c 1 t) (iblk m c 2 t) (iblk m c 3 t) i) fun hy => ?_
    refine canon_tile 0 1408 _ _ _ (fun y => tv (iblk m c 0 t) (iblk m c 1 t) (iblk m c 2 t) (iblk m c 3 t) y) y (by omega) (by omega) hy (fun i => tile_odd 0 1280 1408 rfl rfl _ _ _ _ _ (iblk m c 0 t) (iblk m c 1 t) (iblk m c 2 t) (iblk m c 3 t) i) fun hy => ?_
    refine canon_tile 0 1280 _ _ _ (fun y => tv (iblk m c 0 t) (iblk m c 1 t) (iblk m c 2 t) (iblk m c 3 t) y) y (by omega) (by omega) hy (fun i => tile_even 0 1280 1280 rfl rfl _ _ _ _ _ (iblk m c 0 t) (iblk m c 1 t) (iblk m c 2 t) (iblk m c 3 t) i) fun hy => ?_
    refine canon_tile 0 1152 _ _ _ (fun y => tv (iblk m c 0 t) (iblk m c 1 t) (iblk m c 2 t) (iblk m c 3 t) y) y (by omega) (by omega) hy (fun i => tile_odd 0 1024 1152 rfl rfl _ _ _ _ _ (iblk m c 0 t) (iblk m c 1 t) (iblk m c 2 t) (iblk m c 3 t) i) fun hy => ?_
    refine canon_tile 0 1024 _ _ _ (fun y => tv (iblk m c 0 t) (iblk m c 1 t) (iblk m c 2 t) (iblk m c 3 t) y) y (by omega) (by omega) hy (fun i => tile_even 0 1024 1024 rfl rfl _ _ _ _ _ (iblk m c 0 t) (iblk m c 1 t) (iblk m c 2 t) (iblk m c 3 t) i) fun hy => ?_
    refine canon_tile 0 896 _ _ _ (fun y => tv (iblk m c 0 t) (iblk m c 1 t) (iblk m c 2 t) (iblk m c 3 t) y) y (by omega) (by omega) hy (fun i => tile_odd 0 768 896 rfl rfl _ _ _ _ _ (iblk m c 0 t) (iblk m c 1 t) (iblk m c 2 t) (iblk m c 3 t) i) fun hy => ?_
    refine canon_tile 0 768 _ _ _ (fun y => tv (iblk m c 0 t) (iblk m c 1 t) (iblk m c 2 t) (iblk m c 3 t) y) y (by omega) (by omega) hy (fun i => tile_even 0 768 768 rfl rfl _ _ _ _ _ (iblk m c 0 t) (iblk m c 1 t) (iblk m c 2 t) (iblk m c 3 t) i) fun hy => ?_
    refine canon_tile 0 640 _ _ _ (fun y => tv (iblk m c 0 t) (iblk m c 1 t) (iblk m c 2 t) (iblk m c 3 t) y) y (by omega) (by omega) hy (fun i => tile_odd 0 512 640 rfl rfl _ _ _ _ _ (iblk m c 0 t) (iblk m c 1 t) (iblk m c 2 t) (iblk m c 3 t) i) fun hy => ?_
    refine canon_tile 0 512 _ _ _ (fun y => tv (iblk m c 0 t) (iblk m c 1 t) (iblk m c 2 t) (iblk m c 3 t) y) y (by omega) (by omega) hy (fun i => tile_even 0 512 512 rfl rfl _ _ _ _ _ (iblk m c 0 t) (iblk m c 1 t) (iblk m c 2 t) (iblk m c 3 t) i) fun hy => ?_
    refine canon_tile 0 384 _ _ _ (fun y => tv (iblk m c 0 t) (iblk m c 1 t) (iblk m c 2 t) (iblk m c 3 t) y) y (by omega) (by omega) hy (fun i => tile_odd 0 256 384 rfl rfl _ _ _ _ _ (iblk m c 0 t) (iblk m c 1 t) (iblk m c 2 t) (iblk m c 3 t) i) fun hy => ?_
    refine canon_tile 0 256 _ _ _ (fun y => tv (iblk m c 0 t) (iblk m c 1 t) (iblk m c 2 t) (iblk m c 3 t) y) y (by omega) (by omega) hy (fun i => tile_even 0 256 256 rfl rfl _ _ _ _ _ (iblk m c 0 t) (iblk m c 1 t) (iblk m c 2 t) (iblk m c 3 t) i) fun hy => ?_
    refine canon_tile 0 128 _ _ _ (fun y => tv (iblk m c 0 t) (iblk m c 1 t) (iblk m c 2 t) (iblk m c 3 t) y) y (by omega) (by omega) hy (fun i => tile_odd 0 0 128 rfl rfl _ _ _ _ _ (iblk m c 0 t) (iblk m c 1 t) (iblk m c 2 t) (iblk m c 3 t) i) fun hy => ?_
    refine canon_tile 0 0 _ _ _ (fun y => tv (iblk m c 0 t) (iblk m c 1 t) (iblk m c 2 t) (iblk m c 3 t) y) y (by omega) (by omega) hy (fun i => tile_even 0 0 0 rfl rfl _ _ _ _ _ (iblk m c 0 t) (iblk m c 1 t) (iblk m c 2 t) (iblk m c 3 t) i) fun hy => ?_
    exact absurd hy (Nat.not_lt_zero _)

end Cert.FwdIdeal.Value
-- ==== Proof.FwdSB.lean ====
module

public import proofs.«01_k».proof.Proof.FwdBase

@[expose] public section
noncomputable section
namespace Cert.FwdIdeal.Value
open Cert.FwdIdeal Cert.FwdIdeal.Gen Idealize.ShloMosaic Idealize.ShloMosaic.TcCoe Idealize.SL.Sem

variable (m : (ℓ : Loc nD τ sig) → Buf (Elt Ideal) ℓ)

set_option maxHeartbeats 4000000 in
theorem sB (c : Dev nD) (t : Fin cfg0.N) (h0 : ¬t.val % 8 = 0) (h1 : ¬t.val % 8 = 7) (y : S1024x128.Idx) :
    (outsAt0 m c t.val t.isLt).2.2 y = (outsAt0 m c (t.val - 1) (Nat.lt_of_le_of_lt (Nat.sub_le _ _) t.isLt)).2.2 y + ∑ j, ev (iblk m c 0 t) (iblk m c 1 t) (iblk m c 2 t) (iblk m c 3 t) y j := by
  rw [← sum24, outsAt0_B m c t h0 h1]
  dsimp only
  frame_open
  simp (disch := decide) only [↓ View.readCov_skip, ↓ View.readCov_cons_toLoadRect, ↓ View.readCov_fill]
  frame_out
  have hy : (y 0).val < 1024 := (y 0).isLt
  by_cases h : 512 ≤ (y 0).val
  · refine canon_hit 512 _ _ _ y h (by omega) _ fun i e0 e1 => ?_
    refine (pay_sum 512 2816 11 rfl (by decide) _ _ _ _ (iblk m c 0 t) (iblk m c 1 t) (iblk m c 2 t) (iblk m c 3 t) i y e0 e1 _).trans (congrArg (· + _) ?_)
    refine (pay_sum 512 2560 10 rfl (by decide) _ _ _ _ (iblk m c 0 t) (iblk m c 1 t) (iblk m c 2 t) (iblk m c 3 t) i y e0 e1 _).trans (congrArg (· + _) ?_)
    refine (pay_sum 512 2304 9 rfl (by decide) _ _ _ _ (iblk m c 0 t) (iblk m c 1 t) (iblk m c 2 t) (iblk m c 3 t) i y e0 e1 _).trans (congrArg (· + _) ?_)
    refine (pay_sum 512 2048 8 rfl (by decide) _ _ _ _ (iblk m c 0 t) (iblk m c 1 t) (iblk m c 2 t) (iblk m c 3 t) i y e0 e1 _).trans (congrArg (· + _) ?_)
    refine (pay_sum 512 1792 7 rfl (by decide) _ _ _ _ (iblk m c 0 t) (iblk m c 1 t) (iblk m c 2 t) (iblk m c 3 t) i y e0 e1 _).trans (congrArg (· + _) ?_)
    refine (pay_sum 512 1536 6 rfl (by decide) _ _ _ _ (iblk m c 0 t) (iblk m c 1 t) (iblk m c 2 t) (iblk m c 3 t) i y e0 e1 _).trans (congrArg (· + _) ?_)
    refine (pay_sum 512 1280 5 rfl (by decide) _ _ _ _ (iblk m c 0 t) (iblk m c 1 t) (iblk m c 2 t) (iblk m c 3 t) i y e0 e1 _).trans (congrArg (· + _) ?_)
    refine (pay_sum 512 1024 4 rfl (by decide) _ _ _ _ (iblk m c 0 t) (iblk m c 1 t) (iblk m c 2 t) (iblk m c 3 t) i y e0 e1 _).trans (congrArg (· + _) ?_)
    refine (pay_sum 512 768 3 rfl (by decide) _ _ _ _ (iblk m c 0 t) (iblk m c 1 t) (iblk m c 2 t) (iblk m c 3 t) i y e0 e1 _).trans (congrArg (· + _) ?_)
    refine (pay_sum 512 512 2 rfl (by decide) _ _ _ _ (iblk m c 0 t) (iblk m c 1 t) (iblk m c 2 t) (iblk m c 3 t) i y e0 e1 _).trans (congrArg (· + _) ?_)
    refine (pay_sum 512 256 1 rfl (by decide) _ _ _ _ (iblk m c 0 t) (iblk m c 1 t) (iblk m c 2 t) (iblk m c 3 t) i y e0 e1 _).trans (congrArg (· + _) ?_)
    refine (pay_sum 512 0 0 rfl (by decide) _ _ _ _ (iblk m c 0 t) (iblk m c 1 t) (iblk m c 2 t) (iblk m c 3 t) i y e0 e1 _).trans (congrArg (· + _) ?_)
    rw [read_unread_whole]
    exact old_row _ _ _ y i e0 e1
  · iterate 12 refine canon_skip 512 _ _ _ y (by omega) _ ?_
    refine canon_hit 0 _ _ _ y (by omega) (by omega) _ fun i e0 e1 => ?_
    refine (pay_sum 0 2816 11 rfl (by decide) _ _ _ _ (iblk m c 0 t) (iblk m c 1 t) (iblk m c 2 t) (iblk m c 3 t) i y e0 e1 _).trans (congrArg (· + _) ?_)
    refine (pay_sum 0 2560 10 rfl (by decide) _ _ _ _ (iblk m c 0 t) (iblk m c 1 t) (iblk m c 2 t) (iblk m c 3 t) i y e0 e1 _).trans (congrArg (· + _) ?_)
    refine (pay_sum 0 2304 9 rfl (by decide) _ _ _ _ (iblk m c 0 t) (iblk m c 1 t) (iblk m c 2 t) (iblk m c 3 t) i y e0 e1 _).trans (congrArg (· + _) ?_)
    refine (pay_sum 0 2048 8 rfl (by decide) _ _ _ _ (iblk m c 0 t) (iblk m c 1 t) (iblk m c 2 t) (iblk m c 3 t) i y e0 e1 _).trans (congrArg (· + _) ?_)
    refine (pay_sum 0 1792 7 rfl (by decide) _ _ _ _ (iblk m c 0 t) (iblk m c 1 t) (iblk m c 2 t) (iblk m c 3 t) i y e0 e1 _).trans (congrArg (· + _) ?_)
    refine (pay_sum 0 1536 6 rfl (by decide) _ _ _ _ (iblk m c 0 t) (iblk m c 1 t) (iblk m c 2 t) (iblk m c 3 t) i y e0 e1 _).trans (congrArg (· + _) ?_)
    refine (pay_sum 0 1280 5 rfl (by decide) _ _ _ _ (iblk m c 0 t) (iblk m c 1 t) (iblk m c 2 t) (iblk m c 3 t) i y e0 e1 _).trans (congrArg (· + _) ?_)
    refine (pay_sum 0 1024 4 rfl (by decide) _ _ _ _ (iblk m c 0 t) (iblk m c 1 t) (iblk m c 2 t) (iblk m c 3 t) i y e0 e1 _).trans (congrArg (· + _) ?_)
    refine (pay_sum 0 768 3 rfl (by decide) _ _ _ _ (iblk m c 0 t) (iblk m c 1 t) (iblk m c 2 t) (iblk m c 3 t) i y e0 e1 _).trans (congrArg (· + _) ?_)
    refine (pay_sum 0 512 2 rfl (by decide) _ _ _ _ (iblk m c 0 t) (iblk m c 1 t) (iblk m c 2 t) (iblk m c 3 t) i y e0 e1 _).trans (congrArg (· + _) ?_)
    refine (pay_sum 0 256 1 rfl (by decide) _ _ _ _ (iblk m c 0 t) (iblk m c 1 t) (iblk m c 2 t) (iblk m c 3 t) i y e0 e1 _).trans (congrArg (· + _) ?_)
    refine (pay_sum 0 0 0 rfl (by decide) _ _ _ _ (iblk m c 0 t) (iblk m c 1 t) (iblk m c 2 t) (iblk m c 3 t) i y e0 e1 _).trans (congrArg (· + _) ?_)
    rw [read_unread_whole]
    exact old_row _ _ _ y i e0 e1

end Cert.FwdIdeal.Value
-- ==== Proof.FwdTC.lean ====
module

public import proofs.«01_k».proof.Proof.FwdBase

@[expose] public section
noncomputable section
namespace Cert.FwdIdeal.Value
open Cert.FwdIdeal Cert.FwdIdeal.Gen Idealize.ShloMosaic Idealize.ShloMosaic.TcCoe Idealize.SL.Sem

variable (m : (ℓ : Loc nD τ sig) → Buf (Elt Ideal) ℓ)

set_option maxHeartbeats 4000000 in
theorem tC (c : Dev nD) (t : Fin cfg0.N) (h0 : ¬t.val % 8 = 0) (h1 : t.val % 8 = 7) (y : S1024x3072.Idx) :
    (outsAt0 m c t.val t.isLt).1 y = tv (iblk m c 0 t) (iblk m c 1 t) (iblk m c 2 t) (iblk m c 3 t) y := by
  rw [outsAt0_C m c t h0 h1]
  dsimp only
  frame_out
  have hy0 : (y 0).val < 1024 := (y 0).isLt
  have hy : (y 1).val < 2944 + 128 := (y 1).isLt
  by_cases h : 512 ≤ (y 0).val
  · refine canon_tile 512 2944 _ _ _ (fun y => tv (iblk m c 0 t) (iblk m c 1 t) (iblk m c 2 t) (iblk m c 3 t) y) y (by omega) (by omega) hy (fun i => tile_odd 512 2816 2944 rfl rfl _ _ _ _ _ (iblk m c 0 t) (iblk m c 1 t) (iblk m c 2 t) (iblk m c 3 t) i) fun hy => ?_
    refine canon_tile 512 2816 _ _ _ (fun y => tv (iblk m c 0 t) (iblk m c 1 t) (iblk m c 2 t) (iblk m c 3 t) y) y (by omega) (by omega) hy (fun i => tile_even 512 2816 2816 rfl rfl _ _ _ _ _ (iblk m c 0 t) (iblk m c 1 t) (iblk m c 2 t) (iblk m c 3 t) i) fun hy => ?_
    refine canon_tile 512 2688 _ _ _ (fun y => tv (iblk m c 0 t) (iblk m c 1 t) (iblk m c 2 t) (iblk m c 3 t) y) y (by omega) (by omega) hy (fun i => tile_odd 512 2560 2688 rfl rfl _ _ _ _ _ (iblk m c 0 t) (iblk m c 1 t) (iblk m c 2 t) (iblk m c 3 t) i) fun hy => ?_
    refine canon_tile 512 2560 _ _ _ (fun y => tv (iblk m c 0 t) (iblk m c 1 t) (iblk m c 2 t) (iblk m c 3 t) y) y (by omega) (by omega) hy (fun i => tile_even 512 2560 2560 rfl rfl _ _ _ _ _ (iblk m c 0 t) (iblk m c 1 t) (iblk m c 2 t) (iblk m c 3 t) i) fun hy => ?_
    refine canon_tile 512 2432 _ _ _ (fun y => tv (iblk m c 0 t) (iblk m c 1 t) (iblk m c 2 t) (iblk m c 3 t) y) y (by omega) (by omega) hy (fun i => tile_odd 512 2304 2432 rfl rfl _ _ _ _ _ (iblk m c 0 t) (iblk m c 1 t) (iblk m c 2 t) (iblk m c 3 t) i) fun hy => ?_
    refine canon_tile 512 2304 _ _ _ (fun y => tv (iblk m c 0 t) (iblk m c 1 t) (iblk m c 2 t) (iblk m c 3 t) y) y (by omega) (by omega) hy (fun i => tile_even 512 2304 2304 rfl rfl _ _ _ _ _ (iblk m c 0 t) (iblk m c 1 t) (iblk m c 2 t) (iblk m c 3 t) i) fun hy => ?_
    refine canon_tile 512 2176 _ _ _ (fun y => tv (iblk m c 0 t) (iblk m c 1 t) (iblk m c 2 t) (iblk m c 3 t) y) y (by omega) (by omega) hy (fun i => tile_odd 512 2048 2176 rfl rfl _ _ _ _ _ (iblk m c 0 t) (iblk m c 1 t) (iblk m c 2 t) (iblk m c 3 t) i) fun hy => ?_
    refine canon_tile 512 2048 _ _ _ (fun y => tv (iblk m c 0 t) (iblk m c 1 t) (iblk m c 2 t) (iblk m c 3 t) y) y (by omega) (by omega) hy (fun i => tile_even 512 2048 2048 rfl rfl _ _ _ _ _ (iblk m c 0 t) (iblk m c 1 t) (iblk m c 2 t) (iblk m c 3 t) i) fun hy => ?_
    refine canon_tile 512 1920 _ _ _ (fun y => tv (iblk m c 0 t) (iblk m c 1 t) (iblk m c 2 t) (iblk m c 3 t) y) y (by omega) (by omega) hy (fun i => tile_odd 512 1792 1920 rfl rfl _ _ _ _ _ (iblk m c 0 t) (iblk m c 1 t) (iblk m c 2 t) (iblk m c 3 t) i) fun hy => ?_
    refine canon_tile 512 1792 _ _ _ (fun y => tv (iblk m c 0 t) (iblk m c 1 t) (iblk m c 2 t) (iblk m c 3 t) y) y (by omega) (by omega) hy (fun i => tile_even 512 1792 1792 rfl rfl _ _ _ _ _ (iblk m c 0 t) (iblk m c 1 t) (iblk m c 2 t) (iblk m c 3 t) i) fun hy => ?_
    refine canon_tile 512 1664 _ _ _ (fun y => tv (iblk m c 0 t) (iblk m c 1 t) (iblk m c 2 t) (iblk m c 3 t) y) y (by omega) (by omega) hy (fun i => tile_odd 512 1536 1664 rfl rfl _ _ _ _ _ (iblk m c 0 t) (iblk m c 1 t) (iblk m c 2 t) (iblk m c 3 t) i) fun hy => ?_
    refine canon_tile 512 1536 _ _ _ (fun y => tv (iblk m c 0 t) (iblk m c 1 t) (iblk m c 2 t) (iblk m c 3 t) y) y (by omega) (by omega) hy (fun i => tile_even 512 1536 1536 rfl rfl _ _ _ _ _ (iblk m c 0 t) (iblk m c 1 t) (iblk m c 2 t) (iblk m c 3 t) i) fun hy => ?_
    refine canon_tile 512 1408 _ _ _ (fun y => tv (iblk m c 0 t) (iblk m c 1 t) (iblk m c 2 t) (iblk m c 3 t) y) y (by omega) (by omega) hy (fun i => tile_odd 512 1280 1408 rfl rfl _ _ _ _ _ (iblk m c 0 t) (iblk m c 1 t) (iblk m c 2 t) (iblk m c 3 t) i) fun hy => ?_
    refine canon_tile 512 1280 _ _ _ (fun y => tv (iblk m c 0 t) (iblk m c 1 t) (iblk m c 2 t) (iblk m c 3 t) y) y (by omega) (by omega) hy (fun i => tile_even 512 1280 1280 rfl rfl _ _ _ _ _ (iblk m c 0 t) (iblk m c 1 t) (iblk m c 2 t) (iblk m c 3 t) i) fun hy => ?_
    refine canon_tile 512 1152 _ _ _ (fun y => tv (iblk m c 0 t) (iblk m c 1 t) (iblk m c 2 t) (iblk m c 3 t) y) y (by omega) (by omega) hy (fun i => tile_odd 512 1024 1152 rfl rfl _ _ _ _ _ (iblk m c 0 t) (iblk m c 1 t) (iblk m c 2 t) (iblk m c 3 t) i) fun hy => ?_
    refine canon_tile 512 1024 _ _ _ (fun y => tv (iblk m c 0 t) (iblk m c 1 t) (iblk m c 2 t) (iblk m c 3 t) y) y (by omega) (by omega) hy (fun i => tile_even 512 1024 1024 rfl rfl _ _ _ _ _ (iblk m c 0 t) (iblk m c 1 t) (iblk m c 2 t) (iblk m c 3 t) i) fun hy => ?_
    refine canon_tile 512 896 _ _ _ (fun y => tv (iblk m c 0 t) (iblk m c 1 t) (iblk m c 2 t) (iblk m c 3 t) y) y (by omega) (by omega) hy (fun i => tile_odd 512 768 896 rfl rfl _ _ _ _ _ (iblk m c 0 t) (iblk m c 1 t) (iblk m c 2 t) (iblk m c 3 t) i) fun hy => ?_
    refine canon_tile 512 768 _ _ _ (fun y => tv (iblk m c 0 t) (iblk m c 1 t) (iblk m c 2 t) (iblk m c 3 t) y) y (by omega) (by omega) hy (fun i => tile_even 512 768 768 rfl rfl _ _ _ _ _ (iblk m c 0 t) (iblk m c 1 t) (iblk m c 2 t) (iblk m c 3 t) i) fun hy => ?_
    refine canon_tile 512 640 _ _ _ (fun y => tv (iblk m c 0 t) (iblk m c 1 t) (iblk m c 2 t) (iblk m c 3 t) y) y (by omega) (by omega) hy (fun i => tile_odd 512 512 640 rfl rfl _ _ _ _ _ (iblk m c 0 t) (iblk m c 1 t) (iblk m c 2 t) (iblk m c 3 t) i) fun hy => ?_
    refine canon_tile 512 512 _ _ _ (fun y => tv (iblk m c 0 t) (iblk m c 1 t) (iblk m c 2 t) (iblk m c 3 t) y) y (by omega) (by omega) hy (fun i => tile_even 512 512 512 rfl rfl _ _ _ _ _ (iblk m c 0 t) (iblk m c 1 t) (iblk m c 2 t) (iblk m c 3 t) i) fun hy => ?_
    refine canon_tile 512 384 _ _ _ (fun y => tv (iblk m c 0 t) (iblk m c 1 t) (iblk m c 2 t) (iblk m c 3 t) y) y (by omega) (by omega) hy (fun i => tile_odd 512 256 384 rfl rfl _ _ _ _ _ (iblk m c 0 t) (iblk m c 1 t) (iblk m c 2 t) (iblk m c 3 t) i) fun hy => ?_
    refine canon_tile 512 256 _ _ _ (fun y => tv (iblk m c 0 t) (iblk m c 1 t) (iblk m c 2 t) (iblk m c 3 t) y) y (by omega) (by omega) hy (fun i => tile_even 512 256 256 rfl rfl _ _ _ _ _ (iblk m c 0 t) (iblk m c 1 t) (iblk m c 2 t) (iblk m c 3 t) i) fun hy => ?_
    refine canon_tile 512 128 _ _ _ (fun y => tv (iblk m c 0 t) (iblk m c 1 t) (iblk m c 2 t) (iblk m c 3 t) y) y (by omega) (by omega) hy (fun i => tile_odd 512 0 128 rfl rfl _ _ _ _ _ (iblk m c 0 t) (iblk m c 1 t) (iblk m c 2 t) (iblk m c 3 t) i) fun hy => ?_
    refine canon_tile 512 0 _ _ _ (fun y => tv (iblk m c 0 t) (iblk m c 1 t) (iblk m c 2 t) (iblk m c 3 t) y) y (by omega) (by omega) hy (fun i => tile_even 512 0 0 rfl rfl _ _ _ _ _ (iblk m c 0 t) (iblk m c 1 t) (iblk m c 2 t) (iblk m c 3 t) i) fun hy => ?_
    exact absurd hy (Nat.not_lt_zero _)
  · iterate 24 refine canon_pass 512 _ _ _ _ y (by omega) _ ?_
    refine canon_tile 0 2944 _ _ _ (fun y => tv (iblk m c 0 t) (iblk m c 1 t) (iblk m c 2 t) (iblk m c 3 t) y) y (by omega) (by omega) hy (fun i => tile_odd 0 2816 2944 rfl rfl _ _ _ _ _ (iblk m c 0 t) (iblk m c 1 t) (iblk m c 2 t) (iblk m c 3 t) i) fun hy => ?_
    refine canon_tile 0 2816 _ _ _ (fun y => tv (iblk m c 0 t) (iblk m c 1 t) (iblk m c 2 t) (iblk m c 3 t) y) y (by omega) (by omega) hy (fun i => tile_even 0 2816 2816 rfl rfl _ _ _ _ _ (iblk m c 0 t) (iblk m c 1 t) (iblk m c 2 t) (iblk m c 3 t) i) fun hy => ?_
    refine canon_tile 0 2688 _ _ _ (fun y => tv (iblk m c 0 t) (iblk m c 1 t) (iblk m c 2 t) (iblk m c 3 t) y) y (by omega) (by omega) hy (fun i => tile_odd 0 2560 2688 rfl rfl _ _ _ _ _ (iblk m c 0 t) (iblk m c 1 t) (iblk m c 2 t) (iblk m c 3 t) i) fun hy => ?_
    refine canon_tile 0 2560 _ _ _ (fun y => tv (iblk m c 0 t) (iblk m c 1 t) (iblk m c 2 t) (iblk m c 3 t) y) y (by omega) (by omega) hy (fun i => tile_even 0 2560 2560 rfl rfl _ _ _ _ _ (iblk m c 0 t) (iblk m c 1 t) (iblk m c 2 t) (iblk m c 3 t) i) fun hy => ?_
    refine canon_tile 0 2432 _ _ _ (fun y => tv (iblk m c 0 t) (iblk m c 1 t) (iblk m c 2 t) (iblk m c 3 t) y) y (by omega) (by omega) hy (fun i => tile_odd 0 2304 2432 rfl rfl _ _ _ _ _ (iblk m c 0 t) (iblk m c 1 t) (iblk m c 2 t) (iblk m c 3 t) i) fun hy => ?_
    refine canon_tile 0 2304 _ _ _ (fun y => tv (iblk m c 0 t) (iblk m c 1 t) (iblk m c 2 t) (iblk m c 3 t) y) y (by omega) (by omega) hy (fun i => tile_even 0 2304 2304 rfl rfl _ _ _ _ _ (iblk m c 0 t) (iblk m c 1 t) (iblk m c 2 t) (iblk m c 3 t) i) fun hy => ?_
    refine canon_tile 0 2176 _ _ _ (fun y => tv (iblk m c 0 t) (iblk m c 1 t) (iblk m c 2 t) (iblk m c 3 t) y) y (by omega) (by omega) hy (fun i => tile_odd 0 2048 2176 rfl rfl _ _ _ _ _ (iblk m c 0 t) (iblk m c 1 t) (iblk m c 2 t) (iblk m c 3 t) i) fun hy => ?_
    refine canon_tile 0 2048 _ _ _ (fun y => tv (iblk m c 0 t) (iblk m c 1 t) (iblk m c 2 t) (iblk m c 3 t) y) y (by omega) (by omega) hy (fun i => tile_even 0 2048 2048 rfl rfl _ _ _ _ _ (iblk m c 0 t) (iblk m c 1 t) (iblk m c 2 t) (iblk m c 3 t) i) fun hy => ?_
    refine canon_tile 0 1920 _ _ _ (fun y => tv (iblk m c 0 t) (iblk m c 1 t) (iblk m c 2 t) (iblk m c 3 t) y) y (by omega) (by omega) hy (fun i => tile_odd 0 1792 1920 rfl rfl _ _ _ _ _ (iblk m c 0 t) (iblk m c 1 t) (iblk m c 2 t) (iblk m c 3 t) i) fun hy => ?_
    refine canon_tile 0 1792 _ _ _ (fun y => tv (iblk m c 0 t) (iblk m c 1 t) (iblk m c 2 t) (iblk m c 3 t) y) y (by omega) (by omega) hy (fun i => tile_even 0 1792 1792 rfl rfl _ _ _ _ _ (iblk m c 0 t) (iblk m c 1 t) (iblk m c 2 t) (iblk m c 3 t) i) fun hy => ?_
    refine canon_tile 0 1664 _ _ _ (fun y => tv (iblk m c 0 t) (iblk m c 1 t) (iblk m c 2 t) (iblk m c 3 t) y) y (by omega) (by omega) hy (fun i => tile_odd 0 1536 1664 rfl rfl _ _ _ _ _ (iblk m c 0 t) (iblk m c 1 t) (iblk m c 2 t) (iblk m c 3 t) i) fun hy => ?_
    refine canon_tile 0 1536 _ _ _ (fun y => tv (iblk m c 0 t) (iblk m c 1 t) (iblk m c 2 t) (iblk m c 3 t) y) y (by omega) (by omega) hy (fun i => tile_even 0 1536 1536 rfl rfl _ _ _ _ _ (iblk m c 0 t) (iblk m c 1 t) (iblk m c 2 t) (iblk m c 3 t) i) fun hy => ?_
    refine canon_tile 0 1408 _ _ _ (fun y => tv (iblk m c 0 t) (iblk m c 1 t) (iblk m c 2 t) (iblk m c 3 t) y) y (by omega) (by omega) hy (fun i => tile_odd 0 1280 1408 rfl rfl _ _ _ _ _ (iblk m c 0 t) (iblk m c 1 t) (iblk m c 2 t) (iblk m c 3 t) i) fun hy => ?_
    refine canon_tile 0 1280 _ _ _ (fun y => tv (iblk m c 0 t) (iblk m c 1 t) (iblk m c 2 t) (iblk m c 3 t) y) y (by omega) (by omega) hy (fun i => tile_even 0 1280 1280 rfl rfl _ _ _ _ _ (iblk m c 0 t) (iblk m c 1 t) (iblk m c 2 t) (iblk m c 3 t) i) fun hy => ?_
    refine canon_tile 0 1152 _ _ _ (fun y => tv (iblk m c 0 t) (iblk m c 1 t) (iblk m c 2 t) (iblk m c 3 t) y) y (by omega) (by omega) hy (fun i => tile_odd 0 1024 1152 rfl rfl _ _ _ _ _ (iblk m c 0 t) (iblk m c 1 t) (iblk m c 2 t) (iblk m c 3 t) i) fun hy => ?_
    refine canon_tile 0 1024 _ _ _ (fun y => tv (iblk m c 0 t) (iblk m c 1 t) (iblk m c 2 t) (iblk m c 3 t) y) y (by omega) (by omega) hy (fun i => tile_even 0 1024 1024 rfl rfl _ _ _ _ _ (iblk m c 0 t) (iblk m c 1 t) (iblk m c 2 t) (iblk m c 3 t) i) fun hy => ?_
    refine canon_tile 0 896 _ _ _ (fun y => tv (iblk m c 0 t) (iblk m c 1 t) (iblk m c 2 t) (iblk m c 3 t) y) y (by omega) (by omega) hy (fun i => tile_odd 0 768 896 rfl rfl _ _ _ _ _ (iblk m c 0 t) (iblk m c 1 t) (iblk m c 2 t) (iblk m c 3 t) i) fun hy => ?_
    refine canon_tile 0 768 _ _ _ (fun y => tv (iblk m c 0 t) (iblk m c 1 t) (iblk m c 2 t) (iblk m c 3 t) y) y (by omega) (by omega) hy (fun i => tile_even 0 768 768 rfl rfl _ _ _ _ _ (iblk m c 0 t) (iblk m c 1 t) (iblk m c 2 t) (iblk m c 3 t) i) fun hy => ?_
    refine canon_tile 0 640 _ _ _ (fun y => tv (iblk m c 0 t) (iblk m c 1 t) (iblk m c 2 t) (iblk m c 3 t) y) y (by omega) (by omega) hy (fun i => tile_odd 0 512 640 rfl rfl _ _ _ _ _ (iblk m c 0 t) (iblk m c 1 t) (iblk m c 2 t) (iblk m c 3 t) i) fun hy => ?_
    refine canon_tile 0 512 _ _ _ (fun y => tv (iblk m c 0 t) (iblk m c 1 t) (iblk m c 2 t) (iblk m c 3 t) y) y (by omega) (by omega) hy (fun i => tile_even 0 512 512 rfl rfl _ _ _ _ _ (iblk m c 0 t) (iblk m c 1 t) (iblk m c 2 t) (iblk m c 3 t) i) fun hy => ?_
    refine canon_tile 0 384 _ _ _ (fun y => tv (iblk m c 0 t) (iblk m c 1 t) (iblk m c 2 t) (iblk m c 3 t) y) y (by omega) (by omega) hy (fun i => tile_odd 0 256 384 rfl rfl _ _ _ _ _ (iblk m c 0 t) (iblk m c 1 t) (iblk m c 2 t) (iblk m c 3 t) i) fun hy => ?_
    refine canon_tile 0 256 _ _ _ (fun y => tv (iblk m c 0 t) (iblk m c 1 t) (iblk m c 2 t) (iblk m c 3 t) y) y (by omega) (by omega) hy (fun i => tile_even 0 256 256 rfl rfl _ _ _ _ _ (iblk m c 0 t) (iblk m c 1 t) (iblk m c 2 t) (iblk m c 3 t) i) fun hy => ?_
    refine canon_tile 0 128 _ _ _ (fun y => tv (iblk m c 0 t) (iblk m c 1 t) (iblk m c 2 t) (iblk m c 3 t) y) y (by omega) (by omega) hy (fun i => tile_odd 0 0 128 rfl rfl _ _ _ _ _ (iblk m c 0 t) (iblk m c 1 t) (iblk m c 2 t) (iblk m c 3 t) i) fun hy => ?_
    refine canon_tile 0 0 _ _ _ (fun y => tv (iblk m c 0 t) (iblk m c 1 t) (iblk m c 2 t) (iblk m c 3 t) y) y (by omega) (by omega) hy (fun i => tile_even 0 0 0 rfl rfl _ _ _ _ _ (iblk m c 0 t) (iblk m c 1 t) (iblk m c 2 t) (iblk m c 3 t) i) fun hy => ?_
    exact absurd hy (Nat.not_lt_zero _)

end Cert.FwdIdeal.Value
-- ==== Proof.FwdSC.lean ====
module

public import proofs.«01_k».proof.Proof.FwdBase

@[expose] public section
noncomputable section
namespace Cert.FwdIdeal.Value
open Cert.FwdIdeal Cert.FwdIdeal.Gen Idealize.ShloMosaic Idealize.ShloMosaic.TcCoe Idealize.SL.Sem

variable (m : (ℓ : Loc nD τ sig) → Buf (Elt Ideal) ℓ)

set_option maxHeartbeats 4000000 in
theorem sC (c : Dev nD) (t : Fin cfg0.N) (h0 : ¬t.val % 8 = 0) (h1 : t.val % 8 = 7) (y : S1024x128.Idx) :
    (outsAt0 m c t.val t.isLt).2.2 y = (outsAt0 m c (t.val - 1) (Nat.lt_of_le_of_lt (Nat.sub_le _ _) t.isLt)).2.2 y + ∑ j, ev (iblk m c 0 t) (iblk m c 1 t) (iblk m c 2 t) (iblk m c 3 t) y j := by
  rw [← sum24, outsAt0_C m c t h0 h1]
  dsimp only
  frame_open
  simp (disch := decide) only [↓ View.readCov_skip, ↓ View.readCov_cons_toLoadRect, ↓ View.readCov_fill]
  frame_out
  have hy : (y 0).val < 1024 := (y 0).isLt
  by_cases h : 512 ≤ (y 0).val
  · refine canon_hit 512 _ _ _ y h (by omega) _ fun i e0 e1 => ?_
    refine (pay_sum 512 2816 11 rfl (by decide) _ _ _ _ (iblk m c 0 t) (iblk m c 1 t) (iblk m c 2 t) (iblk m c 3 t) i y e0 e1 _).trans (congrArg (· + _) ?_)
    refine (pay_sum 512 2560 10 rfl (by decide) _ _ _ _ (iblk m c 0 t) (iblk m c 1 t) (iblk m c 2 t) (iblk m c 3 t) i y e0 e1 _).trans (congrArg (· + _) ?_)
    refine (pay_sum 512 2304 9 rfl (by decide) _ _ _ _ (iblk m c 0 t) (iblk m c 1 t) (iblk m c 2 t) (iblk m c 3 t) i y e0 e1 _).trans (congrArg (· + _) ?_)
    refine (pay_sum 512 2048 8 rfl (by decide) _ _ _ _ (iblk m c 0 t) (iblk m c 1 t) (iblk m c 2 t) (iblk m c 3 t) i y e0 e1 _).trans (congrArg (· + _) ?_)
    refine (pay_sum 512 1792 7 rfl (by decide) _ _ _ _ (iblk m c 0 t) (iblk m c 1 t) (iblk m c 2 t) (iblk m c 3 t) i y e0 e1 _).trans (congrArg (· + _) ?_)
    refine (pay_sum 512 1536 6 rfl (by decide) _ _ _ _ (iblk m c 0 t) (iblk m c 1 t) (iblk m c 2 t) (iblk m c 3 t) i y e0 e1 _).trans (congrArg (· + _) ?_)
    refine (pay_sum 512 1280 5 rfl (by decide) _ _ _ _ (iblk m c 0 t) (iblk m c 1 t) (iblk m c 2 t) (iblk m c 3 t) i y e0 e1 _).trans (congrArg (· + _) ?_)
    refine (pay_sum 512 1024 4 rfl (by decide) _ _ _ _ (iblk m c 0 t) (iblk m c 1 t) (iblk m c 2 t) (iblk m c 3 t) i y e0 e1 _).trans (congrArg (· + _) ?_)
    refine (pay_sum 512 768 3 rfl (by decide) _ _ _ _ (iblk m c 0 t) (iblk m c 1 t) (iblk m c 2 t) (iblk m c 3 t) i y e0 e1 _).trans (congrArg (· + _) ?_)
    refine (pay_sum 512 512 2 rfl (by decide) _ _ _ _ (iblk m c 0 t) (iblk m c 1 t) (iblk m c 2 t) (iblk m c 3 t) i y e0 e1 _).trans (congrArg (· + _) ?_)
    refine (pay_sum 512 256 1 rfl (by decide) _ _ _ _ (iblk m c 0 t) (iblk m c 1 t) (iblk m c 2 t) (iblk m c 3 t) i y e0 e1 _).trans (congrArg (· + _) ?_)
    refine (pay_sum 512 0 0 rfl (by decide) _ _ _ _ (iblk m c 0 t) (iblk m c 1 t) (iblk m c 2 t) (iblk m c 3 t) i y e0 e1 _).trans (congrArg (· + _) ?_)
    rw [read_unread_whole]
    exact old_row _ _ _ y i e0 e1
  · iterate 12 refine canon_skip 512 _ _ _ y (by omega) _ ?_
    refine canon_hit 0 _ _ _ y (by omega) (by omega) _ fun i e0 e1 => ?_
    refine (pay_sum 0 2816 11 rfl (by decide) _ _ _ _ (iblk m c 0 t) (iblk m c 1 t) (iblk m c 2 t) (iblk m c 3 t) i y e0 e1 _).trans (congrArg (· + _) ?_)
    refine (pay_sum 0 2560 10 rfl (by decide) _ _ _ _ (iblk m c 0 t) (iblk m c 1 t) (iblk m c 2 t) (iblk m c 3 t) i y e0 e1 _).trans (congrArg (· + _) ?_)
    refine (pay_sum 0 2304 9 rfl (by decide) _ _ _ _ (iblk m c 0 t) (iblk m c 1 t) (iblk m c 2 t) (iblk m c 3 t) i y e0 e1 _).trans (congrArg (· + _) ?_)
    refine (pay_sum 0 2048 8 rfl (by decide) _ _ _ _ (iblk m c 0 t) (iblk m c 1 t) (iblk m c 2 t) (iblk m c 3 t) i y e0 e1 _).trans (congrArg (· + _) ?_)
    refine (pay_sum 0 1792 7 rfl (by decide) _ _ _ _ (iblk m c 0 t) (iblk m c 1 t) (iblk m c 2 t) (iblk m c 3 t) i y e0 e1 _).trans (congrArg (· + _) ?_)
    refine (pay_sum 0 1536 6 rfl (by decide) _ _ _ _ (iblk m c 0 t) (iblk m c 1 t) (iblk m c 2 t) (iblk m c 3 t) i y e0 e1 _).trans (congrArg (· + _) ?_)
    refine (pay_sum 0 1280 5 rfl (by decide) _ _ _ _ (iblk m c 0 t) (iblk m c 1 t) (iblk m c 2 t) (iblk m c 3 t) i y e0 e1 _).trans (congrArg (· + _) ?_)
    refine (pay_sum 0 1024 4 rfl (by decide) _ _ _ _ (iblk m c 0 t) (iblk m c 1 t) (iblk m c 2 t) (iblk m c 3 t) i y e0 e1 _).trans (congrArg (· + _) ?_)
    refine (pay_sum 0 768 3 rfl (by decide) _ _ _ _ (iblk m c 0 t) (iblk m c 1 t) (iblk m c 2 t) (iblk m c 3 t) i y e0 e1 _).trans (congrArg (· + _) ?_)
    refine (pay_sum 0 512 2 rfl (by decide) _ _ _ _ (iblk m c 0 t) (iblk m c 1 t) (iblk m c 2 t) (iblk m c 3 t) i y e0 e1 _).trans (congrArg (· + _) ?_)
    refine (pay_sum 0 256 1 rfl (by decide) _ _ _ _ (iblk m c 0 t) (iblk m c 1 t) (iblk m c 2 t) (iblk m c 3 t) i y e0 e1 _).trans (congrArg (· + _) ?_)
    refine (pay_sum 0 0 0 rfl (by decide) _ _ _ _ (iblk m c 0 t) (iblk m c 1 t) (iblk m c 2 t) (iblk m c 3 t) i y e0 e1 _).trans (congrArg (· + _) ?_)
    rw [read_unread_whole]
    exact old_row _ _ _ y i e0 e1

end Cert.FwdIdeal.Value
-- ==== Proof.FwdOC.lean ====
module

public import proofs.«01_k».proof.Proof.FwdBase

@[expose] public section
noncomputable section
namespace Cert.FwdIdeal.Value
open Cert.FwdIdeal Cert.FwdIdeal.Gen Idealize.ShloMosaic Idealize.ShloMosaic.TcCoe Idealize.SL.Sem

variable (m : (ℓ : Loc nD τ sig) → Buf (Elt Ideal) ℓ)

set_option maxHeartbeats 4000000 in
/-- At a token tile's last point the second output is computed from the running sums just completed. -/
theorem oC (c : Dev nD) (t : Fin cfg0.N) (h0 : ¬t.val % 8 = 0) (h1 : t.val % 8 = 7) :
    (outsAt0 m c t.val t.isLt).2.1 = k0_pay2 (outsAt0 m c t.val t.isLt).2.2 := by
  rw [outsAt0_C m c t h0 h1]
  dsimp only
  refine (View.read_writes_junk_eq_canon (Val := Elt Ideal) _ _).trans ?_
  refine (View.canon_unit_zero (Val := Elt Ideal) (by funext a; fin_cases a <;> rfl) _ _).trans (congrArg _ ?_)
  refine (View.readCov_eq_canon' (Val := Elt Ideal) _ _ _).trans (Eq.trans ?_ (View.read_writes_junk_eq_canon (Val := Elt Ideal) _ _).symm)
  funext y
  exact congrArg _ (funext fun a => Fin.ext ((Rect.idx_unit_val _ _ _ y a).trans (by fin_cases a <;> exact Nat.zero_add _)))

end Cert.FwdIdeal.Value
-- ==== Proof.FwdValue.lean ====
module

public import proofs.«01_k».proof.Proof.FwdTA
public import proofs.«01_k».proof.Proof.FwdSA
public import proofs.«01_k».proof.Proof.FwdTB
public import proofs.«01_k».proof.Proof.FwdSB
public import proofs.«01_k».proof.Proof.FwdTC
public import proofs.«01_k».proof.Proof.FwdSC
public import proofs.«01_k».proof.Proof.FwdOC

@[expose] public section

end
-- ==== Proof.Cap.lean ====
module

public import Idealize.ShloMosaic.PureOps.Ideal
public import Idealize.ShloMosaic.PureOps.Ideal.Laws
public import Mathlib.Analysis.SpecialFunctions.Log.Basic
public import Mathlib.Analysis.SpecialFunctions.Pow.Real

@[expose] public section
noncomputable section
namespace Cert.Cap
open Idealize.ShloMosaic

/-- A hyperbolic tangent is a real number between -1 and 1 at every extended real. -/
theorem tanh_real (x : EReal) : ∃ r : ℝ, Ideal.tanh x = (r : EReal) ∧ -1 ≤ r ∧ r ≤ 1 := by
  induction x using EReal.rec with
  | bot => exact ⟨-1, by rw [Ideal.tanh_bot]; rfl, by norm_num, by norm_num⟩
  | top => exact ⟨1, by rw [Ideal.tanh_top]; rfl, by norm_num, by norm_num⟩
  | coe r => exact ⟨Real.tanh r, rfl, (Real.neg_one_lt_tanh r).le, (Real.tanh_lt_one r).le⟩

/-- A sum of reals, taken in the extended reals. -/
theorem coe_sum {n : Nat} (f : Fin n → ℝ) : (∑ k, (f k : EReal)) = ((∑ k, f k : ℝ) : EReal) :=
  (map_sum (⟨⟨fun x : ℝ => (x : EReal), EReal.coe_zero⟩, EReal.coe_add⟩ : ℝ →+ EReal) f Finset.univ).symm

/-- The running maximum of reals from minus infinity is a real. -/
theorem fold_max_real {ι : Type} [DecidableEq ι] (s : Finset ι) (hs : s.Nonempty) (f : ι → EReal) (hf : ∀ k, ∃ r : ℝ, f k = (r : EReal)) :
    ∃ z : ℝ, s.fold max (⊥ : EReal) f = (z : EReal) := by
  induction hs using Finset.Nonempty.cons_induction with
  | singleton a => obtain ⟨r, hr⟩ := hf a; exact ⟨r, by simp [hr]⟩
  | cons a s ha hs ih =>
    obtain ⟨r, hr⟩ := hf a
    obtain ⟨z, hz⟩ := ih
    exact ⟨max r z, by rw [Finset.fold_cons, hr, hz]; exact (EReal.coe_strictMono.monotone.map_max (a := r) (b := z)).symm⟩

/-- The logarithm of the sum of exponentials, base two around the cap 30 and base e around any real `z`: the two are one number. -/
theorem lse_eq {n : Nat} (hn : 0 < n) (t : Fin n → EReal) (ht : ∀ k, ∃ r : ℝ, t k = (r : EReal)) (z : ℝ) :
    ((30 * (Real.log 2)⁻¹ : ℝ) : EReal) + Ideal.log (∑ k, Ideal.exp2 (t k * ((30 * (Real.log 2)⁻¹ : ℝ) : EReal) - ((30 * (Real.log 2)⁻¹ : ℝ) : EReal))) * (((Real.log 2)⁻¹ : ℝ) : EReal)
      = Ideal.div ((z : EReal) + Ideal.log (∑ k, Ideal.exp (((30 : ℝ) : EReal) * t k - (z : EReal)))) ((Real.log 2 : ℝ) : EReal) := by
  have l2 : 0 < Real.log 2 := Real.log_pos (by norm_num)
  choose r hr using ht
  have hne : (Finset.univ : Finset (Fin n)).Nonempty := ⟨⟨0, hn⟩, Finset.mem_univ _⟩
  have hA : ∀ k, Ideal.exp2 (t k * ((30 * (Real.log 2)⁻¹ : ℝ) : EReal) - ((30 * (Real.log 2)⁻¹ : ℝ) : EReal)) = ((Real.exp (z - 30) * Real.exp (30 * r k - z) : ℝ) : EReal) := fun k => by
    rw [hr, ← EReal.coe_mul, ← EReal.coe_sub, Ideal.exp2_coe, ← Real.exp_add]
    congr 1
    show (2 : ℝ) ^ (_ : ℝ) = _
    rw [Real.rpow_def_of_pos (by norm_num)]
    congr 1
    field_simp
    ring
  have hB : ∀ k, Ideal.exp (((30 : ℝ) : EReal) * t k - (z : EReal)) = ((Real.exp (30 * r k - z) : ℝ) : EReal) := fun k => by
    rw [hr, ← EReal.coe_mul, ← EReal.coe_sub]; rfl
  simp only [hA, hB]
  rw [coe_sum, coe_sum, ← Finset.mul_sum]
  have hS : 0 < ∑ k, Real.exp (30 * r k - z) := Finset.sum_pos (fun k _ => Real.exp_pos _) hne
  have logc : ∀ x : ℝ, 0 < x → Ideal.log (x : EReal) = ((Real.log x : ℝ) : EReal) := fun x hx => by
    show (if x ≤ 0 then (⊥ : EReal) else _) = _
    rw [if_neg (not_le.mpr hx)]
  rw [logc _ hS, logc _ (mul_pos (Real.exp_pos _) hS), Real.log_mul (Real.exp_pos _).ne' hS.ne', Real.log_exp, ← EReal.coe_mul, ← EReal.coe_add, ← EReal.coe_add,
    Ideal.div_coe l2.ne']
  congr 1
  field_simp
  ring

end Cert.Cap
-- ==== Proof.FwdFinal.lean ====
module

public import proofs.«01_k».proof.Proof.FwdValue
public import proofs.«01_k».proof.Proof.Cap

@[expose] public section
noncomputable section
namespace Cert.FwdIdeal.Value
open Cert.FwdIdeal Cert.FwdIdeal.Gen Idealize.ShloMosaic Idealize.ShloMosaic.TcCoe Idealize.SL.Sem

variable (m : (ℓ : Loc nD τ sig) → Buf (Elt Ideal) ℓ)

/-- The windows' block indices at a point. -/
theorem idx (t : Fin cfg0.N) : win0_0.index t = ![t.val / 8, 0] ∧ win0_1.index t = ![t.val / 8, 0] ∧ win0_2.index t = ![t.val % 8, 0]
    ∧ win0_3.index t = ![0, t.val % 8] ∧ win0_4.index t = ![t.val / 8, t.val % 8] ∧ win0_5.index t = ![t.val / 8, 0] := by
  revert t; decide +kernel

/-- The four arguments, as plain arrays. -/
abbrev A0 (c : Dev nD) : Vec Ideal S12288x2304 .fp8e4m3 := m ((c : Thread nD τ).loc main_arg0)
abbrev A1 (c : Dev nD) : Vec Ideal S12288 .f32 := m ((c : Thread nD τ).loc main_arg1)
abbrev A2 (c : Dev nD) : Vec Ideal S24576x2304 .fp8e4m3 := m ((c : Thread nD τ).loc main_arg2)
abbrev A3 (c : Dev nD) : Vec Ideal S24576 .f32 := m ((c : Thread nD τ).loc main_arg3)

/-- The capped logit of token `r` and vocabulary entry `v`, before the factor 30. -/
def tG (h : Vec Ideal S12288x2304 .fp8e4m3) (hs : Vec Ideal S12288 .f32) (w : Vec Ideal S24576x2304 .fp8e4m3) (ws : Vec Ideal S24576 .f32)
    (r : Fin 12288) (v : Fin 24576) : Ideal .f32 :=
  Ideal.tanh ((∑ k : Fin 2304, h (ix2 r k) * w (ix2 v k)) * hs (ix1 r) * (ws (ix1 v) * IC))

/-- The token scales the host hands the call: each repeated over its row's lanes; -/
theorem hs_read (c : Dev nD) (g : S12288x128.Idx) : (V m c main_v2 : Vec Ideal S12288x128 .f32) g = A1 m c (ix1 (g 0)) := by
  entry_read
  pointwise

/-- and the vocabulary scales, as one row. -/
theorem ws_read (c : Dev nD) (g : S1x24576.Idx) : (V m c main_v0 : Vec Ideal S1x24576 .f32) g = A3 m c (ix1 (g 1)) := by
  entry_read
  pointwise

/-- What a point computes at `y` of its block is the logit of that token and entry. -/
theorem tv_block (c : Dev nD) (t : Fin cfg0.N) (y : S1024x3072.Idx) (r : Fin 12288) (v : Fin 24576) (hr : r.val = t.val / 8 * 1024 + (y 0).val)
    (hv : v.val = t.val % 8 * 3072 + (y 1).val) :
    tv (iblk m c 0 t) (iblk m c 1 t) (iblk m c 2 t) (iblk m c 3 t) y = tG (A0 m c) (A1 m c) (A2 m c) (A3 m c) r v := by
  unfold tv tG
  have hy : (y 1).val < 3072 := (y 1).isLt
  have b1 : iblk m c 1 t (ix2 (y 0) ⟨(y 1).val % 128, Nat.mod_lt _ (by decide)⟩) = V m c main_v2 (ix2 r ⟨(y 1).val % 128, Nat.mod_lt _ (by decide)⟩) := by
    blk_ext [iblk, (idx t).2.1]
  have b3 : iblk m c 3 t (ix2 0 (y 1)) = V m c main_v0 (ix2 0 v) := by
    blk_ext [iblk, (idx t).2.2.2.1]
  refine congrArg _ (congrArg₂ _ (congrArg₂ _ (Finset.sum_congr rfl fun k _ => congrArg₂ _ ?_ ?_) (b1.trans (hs_read m c _))) (congrArg (· * _) (b3.trans (ws_read m c _))))
  · blk_ext [iblk, V, (idx t).1]
  · blk_ext [iblk, V, (idx t).2.2.1]

theorem tAll (c : Dev nD) (t : Fin cfg0.N) (y : S1024x3072.Idx) :
    (outsAt0 m c t.val t.isLt).1 y = tv (iblk m c 0 t) (iblk m c 1 t) (iblk m c 2 t) (iblk m c 3 t) y := by
  by_cases h0 : t.val % 8 = 0
  · exact tA m c t h0 (by omega) y
  · by_cases h1 : t.val % 8 = 7
    · exact tC m c t h0 h1 y
    · exact tB m c t h0 h1 y

/-- The first result. -/
theorem final4_eq (c : Dev nD) : (dats m 0 c).arrAt 4 cfg0.N = fun i => tG (A0 m c) (A1 m c) (A2 m c) (A3 m c) (i 0) (i 1) := by
  refine (dats m 0 c).arrAt_eq_of_covers 4 _ (by decide +kernel) fun t hf y => ?_
  blk_simp
  rw [after0_4, tAll]
  refine tv_block m c t y _ _ ?_ ?_
  · blk_simp [(idx t).2.2.2.2.1]
  · blk_simp [(idx t).2.2.2.2.1]

/-- The second result: base two logarithms of the sums of exponentials. -/
def lseK (h : Vec Ideal S12288x2304 .fp8e4m3) (hs : Vec Ideal S12288 .f32) (w : Vec Ideal S24576x2304 .fp8e4m3) (ws : Vec Ideal S24576 .f32)
    (r : Fin 12288) : Ideal .f32 :=
  CL + Ideal.log (∑ v : Fin 24576, Ideal.exp2 (tG h hs w ws r v * CL - CL)) * L2

theorem final5_eq (c : Dev nD) : (dats m 0 c).arrAt 5 cfg0.N = fun i => lseK (A0 m c) (A1 m c) (A2 m c) (A3 m c) (i 0) := by
  refine (dats m 0 c).arrAt_eq_of_covers 5 _ (by decide +kernel) fun t hf y => ?_
  have ht : t.val % 8 = 7 := (flush0_5 t).mp hf
  have hN : t.val < 96 := lt_of_lt_of_eq t.isLt (show cfg0.N = 96 from N_0)
  blk_simp
  rw [after0_5, oC m c t (by omega) ht]
  have e0 : (((win0_5.blk t).view.emb y) 0).val = t.val / 8 * 1024 + (y 0).val := by
    blk_simp [(idx t).2.2.2.2.2]
  generalize (win0_5.blk t).view.emb y = z at e0 ⊢
  have hy : (y 0).val < 1024 := (y 0).isLt
  unfold k0_pay2 lseK
  pointwise
  refine congrArg (CL + Ideal.log · * L2) ?_
  have fold := fun l : Fin 128 => Pipeline.eq_sum_fin_of_reset_step_apply_of_flush (fun n h => (outsAt0 m c n h).2.2) 8 (fun _ => 0) _ (fun t h j => sA m c t h (by omega) j)
    (fun t h j => (by
      by_cases h1 : t.val % 8 = 7
      · exact sC m c t h h1 j
      · exact sB m c t h h1 j : (outsAt0 m c t.val t.isLt).2.2 j = (outsAt0 m c (t.val - 1) (Nat.lt_of_le_of_lt (Nat.sub_le _ _) t.isLt)).2.2 j + ∑ q, ev (iblk m c 0 t) (iblk m c 1 t) (iblk m c 2 t) (iblk m c 3 t) j q)) t ht (ix2 (y 0) l)
  simp only [zero_add] at fold
  refine (Finset.sum_congr rfl fun l _ => fold l).trans ?_
  rw [Finset.sum_comm]
  refine Eq.trans (Finset.sum_congr rfl fun s _ => Finset.sum_comm) ?_
  have inner : ∀ s : Fin 8, ∑ q : Fin 24, ∑ l : Fin 128, ev (iblk m c 0 ⟨8 * (t.val / 8) + s.val, by rw [show cfg0.N = 96 from N_0]; omega⟩) (iblk m c 1 ⟨8 * (t.val / 8) + s.val, by rw [show cfg0.N = 96 from N_0]; omega⟩)
        (iblk m c 2 ⟨8 * (t.val / 8) + s.val, by rw [show cfg0.N = 96 from N_0]; omega⟩) (iblk m c 3 ⟨8 * (t.val / 8) + s.val, by rw [show cfg0.N = 96 from N_0]; omega⟩) (ix2 (y 0) l) q
      = ∑ u : Fin 3072, Ideal.exp2 (tG (A0 m c) (A1 m c) (A2 m c) (A3 m c) (z 0) ⟨s.val * 3072 + u.val, by omega⟩ * CL - CL) := fun s => by
    refine Fin.sum_mul_add_congr fun q l hl => ?_
    unfold ev
    refine congrArg (fun x => Ideal.exp2 (x * CL - CL)) ?_
    refine tv_block m c _ _ _ _ ?_ ?_
    · show (z 0).val = (8 * (t.val / 8) + s.val) / 8 * 1024 + (y 0).val
      omega
    · show s.val * 3072 + (q.val * 128 + l.val) = (8 * (t.val / 8) + s.val) % 8 * 3072 + (q.val * 128 + l.val)
      omega
  refine Eq.trans (Finset.sum_congr rfl fun s _ => inner s) ?_
  exact Fin.sum_mul_add_congr fun s u hl => rfl

end Cert.FwdIdeal.Value
-- ==== Proof.FwdRef.lean ====
module

public import proofs.«01_k».proof.Proof.Gen.FwdRefIdeal.Read
public import Idealize.ShloMosaic.Lib.Pipeline.ValueKit
public import Idealize.ShloMosaic.Lib.Pointwise
public import Idealize.ShloMosaic.PureOps.Reduce
public import Idealize.ShloMosaic.PureOps.Ideal.Laws
public import proofs.«01_k».proof.Proof.Cap

@[expose] public section
noncomputable section
namespace Cert.FwdRefIdeal.Value
open Cert.FwdRefIdeal Cert.FwdRefIdeal.Gen Idealize.ShloMosaic Idealize.ShloMosaic.TcCoe Idealize.SL.Sem

variable (m : (ℓ : Loc nD τ sig) → Buf (Elt Ideal) ℓ)

/-- The four arguments, as plain arrays. -/
abbrev A0 (c : Dev nD) : Vec Ideal S12288x2304 .fp8e4m3 := m ((c : Thread nD τ).loc main_arg0)
abbrev A1 (c : Dev nD) : Vec Ideal S12288 .f32 := m ((c : Thread nD τ).loc main_arg1)
abbrev A2 (c : Dev nD) : Vec Ideal S24576x2304 .fp8e4m3 := m ((c : Thread nD τ).loc main_arg2)
abbrev A3 (c : Dev nD) : Vec Ideal S24576 .f32 := m ((c : Thread nD τ).loc main_arg3)

/-- The one point's blocks are the whole arrays. -/
theorem idx (t : Fin cfg0.N) : win0_0.index t = ![0, 0] ∧ win0_1.index t = ![0, 0] ∧ win0_2.index t = ![0, 0] ∧ win0_3.index t = ![0, 0] := by
  revert t; decide +kernel

/-- The decoded hidden codes are the codes, read as numbers. -/
theorem reg0 (c : Dev nD) : (reg_main_v0_0 m c : Vec Ideal S12288x2304 .bf16) = fun i => A0 m c i := by
  unfold reg_main_v0_0
  refine (dats m 0 c).arrAt_eq_of_covers 2 _ (by decide +kernel) fun t hf y => ?_
  blk_simp
  rw [after0_2]
  frame_out
  unfold k0_pay1
  pointwise
  blk_ext [iblk, V, (idx t).1, (idx t).2.1, (idx t).2.2.1, (idx t).2.2.2]

/-- The decoded weight codes are the codes, read as numbers. -/
theorem reg1 (c : Dev nD) : (reg_main_v0_1 m c : Vec Ideal S24576x2304 .bf16) = fun i => A2 m c i := by
  unfold reg_main_v0_1
  refine (dats m 0 c).arrAt_eq_of_covers 3 _ (by decide +kernel) fun t hf y => ?_
  blk_simp
  rw [after0_3]
  frame_out
  unfold k0_pay2
  pointwise
  blk_ext [iblk, V, (idx t).1, (idx t).2.1, (idx t).2.2.1, (idx t).2.2.2]

/-- The reference's capped logit, before the factor 30. -/
def tR (h : Vec Ideal S12288x2304 .fp8e4m3) (hs : Vec Ideal S12288 .f32) (w : Vec Ideal S24576x2304 .fp8e4m3) (ws : Vec Ideal S24576 .f32)
    (r : Fin 12288) (v : Fin 24576) : Ideal .f32 :=
  Ideal.tanh ((∑ k : Fin 2304, h (ix2 r k) * w (ix2 v k)) * hs (ix1 r) * ws (ix1 v) * Ideal.ofBits .f32 0x3D088889#32)

theorem t_read (c : Dev nD) (i : S12288x24576.Idx) : Read.val_main_v10 (F := Ideal) (A1 m c) (A3 m c) (reg_main_v0_0 m c) (reg_main_v0_1 m c) i
    = tR (A0 m c) (A1 m c) (A2 m c) (A3 m c) (i 0) (i 1) := by
  rw [reg0, reg1]
  rw [Read.val_main_v10_apply, Read.val_main_v9_apply, Read.val_main_v8_apply, Read.val_main_cst_apply, Read.val_main_v7_apply, Read.val_main_v6_apply, Read.val_main_v5_apply,
    Read.val_main_v4_apply, Read.val_main_v3_apply, Read.val_main_v2_apply, Read.val_main_v1_apply]
  unfold tR
  refine congrArg Ideal.tanh (congrArg (· * _) (congrArg₂ _ (congrArg₂ _ (Finset.sum_congr rfl fun k _ => congrArg₂ _ (congrArg _ ?_) (congrArg _ ?_)) (congrArg _ ?_)) (congrArg _ ?_)))
  · funext a
    match a with
    | ⟨0, _⟩ => rfl
    | ⟨1, _⟩ => rfl
  · funext a
    match a with
    | ⟨0, _⟩ => rfl
    | ⟨1, _⟩ => rfl
  · funext a
    match a with
    | ⟨0, _⟩ => rfl
  · funext a
    match a with
    | ⟨0, _⟩ => rfl

theorem c30 : Ideal.ofBits .f32 0x41F00000#32 = ((30 : ℝ) : EReal) := by
  simp [Ideal.ofBits, Ideal.ieee, -EReal.coe_mul]; norm_num
theorem c2 : Ideal.ofBits .f32 0x40000000#32 = ((2 : ℝ) : EReal) := by
  simp [Ideal.ofBits, Ideal.ieee, -EReal.coe_mul]; norm_num
theorem cbot : Ideal.ofBits .f32 0xFF800000#32 = (⊥ : EReal) := by
  simp [Ideal.ofBits, Ideal.ieee]

/-- The reference's scaled logits are reals. -/
theorem z_read (c : Dev nD) (i : S12288x24576.Idx) : Read.val_main_v12 (F := Ideal) (A1 m c) (A3 m c) (reg_main_v0_0 m c) (reg_main_v0_1 m c) i
    = ((30 : ℝ) : EReal) * tR (A0 m c) (A1 m c) (A2 m c) (A3 m c) (i 0) (i 1) := by
  rw [Read.val_main_v12_apply, Read.val_main_v11_apply, Read.val_main_cst_0_apply, t_read]
  exact congrArg (· * _) c30

/-- The row maximum is a real. -/
theorem max_real (c : Dev nD) (i : S12288.Idx) : ∃ z : ℝ, Read.val_main_v13 (F := Ideal) (A1 m c) (A3 m c) (reg_main_v0_0 m c) (reg_main_v0_1 m c) i = (z : EReal) := by
  unfold Read.val_main_v13
  rw [Host.reduce_eq_fold_single _ _ _ _ (by decide)]
  have hb : (Read.val_main_cst_1 (F := Ideal)) (Shape.Idx.first h_S_) = (⊥ : EReal) := cbot
  rw [hb]
  refine Cert.Cap.fold_max_real _ ⟨⟨0, by decide⟩, Finset.mem_univ _⟩ _ fun k => ?_
  have key : ∀ j : S12288x24576.Idx, ∃ r : ℝ, Read.val_main_v12 (F := Ideal) (A1 m c) (A3 m c) (reg_main_v0_0 m c) (reg_main_v0_1 m c) j = (r : EReal) := fun j => by
    obtain ⟨r, hr, _⟩ : ∃ r : ℝ, tR (A0 m c) (A1 m c) (A2 m c) (A3 m c) (j 0) (j 1) = (r : EReal) ∧ -1 ≤ r ∧ r ≤ 1 := Cert.Cap.tanh_real _
    exact ⟨30 * r, by rw [z_read, hr, ← EReal.coe_mul]⟩
  exact key _

/-- The second result: around the row's maximum, the logarithm of the sum of exponentials, over log 2. -/
theorem lse_read (c : Dev nD) (i : S12288x128.Idx) : ∃ z : ℝ, Read.val_main_v26 (F := Ideal) (A1 m c) (A3 m c) (reg_main_v0_0 m c) (reg_main_v0_1 m c) i
    = Ideal.div ((z : EReal) + Ideal.log (∑ k : Fin 24576, Ideal.exp (((30 : ℝ) : EReal) * tR (A0 m c) (A1 m c) (A2 m c) (A3 m c) (i 0) k - (z : EReal)))) ((Real.log 2 : ℝ) : EReal) := by
  obtain ⟨z, hz⟩ := max_real m c (ix1 (i 0))
  refine ⟨z, ?_⟩
  have h14 : ∀ j : S12288x1.Idx, j 0 = i 0 → Read.val_main_v14 (F := Ideal) (A1 m c) (A3 m c) (reg_main_v0_0 m c) (reg_main_v0_1 m c) j = (z : EReal) := fun j hj => by
    rw [Read.val_main_v14_apply, ← hz]
    exact congrArg _ (funext fun a => by match a with | ⟨0, _⟩ => exact hj)
  rw [Read.val_main_v26_apply, Read.val_main_v25_apply, Read.val_main_v21_apply, h14 _ rfl, Read.val_main_v20_apply, Read.val_main_v19_apply, Read.val_main_v18_apply,
    Read.val_main_cst_2_apply, Read.val_main_v24_apply, Read.val_main_v23_apply, Read.val_main_v22_apply, Read.val_main_cst_3_apply]
  have hl : FloatOps.hostUnary (F := Ideal) (φ := .f32) .log (FloatOps.ofBits .f32 0x40000000#32) = ((Real.log 2 : ℝ) : EReal) := by
    show Ideal.log (Ideal.ofBits .f32 0x40000000#32) = _
    rw [c2]
    show (if (2 : ℝ) ≤ 0 then (⊥ : EReal) else _) = _
    rw [if_neg (by norm_num)]
  rw [hl, Ideal.hostDivf_def, Ideal.addf_def, Ideal.hostUnary_log_def]
  have h0 : ∀ x : EReal, (FloatOps.ofBits (F := Ideal) .f32 0x00000000#32) + x = x := fun x => by
    rw [show (FloatOps.ofBits (F := Ideal) .f32 0x00000000#32) = (0 : EReal) from Ideal.ofBits_zero_f32]; exact zero_add x
  rw [h0]
  have hs : ∀ j : S12288.Idx, j 0 = i 0 → ∑ k : Fin 24576, Read.val_main_v17 (F := Ideal) (A1 m c) (A3 m c) (reg_main_v0_0 m c) (reg_main_v0_1 m c) (Read.idx_main_v18 j k)
      = ∑ k : Fin 24576, Ideal.exp (((30 : ℝ) : EReal) * tR (A0 m c) (A1 m c) (A2 m c) (A3 m c) (i 0) k - (z : EReal)) := fun j hj => Finset.sum_congr rfl fun k _ => by
    rw [Read.val_main_v17_apply, Read.val_main_v16_apply, z_read, Read.val_main_v15_apply, h14 _ hj, Ideal.hostUnary_exp_def, Ideal.subf_def]
    exact congrArg (fun r => Ideal.exp (((30 : ℝ) : EReal) * tR (A0 m c) (A1 m c) (A2 m c) (A3 m c) r k - (z : EReal))) hj
  rw [hs _ rfl]

end Cert.FwdRefIdeal.Value
-- ==== Proof.Scale.lean ====
module

public import Idealize.ShloMosaic.PureOps.Ideal
public import Idealize.ShloMosaic.Lib.Pointwise

@[expose] public section
noncomputable section
namespace Cert.Scale
open Idealize.ShloMosaic

/-- The biased exponent as the kernel counts it: how many of the 256 single-exponent patterns, read as floats, are not above `y`, less one. -/
def bex (y : EReal) : BitVec 32 :=
  IntOp.subi (Finset.fold IntOp.addi (0#32) (fun x : Fin 128 => IntOp.addi
    (if Ideal.ofBits FTy.f32 (IntOp.shli ArithUnit.vector (BitVec.ofNat 32 x.val) 23#32) ≤ y then 1#32 else 0#32)
    (if Ideal.ofBits FTy.f32 (IntOp.shli ArithUnit.vector (IntOp.addi (BitVec.ofNat 32 x.val) 128#32) 23#32) ≤ y then 1#32 else 0#32)) Finset.univ) 1#32

/-- The scale and its inverse, from the biased exponent's bits. -/
def sB (y : EReal) : EReal :=
  Ideal.ofBits .f32 (Scalar.select (IntOp.cmpi .eq (bex y) 0#32) 1065353216#32 (IntOp.shli ArithUnit.vector (IntOp.addi (bex y) 1#32) 23#32))
def iB (y : EReal) : EReal :=
  Ideal.ofBits .f32 (Scalar.select (IntOp.cmpi .eq (bex y) 0#32) 1065353216#32 (IntOp.shli ArithUnit.vector (IntOp.subi 253#32 (bex y)) 23#32))

/-- Two to an integer, as the exponential of its multiple of log 2. -/
theorem exp_mul_log (e : ℤ) : Real.exp (e * Real.log 2) = (2 : ℝ) ^ e := by
  rw [mul_comm, Real.exp_mul, Real.exp_log (by norm_num), Real.rpow_intCast]

/-- The floor of the base two logarithm brackets its argument by powers of two. -/
theorem floor_log (y : ℝ) (yp : 0 < y) : (2 : ℝ) ^ ⌊Real.log y / Real.log 2⌋ ≤ y ∧ y < (2 : ℝ) ^ (⌊Real.log y / Real.log 2⌋ + 1) := by
  have lp : 0 < Real.log 2 := Real.log_pos (by norm_num)
  constructor
  · rw [← exp_mul_log, ← Real.le_log_iff_exp_le yp]
    exact (le_div_iff₀ lp).mp (Int.floor_le _)
  · rw [← exp_mul_log, ← Real.log_lt_iff_lt_exp yp]
    push_cast
    exact (div_lt_iff₀ lp).mp (Int.lt_floor_add_one _)

/-- The exponent reference.py's quantiser takes, for `y` not negative. -/
def eR (y : ℝ) : ℤ := if y < (2 : ℝ) ^ (-126 : ℤ) then 0 else ⌊Real.log y / Real.log 2⌋ + 1

theorem bits_pow (n : Nat) (h0 : 1 ≤ n) (h1 : n ≤ 254) : Ideal.ofBits .f32 (BitVec.ofNat 32 n <<< 23) = (((2 : ℝ) ^ ((n : ℤ) - 127) : ℝ) : EReal) := by
  have key : ∀ n : Fin 255, ((BitVec.ofNat 32 n.val <<< 23).extractLsb' 23 8).toNat = n.val ∧ ((BitVec.ofNat 32 n.val <<< 23).extractLsb' 0 23).toNat = 0
      ∧ ((BitVec.ofNat 32 n.val <<< 23).extractLsb' (8 + 23) 1 == 1#1) = false := by decide +kernel
  obtain ⟨k1, k2, k3⟩ := key ⟨n, by omega⟩
  show Ideal.ieee 8 23 (BitVec.ofNat 32 n <<< 23) = _
  unfold Ideal.ieee
  simp only [k1, k2, k3]
  rw [if_neg (by omega), if_neg (by omega)]
  refine congrArg _ ?_
  have : ((n : ℤ) - (2 ^ (8 - 1) - 1) - (23 : ℕ)) = ((n : ℤ) - 127) + (-23) := by norm_num; ring
  rw [this, zpow_add₀ (by norm_num)]
  norm_num
  ring

theorem bits_zero : Ideal.ofBits .f32 (BitVec.ofNat 32 0 <<< 23) = 0 := by
  have : (BitVec.ofNat 32 0 <<< 23) = 0#32 := by decide
  rw [this]; exact Ideal.ofBits_zero_f32

theorem bits_top : Ideal.ofBits .f32 (BitVec.ofNat 32 255 <<< 23) = ⊤ := by
  have : (BitVec.ofNat 32 255 <<< 23) = 0x7F800000#32 := by decide
  rw [this]; simp [Ideal.ofBits, Ideal.ieee]

theorem count : ∀ K : Fin 255, IntOp.subi (Finset.fold IntOp.addi (0#32) (fun x : Fin 128 => IntOp.addi (if x.val < K.val + 1 then 1#32 else 0#32)
    (if x.val + 128 < K.val + 1 then 1#32 else 0#32)) Finset.univ) 1#32 = BitVec.ofNat 32 K.val := by decide +kernel

theorem bex_eq (y : EReal) (K : Nat) (hK : K ≤ 254) (h : ∀ n : Nat, n < 256 → (Ideal.ofBits .f32 (BitVec.ofNat 32 n <<< 23) ≤ y ↔ n < K + 1)) :
    bex y = BitVec.ofNat 32 K := by
  refine Eq.trans ?_ (count ⟨K, by omega⟩)
  unfold bex
  refine congrArg (IntOp.subi · 1#32) (Finset.fold_congr fun x _ => ?_)
  have e0 : IntOp.shli ArithUnit.vector (BitVec.ofNat 32 x.val) 23#32 = BitVec.ofNat 32 x.val <<< 23 := rfl
  have e1 : IntOp.shli ArithUnit.vector (IntOp.addi (BitVec.ofNat 32 x.val) 128#32) 23#32 = BitVec.ofNat 32 (x.val + 128) <<< 23 := by
    show (BitVec.ofNat 32 x.val + 128#32) <<< 23 = _
    rw [← BitVec.ofNat_add]
  rw [e0, e1]
  refine congrArg₂ _ (if_congr (h _ (by omega)) rfl rfl) (if_congr (h _ (by omega)) rfl rfl)

theorem bex_real (y : ℝ) (h0 : 0 ≤ y) (h1 : y < (2 : ℝ) ^ (126 : ℤ)) : ∃ K : Nat, K ≤ 252 ∧ bex y = BitVec.ofNat 32 K ∧ (K = 0 ∧ eR y = 0 ∨ 1 ≤ K ∧ eR y = (K : ℤ) - 126) := by
  have two : (1 : ℝ) < 2 := by norm_num
  by_cases hy : y < (2 : ℝ) ^ (-126 : ℤ)
  · refine ⟨0, by omega, bex_eq _ 0 (by omega) fun n hn => ?_, .inl ⟨rfl, if_pos hy⟩⟩
    rcases Nat.eq_zero_or_pos n with rfl | hp
    · rw [bits_zero]; exact ⟨fun _ => by omega, fun _ => by exact_mod_cast h0⟩
    · refine ⟨fun h => absurd h (not_le.mpr ?_), fun h => by omega⟩
      rcases Nat.lt_or_ge n 255 with h | h
      · rw [bits_pow n hp (by omega)]
        refine EReal.coe_lt_coe_iff.mpr (lt_of_lt_of_le hy (zpow_le_zpow_right₀ two.le (by omega)))
      · have : n = 255 := by omega
        rw [this, bits_top]; exact EReal.coe_lt_top y
  · have hy := not_lt.mp hy
    have yp : 0 < y := lt_of_lt_of_le (by positivity) hy
    obtain ⟨l1, l2⟩ := floor_log y yp
    have b0 : -126 ≤ ⌊Real.log y / Real.log 2⌋ := by
      have := lt_of_le_of_lt hy l2
      have := (zpow_lt_zpow_iff_right₀ two).mp this
      omega
    have b1 : ⌊Real.log y / Real.log 2⌋ < 126 := (zpow_lt_zpow_iff_right₀ two).mp (lt_of_le_of_lt l1 h1)
    obtain ⟨K, hK⟩ : ∃ K : Nat, (K : ℤ) = ⌊Real.log y / Real.log 2⌋ + 127 := ⟨(⌊Real.log y / Real.log 2⌋ + 127).toNat, by omega⟩
    refine ⟨K, by omega, bex_eq _ K (by omega) fun n hn => ?_, .inr ⟨by omega, ?_⟩⟩
    · rcases Nat.eq_zero_or_pos n with rfl | hp
      · rw [bits_zero]; exact ⟨fun _ => by omega, fun _ => by exact_mod_cast h0⟩
      · rcases Nat.lt_or_ge n 255 with h | h
        · rw [bits_pow n hp (by omega), EReal.coe_le_coe_iff]
          constructor
          · intro h'
            have := (zpow_lt_zpow_iff_right₀ two).mp (lt_of_le_of_lt h' l2)
            omega
          · intro h'
            exact le_trans (zpow_le_zpow_right₀ two.le (by omega)) l1
        · have : n = 255 := by omega
          rw [this, bits_top]
          exact ⟨fun h => absurd h (not_le.mpr (EReal.coe_lt_top y)), fun h => by omega⟩
    · unfold eR
      rw [if_neg (not_lt.mpr hy)]
      omega

theorem scale_eq (y : ℝ) (h0 : 0 ≤ y) (h1 : y < (2 : ℝ) ^ (126 : ℤ)) : sB y = (((2 : ℝ) ^ eR y : ℝ) : EReal) ∧ iB y = (((2 : ℝ) ^ (-eR y) : ℝ) : EReal) := by
  obtain ⟨K, hK, hb, h⟩ := bex_real y h0 h1
  unfold sB iB
  rw [hb]
  rcases h with ⟨rfl, e⟩ | ⟨hp, e⟩
  · have : Ideal.ofBits .f32 1065353216#32 = 1 := by
      have := bits_pow 127 (by omega) (by omega)
      simpa using this
    rw [e]
    refine ⟨?_, ?_⟩ <;> refine Eq.trans this ?_ <;> simp
  · have key : ∀ K : Fin 253, 1 ≤ K.val → IntOp.cmpi .eq (BitVec.ofNat 32 K.val) 0#32 = 0#1 ∧ IntOp.addi (BitVec.ofNat 32 K.val) 1#32 = BitVec.ofNat 32 (K.val + 1)
        ∧ IntOp.subi 253#32 (BitVec.ofNat 32 K.val) = BitVec.ofNat 32 (253 - K.val) := by decide +kernel
    obtain ⟨k1, k2, k3⟩ := key ⟨K, by omega⟩ hp
    rw [k1, k2, k3, e]
    refine ⟨(bits_pow (K + 1) (by omega) (by omega)).trans ?_, (bits_pow (253 - K) (by omega) (by omega)).trans ?_⟩
    · refine congrArg (fun z : ℤ => (((2 : ℝ) ^ z : ℝ) : EReal)) ?_
      omega
    · refine congrArg (fun z : ℤ => (((2 : ℝ) ^ z : ℝ) : EReal)) ?_
      omega

end Cert.Scale
-- ==== Proof.BwdBase.lean ====
module

public import proofs.«01_k».proof.Proof.Gen.BwdIdeal.Skeleton
public import proofs.«01_k».proof.Proof.Scale
public import Idealize.ShloMosaic.Lib.Pipeline.ValueKit
public import Idealize.ShloMosaic.Lib.Pipeline.ReadBack
public import Idealize.ShloMosaic.Lib.Pointwise

@[expose] public section
noncomputable section
namespace Cert.BwdIdeal.Value
open Cert.BwdIdeal Cert.BwdIdeal.Gen Idealize.ShloMosaic Idealize.ShloMosaic.TcCoe Idealize.SL.Sem

/-- The named constants and the literals. -/
abbrev CL : Ideal .f32 := Named.named (F := Ideal) κ "cap_log2e" (φ := .f32) 0x422D1F97#32
abbrev LN2 : Ideal .f32 := Named.named (F := Ideal) κ "ln2" (φ := .f32) 0x3F317218#32
abbrev IM : Ideal .f32 := Ideal.ofBits .f32 0x37924925#32
abbrev QM : Ideal .f32 := Ideal.ofBits .f32 0x47600000#32
abbrev QN : Ideal .f32 := Ideal.ofBits .f32 0xC7600000#32

/-- The lane a column of a block falls on. -/
abbrev lane (j : Nat) : Fin 128 := ⟨j % 128, Nat.mod_lt _ (by decide)⟩

/-- The logit gradient at row `r` and column `j` of vocabulary tile `v`. -/
def gv (v : Nat) (x0 : Vec Ideal S1024x1536 .f32) (x1 : Vec Ideal S1024x128 .f32) (x2 : Vec Ideal S1024x128 .i32) (r : Fin 1024) (j : Fin 1536) : EReal :=
  (if x2 (ix2 r (lane j)) = BitVec.ofNat 32 (v * 1536 + j.val) then Ideal.exp2 (x0 (ix2 r j) * CL - x1 (ix2 r (lane j))) - 1
    else Ideal.exp2 (x0 (ix2 r j) * CL - x1 (ix2 r (lane j)))) * (1 - x0 (ix2 r j) * x0 (ix2 r j))

/-- Its largest magnitude over group `q` of the tile, over the format's largest value. -/
def yv (v : Nat) (x0 : Vec Ideal S1024x1536 .f32) (x1 : Vec Ideal S1024x128 .f32) (x2 : Vec Ideal S1024x128 .i32) (r : Fin 1024) (q : Fin 8) : EReal :=
  Finset.fold max (Ideal.ofBits .f32 0xFF800000#32) (fun u : Fin 192 => max (gv v x0 x1 x2 r ⟨q.val * 192 + u.val, by omega⟩) (-gv v x0 x1 x2 r ⟨q.val * 192 + u.val, by omega⟩)) Finset.univ * IM

abbrev grp (j : Fin 1536) : Fin 8 := ⟨j.val / 192, by omega⟩

/-- The code at a column, -/
def cv (v : Nat) (x0 : Vec Ideal S1024x1536 .f32) (x1 : Vec Ideal S1024x128 .f32) (x2 : Vec Ideal S1024x128 .i32) (r : Fin 1024) (j : Fin 1536) : EReal :=
  min QM (max QN (gv v x0 x1 x2 r j * Cert.Scale.iB (yv v x0 x1 x2 r (grp j))))

/-- and what multiplies the weight codes. -/
def qv (v : Nat) (x0 : Vec Ideal S1024x1536 .f32) (x1 : Vec Ideal S1024x128 .f32) (x2 : Vec Ideal S1024x128 .i32) (x4 : Vec Ideal S1x1536 .f32) (r : Fin 1024) (j : Fin 1536) : EReal :=
  cv v x0 x1 x2 r j * (Cert.Scale.sB (yv v x0 x1 x2 r (grp j)) * x4 (ix2 0 j))

/-! The kernel's vectors, with the positions as variables. -/

/-- The gradient of one lane group whose first column is `k`, -/
def gT (i : grid0.Coords) (k : Nat) (t : Vec Ideal S256x128 .f32) (l : Vec Ideal S256x128 .f32) (lab : Vec Ideal S256x128 .i32) : FVec Ideal S256x128 .f32 :=
  mulf (select (cmpi .eq (iota .tc S256x128 32 [1] iota_S256x128_d1_w32) (subi (k0_pay11 (F := Ideal) i lab) (broadcast S256x128 (BitVec.ofNat 32 k))))
      (subf (exp2 (subf (mulf t (broadcast S256x128 (Named.named (F := Ideal) κ "cap_log2e" (φ := .f32) 0x422D1F97#32))) (k0_pay10 l))) (broadcast S256x128 (Scalar.ofBits (F := Ideal) .f32 0x3F800000#32)))
      (exp2 (subf (mulf t (broadcast S256x128 (Named.named (F := Ideal) κ "cap_log2e" (φ := .f32) 0x422D1F97#32))) (k0_pay10 l))))
    (subf (broadcast S256x128 (Scalar.ofBits (F := Ideal) .f32 0x3F800000#32)) (mulf t t))

/-- the magnitudes of the first group of a pair and of the second, lane by lane, -/
def a0T (g0 g1 : FVec Ideal S256x128 .f32) : FVec Ideal S256x128 .f32 :=
  maximumf (absf g0) (select k0_pay8 (absf g1) (broadcast S256x128 (Scalar.ofBits (F := Ideal) .f32 0x00000000#32)))
def a1T (g2 g1 : FVec Ideal S256x128 .f32) : FVec Ideal S256x128 .f32 :=
  maximumf (absf g2) (select k0_pay8 (broadcast S256x128 (Scalar.ofBits (F := Ideal) .f32 0x00000000#32)) (absf g1))

/-- scales and inverses. -/
def sT (a : FVec Ideal S256x128 .f32) : FVec Ideal S256x128 .f32 := k0_pay29 (k0_pay28 a)
def iT (a : FVec Ideal S256x128 .f32) : FVec Ideal S256x128 .f32 := k0_pay30 (k0_pay26 a) (k0_pay27 a) 253#32

def codeT (g inv : FVec Ideal S256x128 .f32) : FVec Ideal S256x128 .fp8e5m2 := k0_pay39 g inv
def gqT (k : Nat) (h : S1x1536.Slices ![0, k] S1x128) (w : Vec Ideal S1x1536 .f32) (g sc inv : FVec Ideal S256x128 .f32) : FVec Ideal S256x128 .bf16 :=
  shapeCast S256x128 (mulf (extf .bf16 (k0_pay39 g inv) bitsLt_fp8e5m2_bf16)
    (truncf .bf16 (mulf sc (broadcastTo S256x128 (extractStridedSlice S1x128 ![0, k] (k0_pay9 w) h) broadcasts_S1x128_S256x128)) bitsLt_bf16_f32)) shapeCasts_S256x128_S256x128

theorem sel_eq {α : Type} (a b : BitVec 32) (x y : α) : Scalar.select (IntOp.cmpi .eq a b) x y = if a = b then x else y := by
  unfold Scalar.select IntOp.cmpi
  by_cases h : a = b
  · subst h; simp
  · have : (a == b) = false := by simpa using h
    simp [this, h]

theorem low_sel {α : Type} (l : Nat) (hl : l < 128) (x y : α) : Scalar.select (IntOp.cmpi .slt (BitVec.ofNat 32 l) 64#32) x y = if l < 64 then x else y := by
  have key : ∀ l : Fin 128, IntOp.cmpi .slt (BitVec.ofNat 32 l.val) 64#32 = if l.val < 64 then 1#1 else 0#1 := by decide +kernel
  have := key ⟨l, hl⟩
  rw [this]
  unfold Scalar.select
  by_cases h : l < 64 <;> simp [h]

theorem sub_key (a b c : BitVec 32) : a = b - c ↔ a + c = b := by
  constructor
  · rintro rfl; exact BitVec.sub_add_cancel b c
  · rintro rfl; exact (BitVec.add_sub_cancel a c).symm

theorem gT_core (i : grid0.Coords) (k : Nat) (t l : Vec Ideal S256x128 .f32) (lab : Vec Ideal S256x128 .i32) (n : S256x128.Idx) :
    gT i k t l lab n = (if BitVec.ofNat 32 (n 1).val = lab n - BitVec.ofNat 32 (i 1).val * 1536#32 - BitVec.ofNat 32 k then Ideal.exp2 (t n * CL - l n) - 1 else Ideal.exp2 (t n * CL - l n)) * (1 - t n * t n) := by
  unfold gT k0_pay11 k0_pay10
  pointwise
  rw [sel_eq]
  rfl

theorem gT_apply (i : grid0.Coords) (o k : Nat) (hk : k % 128 = 0)
    (i0 : ∀ a, (![o, k] : Fin 2 → Nat) a + (![256, 128] : Fin 2 → Nat) a ≤ S1024x1536.size a)
    (i1 : ∀ a, (![o, 0] : Fin 2 → Nat) a + (![256, 128] : Fin 2 → Nat) a ≤ S1024x128.size a)
    (x0 : Vec Ideal S1024x1536 .f32) (x1 : Vec Ideal S1024x128 .f32) (x2 : Vec Ideal S1024x128 .i32)
    (n : S256x128.Idx) (r : Fin 1024) (j : Fin 1536) (e0 : r.val = o + (n 0).val) (e1 : j.val = k + (n 1).val) :
    gT i k (View.ld x0 (Rect.unit (s := S1024x1536) ![o, k] ![256, 128] i0)) (View.ld x1 (Rect.unit (s := S1024x128) ![o, 0] ![256, 128] i1))
      (View.ld x2 (Rect.unit (s := S1024x128) ![o, 0] ![256, 128] i1)) n = gv (i 1).val x0 x1 x2 r j := by
  unfold gv
  have hi : (n 0).val < 256 := (n 0).isLt
  have hj : (n 1).val < 128 := (n 1).isLt
  have hv : (i 1).val < 16 := (i 1).isLt
  have q0 : View.ld x0 (Rect.unit (s := S1024x1536) ![o, k] ![256, 128] i0) n = x0 (ix2 r j) := by
    refine congrArg x0 (funext fun a => Fin.ext ((Rect.idx_unit_val _ _ i0 n a).trans ?_))
    fin_cases a
    · exact e0.symm
    · exact e1.symm
  have q1 : View.ld x1 (Rect.unit (s := S1024x128) ![o, 0] ![256, 128] i1) n = x1 (ix2 r (lane j)) := by
    refine congrArg x1 (funext fun a => Fin.ext ((Rect.idx_unit_val _ _ i1 n a).trans ?_))
    fin_cases a
    · exact e0.symm
    · show 0 + (n 1).val = j.val % 128; omega
  have q2 : View.ld x2 (Rect.unit (s := S1024x128) ![o, 0] ![256, 128] i1) n = x2 (ix2 r (lane j)) := by
    refine congrArg x2 (funext fun a => Fin.ext ((Rect.idx_unit_val _ _ i1 n a).trans ?_))
    fin_cases a
    · exact e0.symm
    · show 0 + (n 1).val = j.val % 128; omega
  rw [gT_core, q0, q1, q2]
  refine congrArg (· * _) (if_congr ?_ rfl rfl)
  rw [sub_key, sub_key, ← BitVec.ofNat_add, show (1536#32 : BitVec 32) = BitVec.ofNat 32 1536 from rfl, ← BitVec.ofNat_mul, ← BitVec.ofNat_add, eq_comm,
    show (n 1).val + k + (i 1).val * 1536 = (i 1).val * 1536 + j.val by omega]

/-- The scale of a group, from its lanes' magnitudes. -/
theorem sT_apply (a : FVec Ideal S256x128 .f32) (n : S256x128.Idx) :
    sT a n = Cert.Scale.sB (Finset.fold max (Ideal.ofBits .f32 0xFF800000#32) (fun x : Fin 128 => a (ix2 (n 0) x)) Finset.univ * IM) := by
  unfold sT k0_pay29 k0_pay28 k0_pay27 k0_pay26 Cert.Scale.sB Cert.Scale.bex
  pointwise
theorem iT_apply (a : FVec Ideal S256x128 .f32) (n : S256x128.Idx) :
    iT a n = Cert.Scale.iB (Finset.fold max (Ideal.ofBits .f32 0xFF800000#32) (fun x : Fin 128 => a (ix2 (n 0) x)) Finset.univ * IM) := by
  unfold iT k0_pay30 k0_pay27 k0_pay26 Cert.Scale.iB Cert.Scale.bex
  pointwise

/-- A maximum over 192 values found lane by lane: 128 of them as they are, the other 64 at half of the lanes and nothing (zero) at the others. -/
theorem fold_split (f : Fin 192 → EReal) (g : Fin 128 → EReal) (hf : ∀ u, 0 ≤ f u) (hg : ∀ c, (∀ l, g l ≤ c) ↔ 0 ≤ c ∧ ∀ u, f u ≤ c) (b : EReal) (hb : b = ⊥) :
    Finset.fold max b g Finset.univ = Finset.fold max b f Finset.univ := by
  subst hb
  refine eq_of_forall_ge_iff fun c => ?_
  rw [Finset.fold_max_le, Finset.fold_max_le]
  simp only [bot_le, true_and, Finset.mem_univ, forall_const, forall_true_left]
  rw [hg c]
  exact ⟨fun h => h.2, fun h => ⟨(hf ⟨0, by omega⟩).trans (h _), h⟩⟩

theorem ninf : Ideal.ofBits .f32 0xFF800000#32 = ⊥ := by simp [Ideal.ofBits, Ideal.ieee]

theorem abs_nonneg' (x : EReal) : 0 ≤ max x (-x) := by
  rcases le_total 0 x with h | h
  · exact le_max_of_le_left h
  · exact le_max_of_le_right (EReal.neg_nonneg.mpr h)

/-- The first group's maximum, and the second's. -/
theorem max0 (f : Fin 384 → EReal) (g0 g1 : FVec Ideal S256x128 .f32) (n : Fin 256) (h0 : ∀ l : Fin 128, g0 (ix2 n l) = f ⟨l.val, by omega⟩) (h1 : ∀ l : Fin 128, g1 (ix2 n l) = f ⟨128 + l.val, by omega⟩) :
    Finset.fold max (Ideal.ofBits .f32 0xFF800000#32) (fun x : Fin 128 => a0T g0 g1 (ix2 n x)) Finset.univ
      = Finset.fold max (Ideal.ofBits .f32 0xFF800000#32) (fun u : Fin 192 => max (f ⟨u.val, by omega⟩) (-f ⟨u.val, by omega⟩)) Finset.univ := by
  refine fold_split _ _ (fun u => abs_nonneg' _) (fun c => ?_) _ ninf
  have e : ∀ l : Fin 128, a0T g0 g1 (ix2 n l) = max (max (f ⟨l.val, by omega⟩) (-f ⟨l.val, by omega⟩)) (if l.val < 64 then max (f ⟨128 + l.val, by omega⟩) (-f ⟨128 + l.val, by omega⟩) else 0) := by
    intro l
    unfold a0T k0_pay8
    pointwise
    rw [h0, h1, low_sel l.val l.isLt]
    rfl
  simp only [e, max_le_iff]
  constructor
  · intro h
    refine ⟨by have := (h ⟨127, by omega⟩).2; simpa using this, fun u => ?_⟩
    by_cases hu : u.val < 128
    · exact (h ⟨u.val, hu⟩).1
    · have := (h ⟨u.val - 128, by omega⟩).2
      rw [if_pos (by show u.val - 128 < 64; omega), max_le_iff] at this
      simp only [show 128 + (u.val - 128) = u.val by omega] at this
      exact this
  · rintro ⟨hc, h⟩ l
    refine ⟨h ⟨l.val, by omega⟩, ?_⟩
    by_cases hl : l.val < 64
    · rw [if_pos hl, max_le_iff]; exact h ⟨128 + l.val, by omega⟩
    · rw [if_neg hl]; exact hc

theorem max1 (f : Fin 384 → EReal) (g2 g1 : FVec Ideal S256x128 .f32) (n : Fin 256) (h2 : ∀ l : Fin 128, g2 (ix2 n l) = f ⟨256 + l.val, by omega⟩) (h1 : ∀ l : Fin 128, g1 (ix2 n l) = f ⟨128 + l.val, by omega⟩) :
    Finset.fold max (Ideal.ofBits .f32 0xFF800000#32) (fun x : Fin 128 => a1T g2 g1 (ix2 n x)) Finset.univ
      = Finset.fold max (Ideal.ofBits .f32 0xFF800000#32) (fun u : Fin 192 => max (f ⟨192 + u.val, by omega⟩) (-f ⟨192 + u.val, by omega⟩)) Finset.univ := by
  refine fold_split _ _ (fun u => abs_nonneg' _) (fun c => ?_) _ ninf
  have e : ∀ l : Fin 128, a1T g2 g1 (ix2 n l) = max (max (f ⟨256 + l.val, by omega⟩) (-f ⟨256 + l.val, by omega⟩)) (if l.val < 64 then 0 else max (f ⟨128 + l.val, by omega⟩) (-f ⟨128 + l.val, by omega⟩)) := by
    intro l
    unfold a1T k0_pay8
    pointwise
    rw [h2, h1, low_sel l.val l.isLt]
    rfl
  simp only [e, max_le_iff]
  constructor
  · intro h
    refine ⟨by have := (h ⟨0, by omega⟩).2; simpa using this, fun u => ?_⟩
    by_cases hu : u.val < 64
    · have := (h ⟨64 + u.val, by omega⟩).2
      rw [if_neg (by show ¬ 64 + u.val < 64; omega), max_le_iff] at this
      simp only [show 128 + (64 + u.val) = 192 + u.val by omega] at this
      exact this
    · have := (h ⟨u.val - 64, by omega⟩).1
      simp only [show 256 + (u.val - 64) = 192 + u.val by omega] at this
      exact this
  · rintro ⟨hc, h⟩ l
    refine ⟨?_, ?_⟩
    · have := h ⟨64 + l.val, by omega⟩
      simp only [show 192 + (64 + l.val) = 256 + l.val by omega] at this
      exact this
    by_cases hl : l.val < 64
    · rw [if_pos hl]; exact hc
    · rw [if_neg hl, max_le_iff]
      have := h ⟨l.val - 64, by omega⟩
      simp only [show 192 + (l.val - 64) = 128 + l.val by omega] at this
      exact this

/-- The gradient of the lane group at column `k` of rows from `o`, as the kernel loads it. -/
abbrev GG (i : grid0.Coords) (o k : Nat) (i0 : ∀ a, (![o, k] : Fin 2 → Nat) a + (![256, 128] : Fin 2 → Nat) a ≤ S1024x1536.size a)
    (i1 : ∀ a, (![o, 0] : Fin 2 → Nat) a + (![256, 128] : Fin 2 → Nat) a ≤ S1024x128.size a)
    (x0 : Vec Ideal S1024x1536 .f32) (x1 : Vec Ideal S1024x128 .f32) (x2 : Vec Ideal S1024x128 .i32) : FVec Ideal S256x128 .f32 :=
  gT i k (View.ld x0 (Rect.unit (s := S1024x1536) ![o, k] ![256, 128] i0)) (View.ld x1 (Rect.unit (s := S1024x128) ![o, 0] ![256, 128] i1))
    (View.ld x2 (Rect.unit (s := S1024x128) ![o, 0] ![256, 128] i1))

section tile
variable (i : grid0.Coords) (o p p1 p2 s : Nat) (hs : s < 4) (hp : p = 384 * s) (hp1 : p1 = 384 * s + 128) (hp2 : p2 = 384 * s + 256)
    (i00 : ∀ a, (![o, p] : Fin 2 → Nat) a + (![256, 128] : Fin 2 → Nat) a ≤ S1024x1536.size a)
    (i01 : ∀ a, (![o, p1] : Fin 2 → Nat) a + (![256, 128] : Fin 2 → Nat) a ≤ S1024x1536.size a)
    (i02 : ∀ a, (![o, p2] : Fin 2 → Nat) a + (![256, 128] : Fin 2 → Nat) a ≤ S1024x1536.size a)
    (i1 : ∀ a, (![o, 0] : Fin 2 → Nat) a + (![256, 128] : Fin 2 → Nat) a ≤ S1024x128.size a)
    (x0 : Vec Ideal S1024x1536 .f32) (x1 : Vec Ideal S1024x128 .f32) (x2 : Vec Ideal S1024x128 .i32)
include hs hp hp1 hp2

theorem grp0 (n : Fin 256) (r : Fin 1024) (e0 : r.val = o + n.val) :
    Finset.fold max (Ideal.ofBits .f32 0xFF800000#32) (fun x : Fin 128 => a0T (GG i o p i00 i1 x0 x1 x2) (GG i o p1 i01 i1 x0 x1 x2) (ix2 n x)) Finset.univ * IM
      = yv (i 1).val x0 x1 x2 r ⟨2 * s, by omega⟩ := by
  refine congrArg (· * IM) ((max0 (fun u => gv (i 1).val x0 x1 x2 r ⟨384 * s + u.val, by omega⟩) _ _ n (fun l => ?_) (fun l => ?_)).trans (Finset.fold_congr fun u _ => ?_))
  · exact gT_apply i o p (by omega) i00 i1 x0 x1 x2 (ix2 n l) r ⟨384 * s + l.val, by omega⟩ e0 (by show 384 * s + l.val = p + l.val; omega)
  · exact gT_apply i o p1 (by omega) i01 i1 x0 x1 x2 (ix2 n l) r ⟨384 * s + (128 + l.val), by omega⟩ e0 (by show 384 * s + (128 + l.val) = p1 + l.val; omega)
  · have : (⟨384 * s + u.val, by omega⟩ : Fin 1536) = ⟨2 * s * 192 + u.val, by omega⟩ := Fin.ext (by show 384 * s + u.val = 2 * s * 192 + u.val; omega)
    show max (gv _ _ _ _ _ ⟨384 * s + u.val, _⟩) (-gv _ _ _ _ _ ⟨384 * s + u.val, _⟩) = _
    rw [this]

theorem grp1 (n : Fin 256) (r : Fin 1024) (e0 : r.val = o + n.val) :
    Finset.fold max (Ideal.ofBits .f32 0xFF800000#32) (fun x : Fin 128 => a1T (GG i o p2 i02 i1 x0 x1 x2) (GG i o p1 i01 i1 x0 x1 x2) (ix2 n x)) Finset.univ * IM
      = yv (i 1).val x0 x1 x2 r ⟨2 * s + 1, by omega⟩ := by
  refine congrArg (· * IM) ((max1 (fun u => gv (i 1).val x0 x1 x2 r ⟨384 * s + u.val, by omega⟩) _ _ n (fun l => ?_) (fun l => ?_)).trans (Finset.fold_congr fun u _ => ?_))
  · exact gT_apply i o p2 (by omega) i02 i1 x0 x1 x2 (ix2 n l) r ⟨384 * s + (256 + l.val), by omega⟩ e0 (by show 384 * s + (256 + l.val) = p2 + l.val; omega)
  · exact gT_apply i o p1 (by omega) i01 i1 x0 x1 x2 (ix2 n l) r ⟨384 * s + (128 + l.val), by omega⟩ e0 (by show 384 * s + (128 + l.val) = p1 + l.val; omega)
  · have : (⟨384 * s + (192 + u.val), by omega⟩ : Fin 1536) = ⟨(2 * s + 1) * 192 + u.val, by omega⟩ := Fin.ext (by show 384 * s + (192 + u.val) = (2 * s + 1) * 192 + u.val; omega)
    show max (gv _ _ _ _ _ ⟨384 * s + (192 + u.val), _⟩) (-gv _ _ _ _ _ ⟨384 * s + (192 + u.val), _⟩) = _
    rw [this]

theorem s0_apply (n : S256x128.Idx) (r : Fin 1024) (e0 : r.val = o + (n 0).val) :
    sT (a0T (GG i o p i00 i1 x0 x1 x2) (GG i o p1 i01 i1 x0 x1 x2)) n = Cert.Scale.sB (yv (i 1).val x0 x1 x2 r ⟨2 * s, by omega⟩) :=
  (sT_apply _ n).trans (congrArg _ (grp0 i o p p1 p2 s hs hp hp1 hp2 i00 i01 i1 x0 x1 x2 (n 0) r e0))
theorem i0_apply (n : S256x128.Idx) (r : Fin 1024) (e0 : r.val = o + (n 0).val) :
    iT (a0T (GG i o p i00 i1 x0 x1 x2) (GG i o p1 i01 i1 x0 x1 x2)) n = Cert.Scale.iB (yv (i 1).val x0 x1 x2 r ⟨2 * s, by omega⟩) :=
  (iT_apply _ n).trans (congrArg _ (grp0 i o p p1 p2 s hs hp hp1 hp2 i00 i01 i1 x0 x1 x2 (n 0) r e0))
theorem s1_apply (n : S256x128.Idx) (r : Fin 1024) (e0 : r.val = o + (n 0).val) :
    sT (a1T (GG i o p2 i02 i1 x0 x1 x2) (GG i o p1 i01 i1 x0 x1 x2)) n = Cert.Scale.sB (yv (i 1).val x0 x1 x2 r ⟨2 * s + 1, by omega⟩) :=
  (sT_apply _ n).trans (congrArg _ (grp1 i o p p1 p2 s hs hp hp1 hp2 i01 i02 i1 x0 x1 x2 (n 0) r e0))
theorem i1_apply (n : S256x128.Idx) (r : Fin 1024) (e0 : r.val = o + (n 0).val) :
    iT (a1T (GG i o p2 i02 i1 x0 x1 x2) (GG i o p1 i01 i1 x0 x1 x2)) n = Cert.Scale.iB (yv (i 1).val x0 x1 x2 r ⟨2 * s + 1, by omega⟩) :=
  (iT_apply _ n).trans (congrArg _ (grp1 i o p p1 p2 s hs hp hp1 hp2 i01 i02 i1 x0 x1 x2 (n 0) r e0))

/-- The middle lane group takes the first group's at its first 64 lanes and the second's at the others. -/
theorem mid (f0 f1 : FVec Ideal S256x128 .f32) (F : Fin 8 → EReal) (n : S256x128.Idx) (j : Fin 1536) (e1 : j.val = p1 + (n 1).val)
    (h0 : f0 n = F ⟨2 * s, by omega⟩) (h1 : f1 n = F ⟨2 * s + 1, by omega⟩) : (select k0_pay8 f0 f1 : FVec Ideal S256x128 .f32) n = F (grp j) := by
  have hj : (n 1).val < 128 := (n 1).isLt
  have : (select k0_pay8 f0 f1 : FVec Ideal S256x128 .f32) n = Scalar.select (IntOp.cmpi .slt (BitVec.ofNat 32 (n 1).val) 64#32) (f0 n) (f1 n) := by
    unfold k0_pay8
    pointwise
  rw [this, low_sel _ hj, h0, h1]
  by_cases h : (n 1).val < 64
  · rw [if_pos h]; exact congrArg F (Fin.ext (by show 2 * s = j.val / 192; omega))
  · rw [if_neg h]; exact congrArg F (Fin.ext (by show 2 * s + 1 = j.val / 192; omega))

theorem codeT_apply (g inv : FVec Ideal S256x128 .f32) (n : S256x128.Idx) : codeT g inv n = min QM (max QN (g n * inv n)) := by
  unfold codeT k0_pay39
  pointwise

omit hs hp hp1 hp2 in
theorem gqT_apply (k : Nat) (h : S1x1536.Slices ![0, k] S1x128) (w : Vec Ideal S1x1536 .f32) (g sc inv : FVec Ideal S256x128 .f32) (n : S256x128.Idx) (j : Fin 1536) (e1 : j.val = k + (n 1).val) :
    gqT k h w g sc inv n = codeT g inv n * (sc n * w (ix2 0 j)) := by
  unfold gqT k0_pay9 codeT
  pointwise
  refine congrArg (_ * ·) (congrArg (_ * ·) (congrArg w (funext fun a => Fin.ext ?_)))
  fin_cases a
  · rfl
  · exact e1.symm

theorem code0 (n : S256x128.Idx) (r : Fin 1024) (j : Fin 1536) (e0 : r.val = o + (n 0).val) (e1 : j.val = p + (n 1).val) :
    codeT (GG i o p i00 i1 x0 x1 x2) (iT (a0T (GG i o p i00 i1 x0 x1 x2) (GG i o p1 i01 i1 x0 x1 x2))) n = cv (i 1).val x0 x1 x2 r j := by
  have hj : (n 1).val < 128 := (n 1).isLt
  rw [codeT_apply p p1 p2 s hs hp hp1 hp2, i0_apply i o p p1 p2 s hs hp hp1 hp2 i00 i01 i1 x0 x1 x2 n r e0, show GG i o p i00 i1 x0 x1 x2 n = _ from gT_apply i o p (by omega) i00 i1 x0 x1 x2 n r j e0 e1]
  unfold cv
  have : grp j = ⟨2 * s, by omega⟩ := Fin.ext (by show j.val / 192 = 2 * s; omega)
  rw [this]

theorem code1 (n : S256x128.Idx) (r : Fin 1024) (j : Fin 1536) (e0 : r.val = o + (n 0).val) (e1 : j.val = p1 + (n 1).val) :
    codeT (GG i o p1 i01 i1 x0 x1 x2) (select k0_pay8 (iT (a0T (GG i o p i00 i1 x0 x1 x2) (GG i o p1 i01 i1 x0 x1 x2))) (iT (a1T (GG i o p2 i02 i1 x0 x1 x2) (GG i o p1 i01 i1 x0 x1 x2)))) n
      = cv (i 1).val x0 x1 x2 r j := by
  rw [codeT_apply p p1 p2 s hs hp hp1 hp2, mid p p1 p2 s hs hp hp1 hp2 _ _ (fun q => Cert.Scale.iB (yv (i 1).val x0 x1 x2 r q)) n j e1
    (i0_apply i o p p1 p2 s hs hp hp1 hp2 i00 i01 i1 x0 x1 x2 n r e0) (i1_apply i o p p1 p2 s hs hp hp1 hp2 i01 i02 i1 x0 x1 x2 n r e0), show GG i o p1 i01 i1 x0 x1 x2 n = _ from gT_apply i o p1 (by omega) i01 i1 x0 x1 x2 n r j e0 e1]
  rfl

theorem code2 (n : S256x128.Idx) (r : Fin 1024) (j : Fin 1536) (e0 : r.val = o + (n 0).val) (e1 : j.val = p2 + (n 1).val) :
    codeT (GG i o p2 i02 i1 x0 x1 x2) (iT (a1T (GG i o p2 i02 i1 x0 x1 x2) (GG i o p1 i01 i1 x0 x1 x2))) n = cv (i 1).val x0 x1 x2 r j := by
  have hj : (n 1).val < 128 := (n 1).isLt
  rw [codeT_apply p p1 p2 s hs hp hp1 hp2, i1_apply i o p p1 p2 s hs hp hp1 hp2 i01 i02 i1 x0 x1 x2 n r e0, show GG i o p2 i02 i1 x0 x1 x2 n = _ from gT_apply i o p2 (by omega) i02 i1 x0 x1 x2 n r j e0 e1]
  unfold cv
  have : grp j = ⟨2 * s + 1, by omega⟩ := Fin.ext (by show j.val / 192 = 2 * s + 1; omega)
  rw [this]

theorem gq0 (h : S1x1536.Slices ![0, p] S1x128) (x4 : Vec Ideal S1x1536 .f32) (n : S256x128.Idx) (r : Fin 1024) (j : Fin 1536) (e0 : r.val = o + (n 0).val) (e1 : j.val = p + (n 1).val) :
    gqT p h x4 (GG i o p i00 i1 x0 x1 x2) (sT (a0T (GG i o p i00 i1 x0 x1 x2) (GG i o p1 i01 i1 x0 x1 x2))) (iT (a0T (GG i o p i00 i1 x0 x1 x2) (GG i o p1 i01 i1 x0 x1 x2))) n
      = qv (i 1).val x0 x1 x2 x4 r j := by
  have hj : (n 1).val < 128 := (n 1).isLt
  rw [gqT_apply p h x4 _ _ _ n j e1, code0 i o p p1 p2 s hs hp hp1 hp2 i00 i01 i1 x0 x1 x2 n r j e0 e1, s0_apply i o p p1 p2 s hs hp hp1 hp2 i00 i01 i1 x0 x1 x2 n r e0]
  unfold qv
  have : grp j = ⟨2 * s, by omega⟩ := Fin.ext (by show j.val / 192 = 2 * s; omega)
  rw [this]

theorem gq1 (h : S1x1536.Slices ![0, p1] S1x128) (x4 : Vec Ideal S1x1536 .f32) (n : S256x128.Idx) (r : Fin 1024) (j : Fin 1536) (e0 : r.val = o + (n 0).val) (e1 : j.val = p1 + (n 1).val) :
    gqT p1 h x4 (GG i o p1 i01 i1 x0 x1 x2)
      (select k0_pay8 (sT (a0T (GG i o p i00 i1 x0 x1 x2) (GG i o p1 i01 i1 x0 x1 x2))) (sT (a1T (GG i o p2 i02 i1 x0 x1 x2) (GG i o p1 i01 i1 x0 x1 x2))))
      (select k0_pay8 (iT (a0T (GG i o p i00 i1 x0 x1 x2) (GG i o p1 i01 i1 x0 x1 x2))) (iT (a1T (GG i o p2 i02 i1 x0 x1 x2) (GG i o p1 i01 i1 x0 x1 x2)))) n
      = qv (i 1).val x0 x1 x2 x4 r j := by
  rw [gqT_apply p1 h x4 _ _ _ n j e1, code1 i o p p1 p2 s hs hp hp1 hp2 i00 i01 i02 i1 x0 x1 x2 n r j e0 e1, mid p p1 p2 s hs hp hp1 hp2 _ _ (fun q => Cert.Scale.sB (yv (i 1).val x0 x1 x2 r q)) n j e1
    (s0_apply i o p p1 p2 s hs hp hp1 hp2 i00 i01 i1 x0 x1 x2 n r e0) (s1_apply i o p p1 p2 s hs hp hp1 hp2 i01 i02 i1 x0 x1 x2 n r e0)]
  rfl

theorem gq2 (h : S1x1536.Slices ![0, p2] S1x128) (x4 : Vec Ideal S1x1536 .f32) (n : S256x128.Idx) (r : Fin 1024) (j : Fin 1536) (e0 : r.val = o + (n 0).val) (e1 : j.val = p2 + (n 1).val) :
    gqT p2 h x4 (GG i o p2 i02 i1 x0 x1 x2) (sT (a1T (GG i o p2 i02 i1 x0 x1 x2) (GG i o p1 i01 i1 x0 x1 x2))) (iT (a1T (GG i o p2 i02 i1 x0 x1 x2) (GG i o p1 i01 i1 x0 x1 x2))) n
      = qv (i 1).val x0 x1 x2 x4 r j := by
  have hj : (n 1).val < 128 := (n 1).isLt
  rw [gqT_apply p2 h x4 _ _ _ n j e1, code2 i o p p1 p2 s hs hp hp1 hp2 i01 i02 i1 x0 x1 x2 n r j e0 e1, s1_apply i o p p1 p2 s hs hp hp1 hp2 i01 i02 i1 x0 x1 x2 n r e0]
  unfold qv
  have : grp j = ⟨2 * s + 1, by omega⟩ := Fin.ext (by show j.val / 192 = 2 * s + 1; omega)
  rw [this]
end tile

end Cert.BwdIdeal.Value
-- ==== Proof.BwdTile.lean ====
module

public import proofs.«01_k».proof.Proof.BwdBase
public import proofs.«01_k».proof.Proof.Gen.BwdIdeal.Value
public import Idealize.ShloMosaic.Lib.Pipeline.ReadBack

@[expose] public section
noncomputable section
namespace Cert.BwdIdeal.Value
open Cert.BwdIdeal Cert.BwdIdeal.Gen Idealize.ShloMosaic Idealize.ShloMosaic.TcCoe Idealize.SL.Sem

/-- Reading stored lane groups from the right: a store that reaches `y`'s column from the left of all later ones decides, -/
theorem canon_tile {e : EltTy} (o p : Nat) (inb : ∀ a, (![o, p] : Fin 2 → Nat) a + (![256, 128] : Fin 2 → Nat) a ≤ S1024x1536.size a)
    (w : S256x128.Idx → Elt Ideal e) (L : List (View.Piece (Elt Ideal) S1024x1536 e)) (v : Elt Ideal e) (y : S1024x1536.Idx)
    (h0 : o ≤ (y 0).val) (h1 : (y 0).val < o + 256) (h2 : (y 1).val < p + 128)
    (hw : ∀ i : S256x128.Idx, (y 0).val = o + (i 0).val → (y 1).val = p + (i 1).val → w i = v)
    (hL : (y 1).val < p → View.canon L y = v) :
    View.canon ((⟨Rect.unit (s := S1024x1536) ![o, p] ![256, 128] inb, w⟩ : View.Piece (Elt Ideal) S1024x1536 e) :: L) y = v := by
  by_cases h : (y 1).val < p
  · refine (View.canon_cons_of_not_mem (Val := Elt Ideal) _ L ?_).trans (hL h)
    exact Rect.not_mem_set_of_axis _ y 1 p 128 rfl rfl rfl (.inl h)
  · have hy : y = (Rect.unit (s := S1024x1536) ![o, p] ![256, 128] inb).emb (ix2 ⟨(y 0).val - o, by omega⟩ ⟨(y 1).val - p, by omega⟩) := by
      refine funext fun a => Fin.ext ?_
      refine Eq.trans ?_ (Rect.idx_unit_val _ _ inb (ix2 ⟨(y 0).val - o, by omega⟩ ⟨(y 1).val - p, by omega⟩) a).symm
      fin_cases a
      · show (y 0).val = o + ((y 0).val - o); omega
      · show (y 1).val = p + ((y 1).val - p); omega
    have := View.canon_cons_emb (Val := Elt Ideal) (Rect.unit (s := S1024x1536) ![o, p] ![256, 128] inb) w L (ix2 ⟨(y 0).val - o, by omega⟩ ⟨(y 1).val - p, by omega⟩)
    rw [← hy] at this
    exact this.trans (hw _ (by show (y 0).val = o + ((y 0).val - o); omega) (by show (y 1).val = p + ((y 1).val - p); omega))

/-- and stores of later row blocks are passed over. -/
theorem canon_pass {e : EltTy} (o p : Nat) (inb : ∀ a, (![o, p] : Fin 2 → Nat) a + (![256, 128] : Fin 2 → Nat) a ≤ S1024x1536.size a)
    (w : S256x128.Idx → Elt Ideal e) (L : List (View.Piece (Elt Ideal) S1024x1536 e)) (y : S1024x1536.Idx)
    (h : (y 0).val < o) (v : Elt Ideal e) (hL : View.canon L y = v) :
    View.canon ((⟨Rect.unit (s := S1024x1536) ![o, p] ![256, 128] inb, w⟩ : View.Piece (Elt Ideal) S1024x1536 e) :: L) y = v := by
  refine (View.canon_cons_of_not_mem (Val := Elt Ideal) _ L ?_).trans hL
  exact Rect.not_mem_set_of_axis _ y 0 o 256 rfl rfl rfl (.inl h)

section pair
variable (i : grid0.Coords) (o p p1 p2 s : Nat) (hs : s < 4) (hp : p = 384 * s) (hp1 : p1 = 384 * s + 128) (hp2 : p2 = 384 * s + 256)
    (i00 : ∀ a, (![o, p] : Fin 2 → Nat) a + (![256, 128] : Fin 2 → Nat) a ≤ S1024x1536.size a)
    (i01 : ∀ a, (![o, p1] : Fin 2 → Nat) a + (![256, 128] : Fin 2 → Nat) a ≤ S1024x1536.size a)
    (i02 : ∀ a, (![o, p2] : Fin 2 → Nat) a + (![256, 128] : Fin 2 → Nat) a ≤ S1024x1536.size a)
    (i1 : ∀ a, (![o, 0] : Fin 2 → Nat) a + (![256, 128] : Fin 2 → Nat) a ≤ S1024x128.size a)
    (x0 : Vec Ideal S1024x1536 .f32) (x1 : Vec Ideal S1024x128 .f32) (x2 : Vec Ideal S1024x128 .i32)
    (y : S1024x1536.Idx) (h0 : o ≤ (y 0).val) (h1 : (y 0).val < o + 256)
include hs hp hp1 hp2 h0 h1

/-- The three stores of a pair of groups' codes. -/
theorem codes_pair (L : List (View.Piece (Elt Ideal) S1024x1536 .fp8e5m2)) (h2 : (y 1).val < p2 + 128) (hL : (y 1).val < p → View.canon L y = cv (i 1).val x0 x1 x2 (y 0) (y 1)) :
    View.canon ((⟨Rect.unit (s := S1024x1536) ![o, p2] ![256, 128] i02, codeT (GG i o p2 i02 i1 x0 x1 x2) (iT (a1T (GG i o p2 i02 i1 x0 x1 x2) (GG i o p1 i01 i1 x0 x1 x2)))⟩ : View.Piece (Elt Ideal) S1024x1536 .fp8e5m2)
      :: (⟨Rect.unit (s := S1024x1536) ![o, p1] ![256, 128] i01, codeT (GG i o p1 i01 i1 x0 x1 x2) (select k0_pay8 (iT (a0T (GG i o p i00 i1 x0 x1 x2) (GG i o p1 i01 i1 x0 x1 x2))) (iT (a1T (GG i o p2 i02 i1 x0 x1 x2) (GG i o p1 i01 i1 x0 x1 x2))))⟩ : View.Piece (Elt Ideal) S1024x1536 .fp8e5m2)
      :: (⟨Rect.unit (s := S1024x1536) ![o, p] ![256, 128] i00, codeT (GG i o p i00 i1 x0 x1 x2) (iT (a0T (GG i o p i00 i1 x0 x1 x2) (GG i o p1 i01 i1 x0 x1 x2)))⟩ : View.Piece (Elt Ideal) S1024x1536 .fp8e5m2)
      :: L) y = cv (i 1).val x0 x1 x2 (y 0) (y 1) := by
  refine canon_tile (e := .fp8e5m2) o p2 i02 _ _ (cv (i 1).val x0 x1 x2 (y 0) (y 1)) y h0 h1 h2 (fun n e0 e1 => code2 i o p p1 p2 s hs hp hp1 hp2 i01 i02 i1 x0 x1 x2 n (y 0) (y 1) e0 e1) fun h2 => ?_
  refine canon_tile (e := .fp8e5m2) o p1 i01 _ _ (cv (i 1).val x0 x1 x2 (y 0) (y 1)) y h0 h1 (by omega) (fun n e0 e1 => code1 i o p p1 p2 s hs hp hp1 hp2 i00 i01 i02 i1 x0 x1 x2 n (y 0) (y 1) e0 e1) fun h2 => ?_
  exact canon_tile (e := .fp8e5m2) o p i00 _ _ (cv (i 1).val x0 x1 x2 (y 0) (y 1)) y h0 h1 (by omega) (fun n e0 e1 => code0 i o p p1 p2 s hs hp hp1 hp2 i00 i01 i1 x0 x1 x2 n (y 0) (y 1) e0 e1) hL

/-- The three stores of a pair of groups' scaled codes. -/
theorem gq_pair (s0 : S1x1536.Slices ![0, p] S1x128) (s1 : S1x1536.Slices ![0, p1] S1x128) (s2 : S1x1536.Slices ![0, p2] S1x128) (x4 : Vec Ideal S1x1536 .f32)
    (L : List (View.Piece (Elt Ideal) S1024x1536 .bf16)) (h2 : (y 1).val < p2 + 128) (hL : (y 1).val < p → View.canon L y = qv (i 1).val x0 x1 x2 x4 (y 0) (y 1)) :
    View.canon ((⟨Rect.unit (s := S1024x1536) ![o, p2] ![256, 128] i02, gqT p2 s2 x4 (GG i o p2 i02 i1 x0 x1 x2) (sT (a1T (GG i o p2 i02 i1 x0 x1 x2) (GG i o p1 i01 i1 x0 x1 x2))) (iT (a1T (GG i o p2 i02 i1 x0 x1 x2) (GG i o p1 i01 i1 x0 x1 x2)))⟩ : View.Piece (Elt Ideal) S1024x1536 .bf16)
      :: (⟨Rect.unit (s := S1024x1536) ![o, p1] ![256, 128] i01, gqT p1 s1 x4 (GG i o p1 i01 i1 x0 x1 x2) (select k0_pay8 (sT (a0T (GG i o p i00 i1 x0 x1 x2) (GG i o p1 i01 i1 x0 x1 x2))) (sT (a1T (GG i o p2 i02 i1 x0 x1 x2) (GG i o p1 i01 i1 x0 x1 x2))))
          (select k0_pay8 (iT (a0T (GG i o p i00 i1 x0 x1 x2) (GG i o p1 i01 i1 x0 x1 x2))) (iT (a1T (GG i o p2 i02 i1 x0 x1 x2) (GG i o p1 i01 i1 x0 x1 x2))))⟩ : View.Piece (Elt Ideal) S1024x1536 .bf16)
      :: (⟨Rect.unit (s := S1024x1536) ![o, p] ![256, 128] i00, gqT p s0 x4 (GG i o p i00 i1 x0 x1 x2) (sT (a0T (GG i o p i00 i1 x0 x1 x2) (GG i o p1 i01 i1 x0 x1 x2))) (iT (a0T (GG i o p i00 i1 x0 x1 x2) (GG i o p1 i01 i1 x0 x1 x2)))⟩ : View.Piece (Elt Ideal) S1024x1536 .bf16)
      :: L) y = qv (i 1).val x0 x1 x2 x4 (y 0) (y 1) := by
  refine canon_tile (e := .bf16) o p2 i02 _ _ (qv (i 1).val x0 x1 x2 x4 (y 0) (y 1)) y h0 h1 h2 (fun n e0 e1 => gq2 i o p p1 p2 s hs hp hp1 hp2 i01 i02 i1 x0 x1 x2 s2 x4 n (y 0) (y 1) e0 e1) fun h2 => ?_
  refine canon_tile (e := .bf16) o p1 i01 _ _ (qv (i 1).val x0 x1 x2 x4 (y 0) (y 1)) y h0 h1 (by omega) (fun n e0 e1 => gq1 i o p p1 p2 s hs hp hp1 hp2 i00 i01 i02 i1 x0 x1 x2 s1 x4 n (y 0) (y 1) e0 e1) fun h2 => ?_
  exact canon_tile (e := .bf16) o p i00 _ _ (qv (i 1).val x0 x1 x2 x4 (y 0) (y 1)) y h0 h1 (by omega) (fun n e0 e1 => gq0 i o p p1 p2 s hs hp hp1 hp2 i00 i01 i1 x0 x1 x2 s0 x4 n (y 0) (y 1) e0 e1) hL
end pair

end Cert.BwdIdeal.Value
-- ==== Proof.BwdCA.lean ====
module

public import proofs.«01_k».proof.Proof.BwdTile

@[expose] public section
noncomputable section
namespace Cert.BwdIdeal.Value
open Cert.BwdIdeal Cert.BwdIdeal.Gen Idealize.ShloMosaic Idealize.ShloMosaic.TcCoe Idealize.SL.Sem

variable (m : (ℓ : Loc nD τ sig) → Buf (Elt Ideal) ℓ)

/-- The codes a grid point stores. -/
theorem codesA (c : Dev nD) (t : Fin cfg0.N) (h0 : t.val % 16 = 0) (h1 : ¬t.val % 16 = 15) (y : S1024x1536.Idx) :
    (outsAt0 m c t.val t.isLt).1 y = cv (grid0.coords t 1).val (iblk m c 0 t) (iblk m c 1 t) (iblk m c 2 t) (y 0) (y 1) := by
  rw [outsAt0_A m c t h0 h1]
  dsimp only
  frame_out
  have hy0 : (y 0).val < 1024 := (y 0).isLt
  have hy : (y 1).val < 1536 := (y 1).isLt
  by_cases h : 768 ≤ (y 0).val
  · refine codes_pair (grid0.coords t) 768 1152 1280 1408 3 (by decide) rfl rfl rfl _ _ _ _ (iblk m c 0 t) (iblk m c 1 t) (iblk m c 2 t) y (by omega) (by omega) _ (by omega) fun hy => ?_
    refine codes_pair (grid0.coords t) 768 768 896 1024 2 (by decide) rfl rfl rfl _ _ _ _ (iblk m c 0 t) (iblk m c 1 t) (iblk m c 2 t) y (by omega) (by omega) _ (by omega) fun hy => ?_
    refine codes_pair (grid0.coords t) 768 384 512 640 1 (by decide) rfl rfl rfl _ _ _ _ (iblk m c 0 t) (iblk m c 1 t) (iblk m c 2 t) y (by omega) (by omega) _ (by omega) fun hy => ?_
    refine codes_pair (grid0.coords t) 768 0 128 256 0 (by decide) rfl rfl rfl _ _ _ _ (iblk m c 0 t) (iblk m c 1 t) (iblk m c 2 t) y (by omega) (by omega) _ (by omega) fun hy => ?_
    exact absurd hy (Nat.not_lt_zero _)
  iterate 12 refine canon_pass (e := .fp8e5m2) 768 _ _ _ _ y (by omega) _ ?_
  by_cases h : 512 ≤ (y 0).val
  · refine codes_pair (grid0.coords t) 512 1152 1280 1408 3 (by decide) rfl rfl rfl _ _ _ _ (iblk m c 0 t) (iblk m c 1 t) (iblk m c 2 t) y (by omega) (by omega) _ (by omega) fun hy => ?_
    refine codes_pair (grid0.coords t) 512 768 896 1024 2 (by decide) rfl rfl rfl _ _ _ _ (iblk m c 0 t) (iblk m c 1 t) (iblk m c 2 t) y (by omega) (by omega) _ (by omega) fun hy => ?_
    refine codes_pair (grid0.coords t) 512 384 512 640 1 (by decide) rfl rfl rfl _ _ _ _ (iblk m c 0 t) (iblk m c 1 t) (iblk m c 2 t) y (by omega) (by omega) _ (by omega) fun hy => ?_
    refine codes_pair (grid0.coords t) 512 0 128 256 0 (by decide) rfl rfl rfl _ _ _ _ (iblk m c 0 t) (iblk m c 1 t) (iblk m c 2 t) y (by omega) (by omega) _ (by omega) fun hy => ?_
    exact absurd hy (Nat.not_lt_zero _)
  iterate 12 refine canon_pass (e := .fp8e5m2) 512 _ _ _ _ y (by omega) _ ?_
  by_cases h : 256 ≤ (y 0).val
  · refine codes_pair (grid0.coords t) 256 1152 1280 1408 3 (by decide) rfl rfl rfl _ _ _ _ (iblk m c 0 t) (iblk m c 1 t) (iblk m c 2 t) y (by omega) (by omega) _ (by omega) fun hy => ?_
    refine codes_pair (grid0.coords t) 256 768 896 1024 2 (by decide) rfl rfl rfl _ _ _ _ (iblk m c 0 t) (iblk m c 1 t) (iblk m c 2 t) y (by omega) (by omega) _ (by omega) fun hy => ?_
    refine codes_pair (grid0.coords t) 256 384 512 640 1 (by decide) rfl rfl rfl _ _ _ _ (iblk m c 0 t) (iblk m c 1 t) (iblk m c 2 t) y (by omega) (by omega) _ (by omega) fun hy => ?_
    refine codes_pair (grid0.coords t) 256 0 128 256 0 (by decide) rfl rfl rfl _ _ _ _ (iblk m c 0 t) (iblk m c 1 t) (iblk m c 2 t) y (by omega) (by omega) _ (by omega) fun hy => ?_
    exact absurd hy (Nat.not_lt_zero _)
  iterate 12 refine canon_pass (e := .fp8e5m2) 256 _ _ _ _ y (by omega) _ ?_
  refine codes_pair (grid0.coords t) 0 1152 1280 1408 3 (by decide) rfl rfl rfl _ _ _ _ (iblk m c 0 t) (iblk m c 1 t) (iblk m c 2 t) y (by omega) (by omega) _ (by omega) fun hy => ?_
  refine codes_pair (grid0.coords t) 0 768 896 1024 2 (by decide) rfl rfl rfl _ _ _ _ (iblk m c 0 t) (iblk m c 1 t) (iblk m c 2 t) y (by omega) (by omega) _ (by omega) fun hy => ?_
  refine codes_pair (grid0.coords t) 0 384 512 640 1 (by decide) rfl rfl rfl _ _ _ _ (iblk m c 0 t) (iblk m c 1 t) (iblk m c 2 t) y (by omega) (by omega) _ (by omega) fun hy => ?_
  refine codes_pair (grid0.coords t) 0 0 128 256 0 (by decide) rfl rfl rfl _ _ _ _ (iblk m c 0 t) (iblk m c 1 t) (iblk m c 2 t) y (by omega) (by omega) _ (by omega) fun hy => ?_
  exact absurd hy (Nat.not_lt_zero _)

end Cert.BwdIdeal.Value
-- ==== Proof.BwdCB.lean ====
module

public import proofs.«01_k».proof.Proof.BwdTile

@[expose] public section
noncomputable section
namespace Cert.BwdIdeal.Value
open Cert.BwdIdeal Cert.BwdIdeal.Gen Idealize.ShloMosaic Idealize.ShloMosaic.TcCoe Idealize.SL.Sem

variable (m : (ℓ : Loc nD τ sig) → Buf (Elt Ideal) ℓ)

/-- The codes a grid point stores. -/
theorem codesB (c : Dev nD) (t : Fin cfg0.N) (h0 : ¬t.val % 16 = 0) (h1 : ¬t.val % 16 = 15) (y : S1024x1536.Idx) :
    (outsAt0 m c t.val t.isLt).1 y = cv (grid0.coords t 1).val (iblk m c 0 t) (iblk m c 1 t) (iblk m c 2 t) (y 0) (y 1) := by
  rw [outsAt0_B m c t h0 h1]
  dsimp only
  frame_out
  have hy0 : (y 0).val < 1024 := (y 0).isLt
  have hy : (y 1).val < 1536 := (y 1).isLt
  by_cases h : 768 ≤ (y 0).val
  · refine codes_pair (grid0.coords t) 768 1152 1280 1408 3 (by decide) rfl rfl rfl _ _ _ _ (iblk m c 0 t) (iblk m c 1 t) (iblk m c 2 t) y (by omega) (by omega) _ (by omega) fun hy => ?_
    refine codes_pair (grid0.coords t) 768 768 896 1024 2 (by decide) rfl rfl rfl _ _ _ _ (iblk m c 0 t) (iblk m c 1 t) (iblk m c 2 t) y (by omega) (by omega) _ (by omega) fun hy => ?_
    refine codes_pair (grid0.coords t) 768 384 512 640 1 (by decide) rfl rfl rfl _ _ _ _ (iblk m c 0 t) (iblk m c 1 t) (iblk m c 2 t) y (by omega) (by omega) _ (by omega) fun hy => ?_
    refine codes_pair (grid0.coords t) 768 0 128 256 0 (by decide) rfl rfl rfl _ _ _ _ (iblk m c 0 t) (iblk m c 1 t) (iblk m c 2 t) y (by omega) (by omega) _ (by omega) fun hy => ?_
    exact absurd hy (Nat.not_lt_zero _)
  iterate 12 refine canon_pass (e := .fp8e5m2) 768 _ _ _ _ y (by omega) _ ?_
  by_cases h : 512 ≤ (y 0).val
  · refine codes_pair (grid0.coords t) 512 1152 1280 1408 3 (by decide) rfl rfl rfl _ _ _ _ (iblk m c 0 t) (iblk m c 1 t) (iblk m c 2 t) y (by omega) (by omega) _ (by omega) fun hy => ?_
    refine codes_pair (grid0.coords t) 512 768 896 1024 2 (by decide) rfl rfl rfl _ _ _ _ (iblk m c 0 t) (iblk m c 1 t) (iblk m c 2 t) y (by omega) (by omega) _ (by omega) fun hy => ?_
    refine codes_pair (grid0.coords t) 512 384 512 640 1 (by decide) rfl rfl rfl _ _ _ _ (iblk m c 0 t) (iblk m c 1 t) (iblk m c 2 t) y (by omega) (by omega) _ (by omega) fun hy => ?_
    refine codes_pair (grid0.coords t) 512 0 128 256 0 (by decide) rfl rfl rfl _ _ _ _ (iblk m c 0 t) (iblk m c 1 t) (iblk m c 2 t) y (by omega) (by omega) _ (by omega) fun hy => ?_
    exact absurd hy (Nat.not_lt_zero _)
  iterate 12 refine canon_pass (e := .fp8e5m2) 512 _ _ _ _ y (by omega) _ ?_
  by_cases h : 256 ≤ (y 0).val
  · refine codes_pair (grid0.coords t) 256 1152 1280 1408 3 (by decide) rfl rfl rfl _ _ _ _ (iblk m c 0 t) (iblk m c 1 t) (iblk m c 2 t) y (by omega) (by omega) _ (by omega) fun hy => ?_
    refine codes_pair (grid0.coords t) 256 768 896 1024 2 (by decide) rfl rfl rfl _ _ _ _ (iblk m c 0 t) (iblk m c 1 t) (iblk m c 2 t) y (by omega) (by omega) _ (by omega) fun hy => ?_
    refine codes_pair (grid0.coords t) 256 384 512 640 1 (by decide) rfl rfl rfl _ _ _ _ (iblk m c 0 t) (iblk m c 1 t) (iblk m c 2 t) y (by omega) (by omega) _ (by omega) fun hy => ?_
    refine codes_pair (grid0.coords t) 256 0 128 256 0 (by decide) rfl rfl rfl _ _ _ _ (iblk m c 0 t) (iblk m c 1 t) (iblk m c 2 t) y (by omega) (by omega) _ (by omega) fun hy => ?_
    exact absurd hy (Nat.not_lt_zero _)
  iterate 12 refine canon_pass (e := .fp8e5m2) 256 _ _ _ _ y (by omega) _ ?_
  refine codes_pair (grid0.coords t) 0 1152 1280 1408 3 (by decide) rfl rfl rfl _ _ _ _ (iblk m c 0 t) (iblk m c 1 t) (iblk m c 2 t) y (by omega) (by omega) _ (by omega) fun hy => ?_
  refine codes_pair (grid0.coords t) 0 768 896 1024 2 (by decide) rfl rfl rfl _ _ _ _ (iblk m c 0 t) (iblk m c 1 t) (iblk m c 2 t) y (by omega) (by omega) _ (by omega) fun hy => ?_
  refine codes_pair (grid0.coords t) 0 384 512 640 1 (by decide) rfl rfl rfl _ _ _ _ (iblk m c 0 t) (iblk m c 1 t) (iblk m c 2 t) y (by omega) (by omega) _ (by omega) fun hy => ?_
  refine codes_pair (grid0.coords t) 0 0 128 256 0 (by decide) rfl rfl rfl _ _ _ _ (iblk m c 0 t) (iblk m c 1 t) (iblk m c 2 t) y (by omega) (by omega) _ (by omega) fun hy => ?_
  exact absurd hy (Nat.not_lt_zero _)

end Cert.BwdIdeal.Value
-- ==== Proof.BwdCC.lean ====
module

public import proofs.«01_k».proof.Proof.BwdTile

@[expose] public section
noncomputable section
namespace Cert.BwdIdeal.Value
open Cert.BwdIdeal Cert.BwdIdeal.Gen Idealize.ShloMosaic Idealize.ShloMosaic.TcCoe Idealize.SL.Sem

variable (m : (ℓ : Loc nD τ sig) → Buf (Elt Ideal) ℓ)

/-- The codes a grid point stores. -/
theorem codesC (c : Dev nD) (t : Fin cfg0.N) (h0 : ¬t.val % 16 = 0) (h1 : t.val % 16 = 15) (y : S1024x1536.Idx) :
    (outsAt0 m c t.val t.isLt).1 y = cv (grid0.coords t 1).val (iblk m c 0 t) (iblk m c 1 t) (iblk m c 2 t) (y 0) (y 1) := by
  rw [outsAt0_C m c t h0 h1]
  dsimp only
  frame_out
  have hy0 : (y 0).val < 1024 := (y 0).isLt
  have hy : (y 1).val < 1536 := (y 1).isLt
  by_cases h : 768 ≤ (y 0).val
  · refine codes_pair (grid0.coords t) 768 1152 1280 1408 3 (by decide) rfl rfl rfl _ _ _ _ (iblk m c 0 t) (iblk m c 1 t) (iblk m c 2 t) y (by omega) (by omega) _ (by omega) fun hy => ?_
    refine codes_pair (grid0.coords t) 768 768 896 1024 2 (by decide) rfl rfl rfl _ _ _ _ (iblk m c 0 t) (iblk m c 1 t) (iblk m c 2 t) y (by omega) (by omega) _ (by omega) fun hy => ?_
    refine codes_pair (grid0.coords t) 768 384 512 640 1 (by decide) rfl rfl rfl _ _ _ _ (iblk m c 0 t) (iblk m c 1 t) (iblk m c 2 t) y (by omega) (by omega) _ (by omega) fun hy => ?_
    refine codes_pair (grid0.coords t) 768 0 128 256 0 (by decide) rfl rfl rfl _ _ _ _ (iblk m c 0 t) (iblk m c 1 t) (iblk m c 2 t) y (by omega) (by omega) _ (by omega) fun hy => ?_
    exact absurd hy (Nat.not_lt_zero _)
  iterate 12 refine canon_pass (e := .fp8e5m2) 768 _ _ _ _ y (by omega) _ ?_
  by_cases h : 512 ≤ (y 0).val
  · refine codes_pair (grid0.coords t) 512 1152 1280 1408 3 (by decide) rfl rfl rfl _ _ _ _ (iblk m c 0 t) (iblk m c 1 t) (iblk m c 2 t) y (by omega) (by omega) _ (by omega) fun hy => ?_
    refine codes_pair (grid0.coords t) 512 768 896 1024 2 (by decide) rfl rfl rfl _ _ _ _ (iblk m c 0 t) (iblk m c 1 t) (iblk m c 2 t) y (by omega) (by omega) _ (by omega) fun hy => ?_
    refine codes_pair (grid0.coords t) 512 384 512 640 1 (by decide) rfl rfl rfl _ _ _ _ (iblk m c 0 t) (iblk m c 1 t) (iblk m c 2 t) y (by omega) (by omega) _ (by omega) fun hy => ?_
    refine codes_pair (grid0.coords t) 512 0 128 256 0 (by decide) rfl rfl rfl _ _ _ _ (iblk m c 0 t) (iblk m c 1 t) (iblk m c 2 t) y (by omega) (by omega) _ (by omega) fun hy => ?_
    exact absurd hy (Nat.not_lt_zero _)
  iterate 12 refine canon_pass (e := .fp8e5m2) 512 _ _ _ _ y (by omega) _ ?_
  by_cases h : 256 ≤ (y 0).val
  · refine codes_pair (grid0.coords t) 256 1152 1280 1408 3 (by decide) rfl rfl rfl _ _ _ _ (iblk m c 0 t) (iblk m c 1 t) (iblk m c 2 t) y (by omega) (by omega) _ (by omega) fun hy => ?_
    refine codes_pair (grid0.coords t) 256 768 896 1024 2 (by decide) rfl rfl rfl _ _ _ _ (iblk m c 0 t) (iblk m c 1 t) (iblk m c 2 t) y (by omega) (by omega) _ (by omega) fun hy => ?_
    refine codes_pair (grid0.coords t) 256 384 512 640 1 (by decide) rfl rfl rfl _ _ _ _ (iblk m c 0 t) (iblk m c 1 t) (iblk m c 2 t) y (by omega) (by omega) _ (by omega) fun hy => ?_
    refine codes_pair (grid0.coords t) 256 0 128 256 0 (by decide) rfl rfl rfl _ _ _ _ (iblk m c 0 t) (iblk m c 1 t) (iblk m c 2 t) y (by omega) (by omega) _ (by omega) fun hy => ?_
    exact absurd hy (Nat.not_lt_zero _)
  iterate 12 refine canon_pass (e := .fp8e5m2) 256 _ _ _ _ y (by omega) _ ?_
  refine codes_pair (grid0.coords t) 0 1152 1280 1408 3 (by decide) rfl rfl rfl _ _ _ _ (iblk m c 0 t) (iblk m c 1 t) (iblk m c 2 t) y (by omega) (by omega) _ (by omega) fun hy => ?_
  refine codes_pair (grid0.coords t) 0 768 896 1024 2 (by decide) rfl rfl rfl _ _ _ _ (iblk m c 0 t) (iblk m c 1 t) (iblk m c 2 t) y (by omega) (by omega) _ (by omega) fun hy => ?_
  refine codes_pair (grid0.coords t) 0 384 512 640 1 (by decide) rfl rfl rfl _ _ _ _ (iblk m c 0 t) (iblk m c 1 t) (iblk m c 2 t) y (by omega) (by omega) _ (by omega) fun hy => ?_
  refine codes_pair (grid0.coords t) 0 0 128 256 0 (by decide) rfl rfl rfl _ _ _ _ (iblk m c 0 t) (iblk m c 1 t) (iblk m c 2 t) y (by omega) (by omega) _ (by omega) fun hy => ?_
  exact absurd hy (Nat.not_lt_zero _)

end Cert.BwdIdeal.Value
-- ==== Proof.BwdRows.lean ====
module

public import proofs.«01_k».proof.Proof.BwdTile

@[expose] public section
noncomputable section
namespace Cert.BwdIdeal.Value
open Cert.BwdIdeal Cert.BwdIdeal.Gen Idealize.ShloMosaic Idealize.ShloMosaic.TcCoe Idealize.SL.Sem

/-- The boxes of the row blocks lie inside. -/
theorem inbK (o : Nat) (ho : o ≤ 768) (k : Nat) (hk : k ≤ 1408) : ∀ a, (![o, k] : Fin 2 → Nat) a + (![256, 128] : Fin 2 → Nat) a ≤ S1024x1536.size a := fun a => by
  fin_cases a
  · show o + 256 ≤ 1024; omega
  · show k + 128 ≤ 1536; omega
theorem inbL (o : Nat) (ho : o ≤ 768) : ∀ a, (![o, 0] : Fin 2 → Nat) a + (![256, 128] : Fin 2 → Nat) a ≤ S1024x128.size a := fun a => by
  fin_cases a
  · show o + 256 ≤ 1024; omega
  · exact le_refl 128

/-- The entry of the label, if it is in the lane group `k` at lane `l`. -/
def tlv (v : Nat) (x0 : Vec Ideal S1024x1536 .f32) (x2 : Vec Ideal S1024x128 .i32) (r : Fin 1024) (l : Fin 128) (k : Fin 12) : EReal :=
  if x2 (ix2 r l) = BitVec.ofNat 32 (v * 1536 + (k.val * 128 + l.val)) then x0 (ix2 r ⟨k.val * 128 + l.val, by omega⟩) else 0

def tlT (i : grid0.Coords) (k : Nat) (t : Vec Ideal S256x128 .f32) (lab : Vec Ideal S256x128 .i32) (acc : FVec Ideal S256x128 .f32) : FVec Ideal S256x128 .f32 :=
  addf acc (select (cmpi .eq (iota .tc S256x128 32 [1] iota_S256x128_d1_w32) (subi (k0_pay11 (F := Ideal) i lab) (broadcast S256x128 (BitVec.ofNat 32 k)))) t
    (broadcast S256x128 (Scalar.ofBits (F := Ideal) .f32 0x00000000#32)))

theorem tl_core (i : grid0.Coords) (k : Nat) (t : Vec Ideal S256x128 .f32) (lab : Vec Ideal S256x128 .i32) (acc : FVec Ideal S256x128 .f32) (n : S256x128.Idx) :
    tlT i k t lab acc n = acc n + if BitVec.ofNat 32 (n 1).val = lab n - BitVec.ofNat 32 (i 1).val * 1536#32 - BitVec.ofNat 32 k then t n else 0 := by
  unfold tlT k0_pay11
  pointwise
  rw [sel_eq]
  rfl

theorem tl_step (i : grid0.Coords) (o k q : Nat) (hk : k = q * 128) (hq : q < 12) (ho : o ≤ 768) (x0 : Vec Ideal S1024x1536 .f32) (x2 : Vec Ideal S1024x128 .i32) (acc : FVec Ideal S256x128 .f32)
    (n : S256x128.Idx) (r : Fin 1024) (e0 : r.val = o + (n 0).val) :
    tlT i k (View.ld x0 (Rect.unit (s := S1024x1536) ![o, k] ![256, 128] (inbK o ho k (by omega)))) (View.ld x2 (Rect.unit (s := S1024x128) ![o, 0] ![256, 128] (inbL o ho))) acc n
      = acc n + tlv (i 1).val x0 x2 r (n 1) ⟨q, hq⟩ := by
  have hj : (n 1).val < 128 := (n 1).isLt
  have q0 : View.ld x0 (Rect.unit (s := S1024x1536) ![o, k] ![256, 128] (inbK o ho k (by omega))) n = x0 (ix2 r ⟨q * 128 + (n 1).val, by omega⟩) := by
    refine congrArg x0 (funext fun a => Fin.ext ((Rect.idx_unit_val _ _ (inbK o ho k (by omega)) n a).trans ?_))
    fin_cases a
    · exact e0.symm
    · show k + (n 1).val = q * 128 + (n 1).val; omega
  have q2 : View.ld x2 (Rect.unit (s := S1024x128) ![o, 0] ![256, 128] (inbL o ho)) n = x2 (ix2 r (n 1)) := by
    refine congrArg x2 (funext fun a => Fin.ext ((Rect.idx_unit_val _ _ (inbL o ho) n a).trans ?_))
    fin_cases a
    · exact e0.symm
    · exact Nat.zero_add _
  rw [tl_core, q0, q2]
  unfold tlv
  refine congrArg (_ + ·) (if_congr ?_ rfl rfl)
  rw [sub_key, sub_key, ← BitVec.ofNat_add, show (1536#32 : BitVec 32) = BitVec.ofNat 32 1536 from rfl, ← BitVec.ofNat_mul, ← BitVec.ofNat_add, eq_comm,
    show (n 1).val + k + (i 1).val * 1536 = (i 1).val * 1536 + (q * 128 + (n 1).val) by omega]

/-- Twelve lane groups one after the other. -/
theorem tl_chain (i : grid0.Coords) (o : Nat) (ho : o ≤ 768) (x0 : Vec Ideal S1024x1536 .f32) (x2 : Vec Ideal S1024x128 .i32) (acc : FVec Ideal S256x128 .f32)
    (n : S256x128.Idx) (r : Fin 1024) (e0 : r.val = o + (n 0).val) :
    shapeCast S256x128 (tlT i 1408 (View.ld x0 (Rect.unit (s := S1024x1536) ![o, 1408] ![256, 128] (inbK o ho 1408 (by decide)))) (View.ld x2 (Rect.unit (s := S1024x128) ![o, 0] ![256, 128] (inbL o ho))) (tlT i 1280 (View.ld x0 (Rect.unit (s := S1024x1536) ![o, 1280] ![256, 128] (inbK o ho 1280 (by decide)))) (View.ld x2 (Rect.unit (s := S1024x128) ![o, 0] ![256, 128] (inbL o ho))) (tlT i 1152 (View.ld x0 (Rect.unit (s := S1024x1536) ![o, 1152] ![256, 128] (inbK o ho 1152 (by decide)))) (View.ld x2 (Rect.unit (s := S1024x128) ![o, 0] ![256, 128] (inbL o ho))) (tlT i 1024 (View.ld x0 (Rect.unit (s := S1024x1536) ![o, 1024] ![256, 128] (inbK o ho 1024 (by decide)))) (View.ld x2 (Rect.unit (s := S1024x128) ![o, 0] ![256, 128] (inbL o ho))) (tlT i 896 (View.ld x0 (Rect.unit (s := S1024x1536) ![o, 896] ![256, 128] (inbK o ho 896 (by decide)))) (View.ld x2 (Rect.unit (s := S1024x128) ![o, 0] ![256, 128] (inbL o ho))) (tlT i 768 (View.ld x0 (Rect.unit (s := S1024x1536) ![o, 768] ![256, 128] (inbK o ho 768 (by decide)))) (View.ld x2 (Rect.unit (s := S1024x128) ![o, 0] ![256, 128] (inbL o ho))) (tlT i 640 (View.ld x0 (Rect.unit (s := S1024x1536) ![o, 640] ![256, 128] (inbK o ho 640 (by decide)))) (View.ld x2 (Rect.unit (s := S1024x128) ![o, 0] ![256, 128] (inbL o ho))) (tlT i 512 (View.ld x0 (Rect.unit (s := S1024x1536) ![o, 512] ![256, 128] (inbK o ho 512 (by decide)))) (View.ld x2 (Rect.unit (s := S1024x128) ![o, 0] ![256, 128] (inbL o ho))) (tlT i 384 (View.ld x0 (Rect.unit (s := S1024x1536) ![o, 384] ![256, 128] (inbK o ho 384 (by decide)))) (View.ld x2 (Rect.unit (s := S1024x128) ![o, 0] ![256, 128] (inbL o ho))) (tlT i 256 (View.ld x0 (Rect.unit (s := S1024x1536) ![o, 256] ![256, 128] (inbK o ho 256 (by decide)))) (View.ld x2 (Rect.unit (s := S1024x128) ![o, 0] ![256, 128] (inbL o ho))) (tlT i 128 (View.ld x0 (Rect.unit (s := S1024x1536) ![o, 128] ![256, 128] (inbK o ho 128 (by decide)))) (View.ld x2 (Rect.unit (s := S1024x128) ![o, 0] ![256, 128] (inbL o ho))) (tlT i 0 (View.ld x0 (Rect.unit (s := S1024x1536) ![o, 0] ![256, 128] (inbK o ho 0 (by decide)))) (View.ld x2 (Rect.unit (s := S1024x128) ![o, 0] ![256, 128] (inbL o ho))) acc)))))))))))) shapeCasts_S256x128_S256x128 n
      = acc n + ∑ k, tlv (i 1).val x0 x2 r (n 1) k := by
  rw [shapeCast_self]
  rw [tl_step i o 1408 11 rfl (by decide) ho x0 x2 _ n r e0]
  rw [tl_step i o 1280 10 rfl (by decide) ho x0 x2 _ n r e0]
  rw [tl_step i o 1152 9 rfl (by decide) ho x0 x2 _ n r e0]
  rw [tl_step i o 1024 8 rfl (by decide) ho x0 x2 _ n r e0]
  rw [tl_step i o 896 7 rfl (by decide) ho x0 x2 _ n r e0]
  rw [tl_step i o 768 6 rfl (by decide) ho x0 x2 _ n r e0]
  rw [tl_step i o 640 5 rfl (by decide) ho x0 x2 _ n r e0]
  rw [tl_step i o 512 4 rfl (by decide) ho x0 x2 _ n r e0]
  rw [tl_step i o 384 3 rfl (by decide) ho x0 x2 _ n r e0]
  rw [tl_step i o 256 2 rfl (by decide) ho x0 x2 _ n r e0]
  rw [tl_step i o 128 1 rfl (by decide) ho x0 x2 _ n r e0]
  rw [tl_step i o 0 0 rfl (by decide) ho x0 x2 _ n r e0]
  simp only [Fin.sum_univ_succ, Fin.sum_univ_zero, add_zero, add_assoc]
  rfl

def gsT (i : grid0.Coords) (c : Nat) (s0 s1 acc : FVec Ideal S256x128 .f32) : FVec Ideal S256x128 .f32 :=
  select (cmpi .eq (iota .tc S256x128 32 [1] iota_S256x128_d1_w32) (broadcast S256x128 (Scalar.addi (Scalar.addi (Scalar.muli (BitVec.ofNat 32 (i 1).val) 8#32) (BitVec.ofNat 32 c)) 1#32))) s1
    (select (cmpi .eq (iota .tc S256x128 32 [1] iota_S256x128_d1_w32) (broadcast S256x128 (Scalar.addi (Scalar.muli (BitVec.ofNat 32 (i 1).val) 8#32) (BitVec.ofNat 32 c)))) s0 acc)

theorem ofNat_inj (a b : Nat) (ha : a < 4096) (hb : b < 4096) : BitVec.ofNat 32 a = BitVec.ofNat 32 b ↔ a = b := by
  constructor
  · intro h
    have := congrArg BitVec.toNat h
    rw [BitVec.toNat_ofNat, BitVec.toNat_ofNat, Nat.mod_eq_of_lt (by omega), Nat.mod_eq_of_lt (by omega)] at this
    exact this
  · rintro rfl; rfl

theorem gs_step (i : grid0.Coords) (c s : Nat) (hs : s < 4) (hc : c = 2 * s) (s0 s1 acc : FVec Ideal S256x128 .f32) (n : S256x128.Idx) :
    gsT i c s0 s1 acc n = if (n 1).val = (i 1).val * 8 + 2 * s + 1 then s1 n else if (n 1).val = (i 1).val * 8 + 2 * s then s0 n else acc n := by
  have hj : (n 1).val < 128 := (n 1).isLt
  have hv : (i 1).val < 16 := (i 1).isLt
  unfold gsT
  pointwise
  rw [sel_eq, sel_eq]
  refine if_congr ?_ rfl (if_congr ?_ rfl rfl)
  · refine Iff.trans ?_ (ofNat_inj (n 1).val ((i 1).val * 8 + 2 * s + 1) (by omega) (by omega))
    rw [BitVec.ofNat_add, BitVec.ofNat_add, BitVec.ofNat_mul, hc]
    rfl
  · refine Iff.trans ?_ (ofNat_inj (n 1).val ((i 1).val * 8 + 2 * s) (by omega) (by omega))
    rw [BitVec.ofNat_add, BitVec.ofNat_mul, hc]
    rfl

/-- What a row block of the scales is left with. -/
theorem gs_chain (i : grid0.Coords) (o : Nat) (ho : o ≤ 768) (x0 : Vec Ideal S1024x1536 .f32) (x1 : Vec Ideal S1024x128 .f32) (x2 : Vec Ideal S1024x128 .i32) (acc : FVec Ideal S256x128 .f32)
    (n : S256x128.Idx) (r : Fin 1024) (e0 : r.val = o + (n 0).val) :
    (gsT i 6 (sT (a0T (GG i o 1152 (inbK o ho 1152 (by decide)) (inbL o ho) x0 x1 x2) (GG i o 1280 (inbK o ho 1280 (by decide)) (inbL o ho) x0 x1 x2))) (sT (a1T (GG i o 1408 (inbK o ho 1408 (by decide)) (inbL o ho) x0 x1 x2) (GG i o 1280 (inbK o ho 1280 (by decide)) (inbL o ho) x0 x1 x2))) (gsT i 4 (sT (a0T (GG i o 768 (inbK o ho 768 (by decide)) (inbL o ho) x0 x1 x2) (GG i o 896 (inbK o ho 896 (by decide)) (inbL o ho) x0 x1 x2))) (sT (a1T (GG i o 1024 (inbK o ho 1024 (by decide)) (inbL o ho) x0 x1 x2) (GG i o 896 (inbK o ho 896 (by decide)) (inbL o ho) x0 x1 x2))) (gsT i 2 (sT (a0T (GG i o 384 (inbK o ho 384 (by decide)) (inbL o ho) x0 x1 x2) (GG i o 512 (inbK o ho 512 (by decide)) (inbL o ho) x0 x1 x2))) (sT (a1T (GG i o 640 (inbK o ho 640 (by decide)) (inbL o ho) x0 x1 x2) (GG i o 512 (inbK o ho 512 (by decide)) (inbL o ho) x0 x1 x2))) (gsT i 0 (sT (a0T (GG i o 0 (inbK o ho 0 (by decide)) (inbL o ho) x0 x1 x2) (GG i o 128 (inbK o ho 128 (by decide)) (inbL o ho) x0 x1 x2))) (sT (a1T (GG i o 256 (inbK o ho 256 (by decide)) (inbL o ho) x0 x1 x2) (GG i o 128 (inbK o ho 128 (by decide)) (inbL o ho) x0 x1 x2))) acc)))) n
      = if (n 1).val / 8 = (i 1).val then Cert.Scale.sB (yv (i 1).val x0 x1 x2 r ⟨(n 1).val % 8, by omega⟩) else acc n := by
  have hj : (n 1).val < 128 := (n 1).isLt
  rw [gs_step i 6 3 (by decide) rfl _ _ _ n, s0_apply i o 1152 1280 1408 3 (by decide) rfl rfl rfl _ _ _ x0 x1 x2 n r e0, s1_apply i o 1152 1280 1408 3 (by decide) rfl rfl rfl _ _ _ x0 x1 x2 n r e0]
  rw [gs_step i 4 2 (by decide) rfl _ _ _ n, s0_apply i o 768 896 1024 2 (by decide) rfl rfl rfl _ _ _ x0 x1 x2 n r e0, s1_apply i o 768 896 1024 2 (by decide) rfl rfl rfl _ _ _ x0 x1 x2 n r e0]
  rw [gs_step i 2 1 (by decide) rfl _ _ _ n, s0_apply i o 384 512 640 1 (by decide) rfl rfl rfl _ _ _ x0 x1 x2 n r e0, s1_apply i o 384 512 640 1 (by decide) rfl rfl rfl _ _ _ x0 x1 x2 n r e0]
  rw [gs_step i 0 0 (by decide) rfl _ _ _ n, s0_apply i o 0 128 256 0 (by decide) rfl rfl rfl _ _ _ x0 x1 x2 n r e0, s1_apply i o 0 128 256 0 (by decide) rfl rfl rfl _ _ _ x0 x1 x2 n r e0]
  by_cases h : (n 1).val / 8 = (i 1).val
  · rw [if_pos h]
    have hm : (n 1).val % 8 < 8 := Nat.mod_lt _ (by decide)
    obtain ⟨q, hq⟩ : ∃ q, q = (n 1).val % 8 := ⟨_, rfl⟩
    have e : (⟨(n 1).val % 8, by omega⟩ : Fin 8) = ⟨q, by omega⟩ := Fin.ext hq.symm
    have el : (n 1).val = (i 1).val * 8 + q := by omega
    rw [e, el]
    have hq8 : q < 8 := by omega
    interval_cases q <;> simp [Nat.add_assoc]
  · rw [if_neg h]
    repeat rw [if_neg (by omega)]

/-- One row block's addition to the running product. -/
theorem acc_apply (old : Vec Ideal S256x2304 .f32) (g : Vec Ideal S256x1536 .bf16) (w : Vec Ideal S1536x2304 .fp8e4m3) (n : S256x2304.Idx) :
    k0_pay2 old g w n = old n + ∑ k : Fin 1536, g (ix2 (n 0) k) * w (ix2 k (n 1)) := by
  unfold k0_pay2
  pointwise

/-- Reading stored row blocks: the last store over `y`'s row decides, and stores of later row blocks are passed over. -/
theorem lanes_hit (o : Nat) (inb : ∀ a, (![o, 0] : Fin 2 → Nat) a + (![256, 128] : Fin 2 → Nat) a ≤ S1024x128.size a)
    (w : S256x128.Idx → Ideal .f32) (L : List (View.Piece (Elt Ideal) S1024x128 .f32)) (y : S1024x128.Idx)
    (h0 : o ≤ (y 0).val) (h1 : (y 0).val < o + 256) (v : Ideal .f32)
    (hw : ∀ i : S256x128.Idx, (y 0).val = o + (i 0).val → y 1 = i 1 → w i = v) :
    View.canon ((⟨Rect.unit (s := S1024x128) ![o, 0] ![256, 128] inb, w⟩ : View.Piece (Elt Ideal) S1024x128 .f32) :: L) y = v := by
  have hy : y = (Rect.unit (s := S1024x128) ![o, 0] ![256, 128] inb).emb (ix2 ⟨(y 0).val - o, by omega⟩ (y 1)) := by
    refine funext fun a => Fin.ext ?_
    refine Eq.trans ?_ (Rect.idx_unit_val _ _ inb (ix2 ⟨(y 0).val - o, by omega⟩ (y 1)) a).symm
    fin_cases a
    · show (y 0).val = o + ((y 0).val - o); omega
    · show (y 1).val = 0 + (y 1).val; omega
  have := View.canon_cons_emb (Val := Elt Ideal) (Rect.unit (s := S1024x128) ![o, 0] ![256, 128] inb) w L (ix2 ⟨(y 0).val - o, by omega⟩ (y 1))
  rw [← hy] at this
  exact this.trans (hw _ (by show (y 0).val = o + ((y 0).val - o); omega) rfl)

theorem lanes_skip (o : Nat) (inb : ∀ a, (![o, 0] : Fin 2 → Nat) a + (![256, 128] : Fin 2 → Nat) a ≤ S1024x128.size a)
    (w : S256x128.Idx → Ideal .f32) (L : List (View.Piece (Elt Ideal) S1024x128 .f32)) (y : S1024x128.Idx)
    (h : (y 0).val < o) (v : Ideal .f32) (hL : View.canon L y = v) :
    View.canon ((⟨Rect.unit (s := S1024x128) ![o, 0] ![256, 128] inb, w⟩ : View.Piece (Elt Ideal) S1024x128 .f32) :: L) y = v := by
  refine (View.canon_cons_of_not_mem (Val := Elt Ideal) _ L ?_).trans hL
  exact Rect.not_mem_set_of_axis _ y 0 o 256 rfl rfl rfl (.inl h)

/-- What a row block reads of an array is that array's rows. -/
theorem lanes_old (o : Nat) (inb : ∀ a, (![o, 0] : Fin 2 → Nat) a + (![256, 128] : Fin 2 → Nat) a ≤ S1024x128.size a) (x : Vec Ideal S1024x128 .f32)
    (y : S1024x128.Idx) (i : S256x128.Idx) (e0 : (y 0).val = o + (i 0).val) (e1 : y 1 = i 1) :
    View.ld x (Rect.unit (s := S1024x128) ![o, 0] ![256, 128] inb) i = x y := by
  refine congrArg x (funext fun a => Fin.ext ((Rect.idx_unit_val _ _ inb i a).trans ?_))
  fin_cases a
  · exact e0.symm
  · exact (Nat.zero_add _).trans (congrArg Fin.val e1).symm

/-- Reading stored row blocks: the last store over `y`'s row decides, and stores of later row blocks are passed over. -/
theorem acc_hit (o : Nat) (inb : ∀ a, (![o, 0] : Fin 2 → Nat) a + (![256, 2304] : Fin 2 → Nat) a ≤ S1024x2304.size a)
    (w : S256x2304.Idx → Ideal .f32) (L : List (View.Piece (Elt Ideal) S1024x2304 .f32)) (y : S1024x2304.Idx)
    (h0 : o ≤ (y 0).val) (h1 : (y 0).val < o + 256) (v : Ideal .f32)
    (hw : ∀ i : S256x2304.Idx, (y 0).val = o + (i 0).val → y 1 = i 1 → w i = v) :
    View.canon ((⟨Rect.unit (s := S1024x2304) ![o, 0] ![256, 2304] inb, w⟩ : View.Piece (Elt Ideal) S1024x2304 .f32) :: L) y = v := by
  have hy : y = (Rect.unit (s := S1024x2304) ![o, 0] ![256, 2304] inb).emb (ix2 ⟨(y 0).val - o, by omega⟩ (y 1)) := by
    refine funext fun a => Fin.ext ?_
    refine Eq.trans ?_ (Rect.idx_unit_val _ _ inb (ix2 ⟨(y 0).val - o, by omega⟩ (y 1)) a).symm
    fin_cases a
    · show (y 0).val = o + ((y 0).val - o); omega
    · show (y 1).val = 0 + (y 1).val; omega
  have := View.canon_cons_emb (Val := Elt Ideal) (Rect.unit (s := S1024x2304) ![o, 0] ![256, 2304] inb) w L (ix2 ⟨(y 0).val - o, by omega⟩ (y 1))
  rw [← hy] at this
  exact this.trans (hw _ (by show (y 0).val = o + ((y 0).val - o); omega) rfl)

theorem acc_skip (o : Nat) (inb : ∀ a, (![o, 0] : Fin 2 → Nat) a + (![256, 2304] : Fin 2 → Nat) a ≤ S1024x2304.size a)
    (w : S256x2304.Idx → Ideal .f32) (L : List (View.Piece (Elt Ideal) S1024x2304 .f32)) (y : S1024x2304.Idx)
    (h : (y 0).val < o) (v : Ideal .f32) (hL : View.canon L y = v) :
    View.canon ((⟨Rect.unit (s := S1024x2304) ![o, 0] ![256, 2304] inb, w⟩ : View.Piece (Elt Ideal) S1024x2304 .f32) :: L) y = v := by
  refine (View.canon_cons_of_not_mem (Val := Elt Ideal) _ L ?_).trans hL
  exact Rect.not_mem_set_of_axis _ y 0 o 256 rfl rfl rfl (.inl h)

/-- What a row block reads of an array is that array's rows. -/
theorem acc_old (o : Nat) (inb : ∀ a, (![o, 0] : Fin 2 → Nat) a + (![256, 2304] : Fin 2 → Nat) a ≤ S1024x2304.size a) (x : Vec Ideal S1024x2304 .f32)
    (y : S1024x2304.Idx) (i : S256x2304.Idx) (e0 : (y 0).val = o + (i 0).val) (e1 : y 1 = i 1) :
    View.ld x (Rect.unit (s := S1024x2304) ![o, 0] ![256, 2304] inb) i = x y := by
  refine congrArg x (funext fun a => Fin.ext ((Rect.idx_unit_val _ _ inb i a).trans ?_))
  fin_cases a
  · exact e0.symm
  · exact (Nat.zero_add _).trans (congrArg Fin.val e1).symm

theorem tl_row (i : grid0.Coords) (o : Nat) (ho : o ≤ 768) (x0 : Vec Ideal S1024x1536 .f32) (x2 : Vec Ideal S1024x128 .i32) (acc : FVec Ideal S256x128 .f32)
    (L : List (View.Piece (Elt Ideal) S1024x128 .f32)) (y : S1024x128.Idx) (h0 : o ≤ (y 0).val) (h1 : (y 0).val < o + 256) (a : EReal)
    (hold : ∀ n : S256x128.Idx, (y 0).val = o + (n 0).val → y 1 = n 1 → acc n = a) :
    View.canon ((⟨Rect.unit (s := S1024x128) ![o, 0] ![256, 128] (inbL o ho), shapeCast S256x128 (tlT i 1408 (View.ld x0 (Rect.unit (s := S1024x1536) ![o, 1408] ![256, 128] (inbK o ho 1408 (by decide)))) (View.ld x2 (Rect.unit (s := S1024x128) ![o, 0] ![256, 128] (inbL o ho))) (tlT i 1280 (View.ld x0 (Rect.unit (s := S1024x1536) ![o, 1280] ![256, 128] (inbK o ho 1280 (by decide)))) (View.ld x2 (Rect.unit (s := S1024x128) ![o, 0] ![256, 128] (inbL o ho))) (tlT i 1152 (View.ld x0 (Rect.unit (s := S1024x1536) ![o, 1152] ![256, 128] (inbK o ho 1152 (by decide)))) (View.ld x2 (Rect.unit (s := S1024x128) ![o, 0] ![256, 128] (inbL o ho))) (tlT i 1024 (View.ld x0 (Rect.unit (s := S1024x1536) ![o, 1024] ![256, 128] (inbK o ho 1024 (by decide)))) (View.ld x2 (Rect.unit (s := S1024x128) ![o, 0] ![256, 128] (inbL o ho))) (tlT i 896 (View.ld x0 (Rect.unit (s := S1024x1536) ![o, 896] ![256, 128] (inbK o ho 896 (by decide)))) (View.ld x2 (Rect.unit (s := S1024x128) ![o, 0] ![256, 128] (inbL o ho))) (tlT i 768 (View.ld x0 (Rect.unit (s := S1024x1536) ![o, 768] ![256, 128] (inbK o ho 768 (by decide)))) (View.ld x2 (Rect.unit (s := S1024x128) ![o, 0] ![256, 128] (inbL o ho))) (tlT i 640 (View.ld x0 (Rect.unit (s := S1024x1536) ![o, 640] ![256, 128] (inbK o ho 640 (by decide)))) (View.ld x2 (Rect.unit (s := S1024x128) ![o, 0] ![256, 128] (inbL o ho))) (tlT i 512 (View.ld x0 (Rect.unit (s := S1024x1536) ![o, 512] ![256, 128] (inbK o ho 512 (by decide)))) (View.ld x2 (Rect.unit (s := S1024x128) ![o, 0] ![256, 128] (inbL o ho))) (tlT i 384 (View.ld x0 (Rect.unit (s := S1024x1536) ![o, 384] ![256, 128] (inbK o ho 384 (by decide)))) (View.ld x2 (Rect.unit (s := S1024x128) ![o, 0] ![256, 128] (inbL o ho))) (tlT i 256 (View.ld x0 (Rect.unit (s := S1024x1536) ![o, 256] ![256, 128] (inbK o ho 256 (by decide)))) (View.ld x2 (Rect.unit (s := S1024x128) ![o, 0] ![256, 128] (inbL o ho))) (tlT i 128 (View.ld x0 (Rect.unit (s := S1024x1536) ![o, 128] ![256, 128] (inbK o ho 128 (by decide)))) (View.ld x2 (Rect.unit (s := S1024x128) ![o, 0] ![256, 128] (inbL o ho))) (tlT i 0 (View.ld x0 (Rect.unit (s := S1024x1536) ![o, 0] ![256, 128] (inbK o ho 0 (by decide)))) (View.ld x2 (Rect.unit (s := S1024x128) ![o, 0] ![256, 128] (inbL o ho))) acc)))))))))))) shapeCasts_S256x128_S256x128⟩ : View.Piece (Elt Ideal) S1024x128 .f32) :: L) y
      = a + ∑ k, tlv (i 1).val x0 x2 (y 0) (y 1) k :=
  lanes_hit o (inbL o ho) _ L y h0 h1 _ fun n e0 e1 => (tl_chain i o ho x0 x2 acc n (y 0) e0).trans (by rw [hold n e0 e1, e1])

theorem gs_row (i : grid0.Coords) (o : Nat) (ho : o ≤ 768) (x0 : Vec Ideal S1024x1536 .f32) (x1 : Vec Ideal S1024x128 .f32) (x2 : Vec Ideal S1024x128 .i32) (acc : FVec Ideal S256x128 .f32)
    (L : List (View.Piece (Elt Ideal) S1024x128 .f32)) (y : S1024x128.Idx) (h0 : o ≤ (y 0).val) (h1 : (y 0).val < o + 256) (a : EReal)
    (hold : ∀ n : S256x128.Idx, (y 0).val = o + (n 0).val → y 1 = n 1 → acc n = a) :
    View.canon ((⟨Rect.unit (s := S1024x128) ![o, 0] ![256, 128] (inbL o ho), (gsT i 6 (sT (a0T (GG i o 1152 (inbK o ho 1152 (by decide)) (inbL o ho) x0 x1 x2) (GG i o 1280 (inbK o ho 1280 (by decide)) (inbL o ho) x0 x1 x2))) (sT (a1T (GG i o 1408 (inbK o ho 1408 (by decide)) (inbL o ho) x0 x1 x2) (GG i o 1280 (inbK o ho 1280 (by decide)) (inbL o ho) x0 x1 x2))) (gsT i 4 (sT (a0T (GG i o 768 (inbK o ho 768 (by decide)) (inbL o ho) x0 x1 x2) (GG i o 896 (inbK o ho 896 (by decide)) (inbL o ho) x0 x1 x2))) (sT (a1T (GG i o 1024 (inbK o ho 1024 (by decide)) (inbL o ho) x0 x1 x2) (GG i o 896 (inbK o ho 896 (by decide)) (inbL o ho) x0 x1 x2))) (gsT i 2 (sT (a0T (GG i o 384 (inbK o ho 384 (by decide)) (inbL o ho) x0 x1 x2) (GG i o 512 (inbK o ho 512 (by decide)) (inbL o ho) x0 x1 x2))) (sT (a1T (GG i o 640 (inbK o ho 640 (by decide)) (inbL o ho) x0 x1 x2) (GG i o 512 (inbK o ho 512 (by decide)) (inbL o ho) x0 x1 x2))) (gsT i 0 (sT (a0T (GG i o 0 (inbK o ho 0 (by decide)) (inbL o ho) x0 x1 x2) (GG i o 128 (inbK o ho 128 (by decide)) (inbL o ho) x0 x1 x2))) (sT (a1T (GG i o 256 (inbK o ho 256 (by decide)) (inbL o ho) x0 x1 x2) (GG i o 128 (inbK o ho 128 (by decide)) (inbL o ho) x0 x1 x2))) acc))))⟩ : View.Piece (Elt Ideal) S1024x128 .f32) :: L) y
      = if (y 1).val / 8 = (i 1).val then Cert.Scale.sB (yv (i 1).val x0 x1 x2 (y 0) ⟨(y 1).val % 8, by omega⟩) else a :=
  lanes_hit o (inbL o ho) _ L y h0 h1 _ fun n e0 e1 => (gs_chain i o ho x0 x1 x2 acc n (y 0) e0).trans (by rw [hold n e0 e1]; simp only [e1])

theorem acc_row (v : Nat) (o : Nat) (ho : o ≤ 768) (inb : ∀ a, (![o, 0] : Fin 2 → Nat) a + (![256, 2304] : Fin 2 → Nat) a ≤ S1024x2304.size a)
    (inb' : ∀ a, (![o, 0] : Fin 2 → Nat) a + (![256, 1536] : Fin 2 → Nat) a ≤ S1024x1536.size a)
    (x0 : Vec Ideal S1024x1536 .f32) (x1 : Vec Ideal S1024x128 .f32) (x2 : Vec Ideal S1024x128 .i32) (x3 : Vec Ideal S1536x2304 .fp8e4m3) (x4 : Vec Ideal S1x1536 .f32)
    (old : Vec Ideal S256x2304 .f32) (M : List (View.Piece (Elt Ideal) S1024x1536 .bf16)) (L : List (View.Piece (Elt Ideal) S1024x2304 .f32))
    (y : S1024x2304.Idx) (h0 : o ≤ (y 0).val) (h1 : (y 0).val < o + 256) (a : EReal)
    (hold : ∀ n : S256x2304.Idx, (y 0).val = o + (n 0).val → y 1 = n 1 → old n = a)
    (hM : ∀ z : S1024x1536.Idx, o ≤ (z 0).val → (z 0).val < o + 256 → View.canon M z = qv v x0 x1 x2 x4 (z 0) (z 1)) :
    View.canon ((⟨Rect.unit (s := S1024x2304) ![o, 0] ![256, 2304] inb, k0_pay2 old (View.readCov (Val := Elt Ideal) (View.whole cc0_scratch2) M (Rect.unit (s := S1024x1536) ![o, 0] ![256, 1536] inb').toLoadRect) x3⟩ : View.Piece (Elt Ideal) S1024x2304 .f32) :: L) y
      = a + ∑ j : Fin 1536, qv v x0 x1 x2 x4 (y 0) j * x3 (ix2 j (y 1)) := by
  refine acc_hit o inb _ L y h0 h1 _ fun n e0 e1 => ?_
  rw [View.readCov_eq_canon', acc_apply, hold n e0 e1]
  refine congrArg (a + ·) (Finset.sum_congr rfl fun j _ => ?_)
  have hn : (n 0).val < 256 := (n 0).isLt
  have hz : (Rect.unit (s := S1024x1536) ![o, 0] ![256, 1536] inb').toLoadRect.idx (ix2 (n 0) j) = ix2 (y 0) j := by
    refine funext fun b => Fin.ext ((Rect.idx_unit_val _ _ inb' (ix2 (n 0) j) b).trans ?_)
    fin_cases b
    · exact e0.symm
    · exact Nat.zero_add _
  exact congrArg₂ (fun (a b : EReal) => a * b) ((congrArg (View.canon M) hz).trans (hM (ix2 (y 0) j) h0 h1)) (congrArg (fun q => x3 (ix2 j q)) e1.symm)

end Cert.BwdIdeal.Value
-- ==== Proof.BwdAA.lean ====
module

public import proofs.«01_k».proof.Proof.BwdRows

@[expose] public section
noncomputable section
namespace Cert.BwdIdeal.Value
open Cert.BwdIdeal Cert.BwdIdeal.Gen Idealize.ShloMosaic Idealize.ShloMosaic.TcCoe Idealize.SL.Sem

variable (m : (ℓ : Loc nD τ sig) → Buf (Elt Ideal) ℓ)

/-- The running product after a grid point. -/
theorem accA (c : Dev nD) (t : Fin cfg0.N) (h0 : t.val % 16 = 0) (h1 : ¬t.val % 16 = 15) (y : S1024x2304.Idx) :
    (outsAt0 m c t.val t.isLt).2.2.2.2.1 y = 0 + ∑ j : Fin 1536, qv (grid0.coords t 1).val (iblk m c 0 t) (iblk m c 1 t) (iblk m c 2 t) (iblk m c 4 t) (y 0) j * (iblk m c 3 t) (ix2 j (y 1)) := by
  rw [outsAt0_A m c t h0 h1]
  dsimp only
  frame_open
  simp (disch := decide) only [↓ View.readCov_skip, ↓ View.readCov_cons_toLoadRect, ↓ View.readCov_fill]
  frame_out
  have hy0 : (y 0).val < 1024 := (y 0).isLt
  by_cases h : 768 ≤ (y 0).val
  · refine acc_row (grid0.coords t 1).val 768 (by decide) _ _ (iblk m c 0 t) (iblk m c 1 t) (iblk m c 2 t) (iblk m c 3 t) (iblk m c 4 t) _ _ _ y (by omega) (by omega) _ (fun n e0 e1 => ?_) fun z hz0 hz1 => ?_
    · unfold k0_pay5; pointwise
    · have hz : (z 1).val < 1536 := (z 1).isLt
      refine gq_pair (grid0.coords t) 768 1152 1280 1408 3 (by decide) rfl rfl rfl _ _ _ _ (iblk m c 0 t) (iblk m c 1 t) (iblk m c 2 t) z hz0 hz1 _ _ _ (iblk m c 4 t) _ (by omega) fun hz => ?_
      refine gq_pair (grid0.coords t) 768 768 896 1024 2 (by decide) rfl rfl rfl _ _ _ _ (iblk m c 0 t) (iblk m c 1 t) (iblk m c 2 t) z hz0 hz1 _ _ _ (iblk m c 4 t) _ (by omega) fun hz => ?_
      refine gq_pair (grid0.coords t) 768 384 512 640 1 (by decide) rfl rfl rfl _ _ _ _ (iblk m c 0 t) (iblk m c 1 t) (iblk m c 2 t) z hz0 hz1 _ _ _ (iblk m c 4 t) _ (by omega) fun hz => ?_
      refine gq_pair (grid0.coords t) 768 0 128 256 0 (by decide) rfl rfl rfl _ _ _ _ (iblk m c 0 t) (iblk m c 1 t) (iblk m c 2 t) z hz0 hz1 _ _ _ (iblk m c 4 t) _ (by omega) fun hz => ?_
      exact absurd hz (Nat.not_lt_zero _)
  refine acc_skip 768 _ _ _ y (by omega) _ ?_
  by_cases h : 512 ≤ (y 0).val
  · refine acc_row (grid0.coords t 1).val 512 (by decide) _ _ (iblk m c 0 t) (iblk m c 1 t) (iblk m c 2 t) (iblk m c 3 t) (iblk m c 4 t) _ _ _ y (by omega) (by omega) _ (fun n e0 e1 => ?_) fun z hz0 hz1 => ?_
    · unfold k0_pay5; pointwise
    · have hz : (z 1).val < 1536 := (z 1).isLt
      refine gq_pair (grid0.coords t) 512 1152 1280 1408 3 (by decide) rfl rfl rfl _ _ _ _ (iblk m c 0 t) (iblk m c 1 t) (iblk m c 2 t) z hz0 hz1 _ _ _ (iblk m c 4 t) _ (by omega) fun hz => ?_
      refine gq_pair (grid0.coords t) 512 768 896 1024 2 (by decide) rfl rfl rfl _ _ _ _ (iblk m c 0 t) (iblk m c 1 t) (iblk m c 2 t) z hz0 hz1 _ _ _ (iblk m c 4 t) _ (by omega) fun hz => ?_
      refine gq_pair (grid0.coords t) 512 384 512 640 1 (by decide) rfl rfl rfl _ _ _ _ (iblk m c 0 t) (iblk m c 1 t) (iblk m c 2 t) z hz0 hz1 _ _ _ (iblk m c 4 t) _ (by omega) fun hz => ?_
      refine gq_pair (grid0.coords t) 512 0 128 256 0 (by decide) rfl rfl rfl _ _ _ _ (iblk m c 0 t) (iblk m c 1 t) (iblk m c 2 t) z hz0 hz1 _ _ _ (iblk m c 4 t) _ (by omega) fun hz => ?_
      exact absurd hz (Nat.not_lt_zero _)
  refine acc_skip 512 _ _ _ y (by omega) _ ?_
  by_cases h : 256 ≤ (y 0).val
  · refine acc_row (grid0.coords t 1).val 256 (by decide) _ _ (iblk m c 0 t) (iblk m c 1 t) (iblk m c 2 t) (iblk m c 3 t) (iblk m c 4 t) _ _ _ y (by omega) (by omega) _ (fun n e0 e1 => ?_) fun z hz0 hz1 => ?_
    · unfold k0_pay5; pointwise
    · have hz : (z 1).val < 1536 := (z 1).isLt
      refine gq_pair (grid0.coords t) 256 1152 1280 1408 3 (by decide) rfl rfl rfl _ _ _ _ (iblk m c 0 t) (iblk m c 1 t) (iblk m c 2 t) z hz0 hz1 _ _ _ (iblk m c 4 t) _ (by omega) fun hz => ?_
      refine gq_pair (grid0.coords t) 256 768 896 1024 2 (by decide) rfl rfl rfl _ _ _ _ (iblk m c 0 t) (iblk m c 1 t) (iblk m c 2 t) z hz0 hz1 _ _ _ (iblk m c 4 t) _ (by omega) fun hz => ?_
      refine gq_pair (grid0.coords t) 256 384 512 640 1 (by decide) rfl rfl rfl _ _ _ _ (iblk m c 0 t) (iblk m c 1 t) (iblk m c 2 t) z hz0 hz1 _ _ _ (iblk m c 4 t) _ (by omega) fun hz => ?_
      refine gq_pair (grid0.coords t) 256 0 128 256 0 (by decide) rfl rfl rfl _ _ _ _ (iblk m c 0 t) (iblk m c 1 t) (iblk m c 2 t) z hz0 hz1 _ _ _ (iblk m c 4 t) _ (by omega) fun hz => ?_
      exact absurd hz (Nat.not_lt_zero _)
  refine acc_skip 256 _ _ _ y (by omega) _ ?_
  refine acc_row (grid0.coords t 1).val 0 (by decide) _ _ (iblk m c 0 t) (iblk m c 1 t) (iblk m c 2 t) (iblk m c 3 t) (iblk m c 4 t) _ _ _ y (by omega) (by omega) _ (fun n e0 e1 => ?_) fun z hz0 hz1 => ?_
  · unfold k0_pay5; pointwise
  · have hz : (z 1).val < 1536 := (z 1).isLt
    refine gq_pair (grid0.coords t) 0 1152 1280 1408 3 (by decide) rfl rfl rfl _ _ _ _ (iblk m c 0 t) (iblk m c 1 t) (iblk m c 2 t) z hz0 hz1 _ _ _ (iblk m c 4 t) _ (by omega) fun hz => ?_
    refine gq_pair (grid0.coords t) 0 768 896 1024 2 (by decide) rfl rfl rfl _ _ _ _ (iblk m c 0 t) (iblk m c 1 t) (iblk m c 2 t) z hz0 hz1 _ _ _ (iblk m c 4 t) _ (by omega) fun hz => ?_
    refine gq_pair (grid0.coords t) 0 384 512 640 1 (by decide) rfl rfl rfl _ _ _ _ (iblk m c 0 t) (iblk m c 1 t) (iblk m c 2 t) z hz0 hz1 _ _ _ (iblk m c 4 t) _ (by omega) fun hz => ?_
    refine gq_pair (grid0.coords t) 0 0 128 256 0 (by decide) rfl rfl rfl _ _ _ _ (iblk m c 0 t) (iblk m c 1 t) (iblk m c 2 t) z hz0 hz1 _ _ _ (iblk m c 4 t) _ (by omega) fun hz => ?_
    exact absurd hz (Nat.not_lt_zero _)

end Cert.BwdIdeal.Value
-- ==== Proof.BwdAB.lean ====
module

public import proofs.«01_k».proof.Proof.BwdRows

@[expose] public section
noncomputable section
namespace Cert.BwdIdeal.Value
open Cert.BwdIdeal Cert.BwdIdeal.Gen Idealize.ShloMosaic Idealize.ShloMosaic.TcCoe Idealize.SL.Sem

variable (m : (ℓ : Loc nD τ sig) → Buf (Elt Ideal) ℓ)

/-- The running product after a grid point. -/
theorem accB (c : Dev nD) (t : Fin cfg0.N) (h0 : ¬t.val % 16 = 0) (h1 : ¬t.val % 16 = 15) (y : S1024x2304.Idx) :
    (outsAt0 m c t.val t.isLt).2.2.2.2.1 y = (outsAt0 m c (t.val - 1) (by omega)).2.2.2.2.1 y + ∑ j : Fin 1536, qv (grid0.coords t 1).val (iblk m c 0 t) (iblk m c 1 t) (iblk m c 2 t) (iblk m c 4 t) (y 0) j * (iblk m c 3 t) (ix2 j (y 1)) := by
  rw [outsAt0_B m c t h0 h1]
  dsimp only
  frame_open
  frame_out
  have hy0 : (y 0).val < 1024 := (y 0).isLt
  by_cases h : 768 ≤ (y 0).val
  · refine acc_row (grid0.coords t 1).val 768 (by decide) _ _ (iblk m c 0 t) (iblk m c 1 t) (iblk m c 2 t) (iblk m c 3 t) (iblk m c 4 t) _ _ _ y (by omega) (by omega) _ (fun n e0 e1 => ?_) fun z hz0 hz1 => ?_
    · rw [read_unread_whole]; exact acc_old _ _ _ y n e0 e1
    · have hz : (z 1).val < 1536 := (z 1).isLt
      refine gq_pair (grid0.coords t) 768 1152 1280 1408 3 (by decide) rfl rfl rfl _ _ _ _ (iblk m c 0 t) (iblk m c 1 t) (iblk m c 2 t) z hz0 hz1 _ _ _ (iblk m c 4 t) _ (by omega) fun hz => ?_
      refine gq_pair (grid0.coords t) 768 768 896 1024 2 (by decide) rfl rfl rfl _ _ _ _ (iblk m c 0 t) (iblk m c 1 t) (iblk m c 2 t) z hz0 hz1 _ _ _ (iblk m c 4 t) _ (by omega) fun hz => ?_
      refine gq_pair (grid0.coords t) 768 384 512 640 1 (by decide) rfl rfl rfl _ _ _ _ (iblk m c 0 t) (iblk m c 1 t) (iblk m c 2 t) z hz0 hz1 _ _ _ (iblk m c 4 t) _ (by omega) fun hz => ?_
      refine gq_pair (grid0.coords t) 768 0 128 256 0 (by decide) rfl rfl rfl _ _ _ _ (iblk m c 0 t) (iblk m c 1 t) (iblk m c 2 t) z hz0 hz1 _ _ _ (iblk m c 4 t) _ (by omega) fun hz => ?_
      exact absurd hz (Nat.not_lt_zero _)
  refine acc_skip 768 _ _ _ y (by omega) _ ?_
  by_cases h : 512 ≤ (y 0).val
  · refine acc_row (grid0.coords t 1).val 512 (by decide) _ _ (iblk m c 0 t) (iblk m c 1 t) (iblk m c 2 t) (iblk m c 3 t) (iblk m c 4 t) _ _ _ y (by omega) (by omega) _ (fun n e0 e1 => ?_) fun z hz0 hz1 => ?_
    · rw [read_unread_whole]; exact acc_old _ _ _ y n e0 e1
    · have hz : (z 1).val < 1536 := (z 1).isLt
      refine gq_pair (grid0.coords t) 512 1152 1280 1408 3 (by decide) rfl rfl rfl _ _ _ _ (iblk m c 0 t) (iblk m c 1 t) (iblk m c 2 t) z hz0 hz1 _ _ _ (iblk m c 4 t) _ (by omega) fun hz => ?_
      refine gq_pair (grid0.coords t) 512 768 896 1024 2 (by decide) rfl rfl rfl _ _ _ _ (iblk m c 0 t) (iblk m c 1 t) (iblk m c 2 t) z hz0 hz1 _ _ _ (iblk m c 4 t) _ (by omega) fun hz => ?_
      refine gq_pair (grid0.coords t) 512 384 512 640 1 (by decide) rfl rfl rfl _ _ _ _ (iblk m c 0 t) (iblk m c 1 t) (iblk m c 2 t) z hz0 hz1 _ _ _ (iblk m c 4 t) _ (by omega) fun hz => ?_
      refine gq_pair (grid0.coords t) 512 0 128 256 0 (by decide) rfl rfl rfl _ _ _ _ (iblk m c 0 t) (iblk m c 1 t) (iblk m c 2 t) z hz0 hz1 _ _ _ (iblk m c 4 t) _ (by omega) fun hz => ?_
      exact absurd hz (Nat.not_lt_zero _)
  refine acc_skip 512 _ _ _ y (by omega) _ ?_
  by_cases h : 256 ≤ (y 0).val
  · refine acc_row (grid0.coords t 1).val 256 (by decide) _ _ (iblk m c 0 t) (iblk m c 1 t) (iblk m c 2 t) (iblk m c 3 t) (iblk m c 4 t) _ _ _ y (by omega) (by omega) _ (fun n e0 e1 => ?_) fun z hz0 hz1 => ?_
    · rw [read_unread_whole]; exact acc_old _ _ _ y n e0 e1
    · have hz : (z 1).val < 1536 := (z 1).isLt
      refine gq_pair (grid0.coords t) 256 1152 1280 1408 3 (by decide) rfl rfl rfl _ _ _ _ (iblk m c 0 t) (iblk m c 1 t) (iblk m c 2 t) z hz0 hz1 _ _ _ (iblk m c 4 t) _ (by omega) fun hz => ?_
      refine gq_pair (grid0.coords t) 256 768 896 1024 2 (by decide) rfl rfl rfl _ _ _ _ (iblk m c 0 t) (iblk m c 1 t) (iblk m c 2 t) z hz0 hz1 _ _ _ (iblk m c 4 t) _ (by omega) fun hz => ?_
      refine gq_pair (grid0.coords t) 256 384 512 640 1 (by decide) rfl rfl rfl _ _ _ _ (iblk m c 0 t) (iblk m c 1 t) (iblk m c 2 t) z hz0 hz1 _ _ _ (iblk m c 4 t) _ (by omega) fun hz => ?_
      refine gq_pair (grid0.coords t) 256 0 128 256 0 (by decide) rfl rfl rfl _ _ _ _ (iblk m c 0 t) (iblk m c 1 t) (iblk m c 2 t) z hz0 hz1 _ _ _ (iblk m c 4 t) _ (by omega) fun hz => ?_
      exact absurd hz (Nat.not_lt_zero _)
  refine acc_skip 256 _ _ _ y (by omega) _ ?_
  refine acc_row (grid0.coords t 1).val 0 (by decide) _ _ (iblk m c 0 t) (iblk m c 1 t) (iblk m c 2 t) (iblk m c 3 t) (iblk m c 4 t) _ _ _ y (by omega) (by omega) _ (fun n e0 e1 => ?_) fun z hz0 hz1 => ?_
  · rw [read_unread_whole]; exact acc_old _ _ _ y n e0 e1
  · have hz : (z 1).val < 1536 := (z 1).isLt
    refine gq_pair (grid0.coords t) 0 1152 1280 1408 3 (by decide) rfl rfl rfl _ _ _ _ (iblk m c 0 t) (iblk m c 1 t) (iblk m c 2 t) z hz0 hz1 _ _ _ (iblk m c 4 t) _ (by omega) fun hz => ?_
    refine gq_pair (grid0.coords t) 0 768 896 1024 2 (by decide) rfl rfl rfl _ _ _ _ (iblk m c 0 t) (iblk m c 1 t) (iblk m c 2 t) z hz0 hz1 _ _ _ (iblk m c 4 t) _ (by omega) fun hz => ?_
    refine gq_pair (grid0.coords t) 0 384 512 640 1 (by decide) rfl rfl rfl _ _ _ _ (iblk m c 0 t) (iblk m c 1 t) (iblk m c 2 t) z hz0 hz1 _ _ _ (iblk m c 4 t) _ (by omega) fun hz => ?_
    refine gq_pair (grid0.coords t) 0 0 128 256 0 (by decide) rfl rfl rfl _ _ _ _ (iblk m c 0 t) (iblk m c 1 t) (iblk m c 2 t) z hz0 hz1 _ _ _ (iblk m c 4 t) _ (by omega) fun hz => ?_
    exact absurd hz (Nat.not_lt_zero _)

end Cert.BwdIdeal.Value
-- ==== Proof.BwdAC.lean ====
module

public import proofs.«01_k».proof.Proof.BwdRows

@[expose] public section
noncomputable section
namespace Cert.BwdIdeal.Value
open Cert.BwdIdeal Cert.BwdIdeal.Gen Idealize.ShloMosaic Idealize.ShloMosaic.TcCoe Idealize.SL.Sem

variable (m : (ℓ : Loc nD τ sig) → Buf (Elt Ideal) ℓ)

/-- The running product after a grid point. -/
theorem accC (c : Dev nD) (t : Fin cfg0.N) (h0 : ¬t.val % 16 = 0) (h1 : t.val % 16 = 15) (y : S1024x2304.Idx) :
    (outsAt0 m c t.val t.isLt).2.2.2.2.1 y = (outsAt0 m c (t.val - 1) (by omega)).2.2.2.2.1 y + ∑ j : Fin 1536, qv (grid0.coords t 1).val (iblk m c 0 t) (iblk m c 1 t) (iblk m c 2 t) (iblk m c 4 t) (y 0) j * (iblk m c 3 t) (ix2 j (y 1)) := by
  rw [outsAt0_C m c t h0 h1]
  dsimp only
  frame_open
  frame_out
  have hy0 : (y 0).val < 1024 := (y 0).isLt
  by_cases h : 768 ≤ (y 0).val
  · refine acc_row (grid0.coords t 1).val 768 (by decide) _ _ (iblk m c 0 t) (iblk m c 1 t) (iblk m c 2 t) (iblk m c 3 t) (iblk m c 4 t) _ _ _ y (by omega) (by omega) _ (fun n e0 e1 => ?_) fun z hz0 hz1 => ?_
    · rw [read_unread_whole]; exact acc_old _ _ _ y n e0 e1
    · have hz : (z 1).val < 1536 := (z 1).isLt
      refine gq_pair (grid0.coords t) 768 1152 1280 1408 3 (by decide) rfl rfl rfl _ _ _ _ (iblk m c 0 t) (iblk m c 1 t) (iblk m c 2 t) z hz0 hz1 _ _ _ (iblk m c 4 t) _ (by omega) fun hz => ?_
      refine gq_pair (grid0.coords t) 768 768 896 1024 2 (by decide) rfl rfl rfl _ _ _ _ (iblk m c 0 t) (iblk m c 1 t) (iblk m c 2 t) z hz0 hz1 _ _ _ (iblk m c 4 t) _ (by omega) fun hz => ?_
      refine gq_pair (grid0.coords t) 768 384 512 640 1 (by decide) rfl rfl rfl _ _ _ _ (iblk m c 0 t) (iblk m c 1 t) (iblk m c 2 t) z hz0 hz1 _ _ _ (iblk m c 4 t) _ (by omega) fun hz => ?_
      refine gq_pair (grid0.coords t) 768 0 128 256 0 (by decide) rfl rfl rfl _ _ _ _ (iblk m c 0 t) (iblk m c 1 t) (iblk m c 2 t) z hz0 hz1 _ _ _ (iblk m c 4 t) _ (by omega) fun hz => ?_
      exact absurd hz (Nat.not_lt_zero _)
  refine acc_skip 768 _ _ _ y (by omega) _ ?_
  by_cases h : 512 ≤ (y 0).val
  · refine acc_row (grid0.coords t 1).val 512 (by decide) _ _ (iblk m c 0 t) (iblk m c 1 t) (iblk m c 2 t) (iblk m c 3 t) (iblk m c 4 t) _ _ _ y (by omega) (by omega) _ (fun n e0 e1 => ?_) fun z hz0 hz1 => ?_
    · rw [read_unread_whole]; exact acc_old _ _ _ y n e0 e1
    · have hz : (z 1).val < 1536 := (z 1).isLt
      refine gq_pair (grid0.coords t) 512 1152 1280 1408 3 (by decide) rfl rfl rfl _ _ _ _ (iblk m c 0 t) (iblk m c 1 t) (iblk m c 2 t) z hz0 hz1 _ _ _ (iblk m c 4 t) _ (by omega) fun hz => ?_
      refine gq_pair (grid0.coords t) 512 768 896 1024 2 (by decide) rfl rfl rfl _ _ _ _ (iblk m c 0 t) (iblk m c 1 t) (iblk m c 2 t) z hz0 hz1 _ _ _ (iblk m c 4 t) _ (by omega) fun hz => ?_
      refine gq_pair (grid0.coords t) 512 384 512 640 1 (by decide) rfl rfl rfl _ _ _ _ (iblk m c 0 t) (iblk m c 1 t) (iblk m c 2 t) z hz0 hz1 _ _ _ (iblk m c 4 t) _ (by omega) fun hz => ?_
      refine gq_pair (grid0.coords t) 512 0 128 256 0 (by decide) rfl rfl rfl _ _ _ _ (iblk m c 0 t) (iblk m c 1 t) (iblk m c 2 t) z hz0 hz1 _ _ _ (iblk m c 4 t) _ (by omega) fun hz => ?_
      exact absurd hz (Nat.not_lt_zero _)
  refine acc_skip 512 _ _ _ y (by omega) _ ?_
  by_cases h : 256 ≤ (y 0).val
  · refine acc_row (grid0.coords t 1).val 256 (by decide) _ _ (iblk m c 0 t) (iblk m c 1 t) (iblk m c 2 t) (iblk m c 3 t) (iblk m c 4 t) _ _ _ y (by omega) (by omega) _ (fun n e0 e1 => ?_) fun z hz0 hz1 => ?_
    · rw [read_unread_whole]; exact acc_old _ _ _ y n e0 e1
    · have hz : (z 1).val < 1536 := (z 1).isLt
      refine gq_pair (grid0.coords t) 256 1152 1280 1408 3 (by decide) rfl rfl rfl _ _ _ _ (iblk m c 0 t) (iblk m c 1 t) (iblk m c 2 t) z hz0 hz1 _ _ _ (iblk m c 4 t) _ (by omega) fun hz => ?_
      refine gq_pair (grid0.coords t) 256 768 896 1024 2 (by decide) rfl rfl rfl _ _ _ _ (iblk m c 0 t) (iblk m c 1 t) (iblk m c 2 t) z hz0 hz1 _ _ _ (iblk m c 4 t) _ (by omega) fun hz => ?_
      refine gq_pair (grid0.coords t) 256 384 512 640 1 (by decide) rfl rfl rfl _ _ _ _ (iblk m c 0 t) (iblk m c 1 t) (iblk m c 2 t) z hz0 hz1 _ _ _ (iblk m c 4 t) _ (by omega) fun hz => ?_
      refine gq_pair (grid0.coords t) 256 0 128 256 0 (by decide) rfl rfl rfl _ _ _ _ (iblk m c 0 t) (iblk m c 1 t) (iblk m c 2 t) z hz0 hz1 _ _ _ (iblk m c 4 t) _ (by omega) fun hz => ?_
      exact absurd hz (Nat.not_lt_zero _)
  refine acc_skip 256 _ _ _ y (by omega) _ ?_
  refine acc_row (grid0.coords t 1).val 0 (by decide) _ _ (iblk m c 0 t) (iblk m c 1 t) (iblk m c 2 t) (iblk m c 3 t) (iblk m c 4 t) _ _ _ y (by omega) (by omega) _ (fun n e0 e1 => ?_) fun z hz0 hz1 => ?_
  · rw [read_unread_whole]; exact acc_old _ _ _ y n e0 e1
  · have hz : (z 1).val < 1536 := (z 1).isLt
    refine gq_pair (grid0.coords t) 0 1152 1280 1408 3 (by decide) rfl rfl rfl _ _ _ _ (iblk m c 0 t) (iblk m c 1 t) (iblk m c 2 t) z hz0 hz1 _ _ _ (iblk m c 4 t) _ (by omega) fun hz => ?_
    refine gq_pair (grid0.coords t) 0 768 896 1024 2 (by decide) rfl rfl rfl _ _ _ _ (iblk m c 0 t) (iblk m c 1 t) (iblk m c 2 t) z hz0 hz1 _ _ _ (iblk m c 4 t) _ (by omega) fun hz => ?_
    refine gq_pair (grid0.coords t) 0 384 512 640 1 (by decide) rfl rfl rfl _ _ _ _ (iblk m c 0 t) (iblk m c 1 t) (iblk m c 2 t) z hz0 hz1 _ _ _ (iblk m c 4 t) _ (by omega) fun hz => ?_
    refine gq_pair (grid0.coords t) 0 0 128 256 0 (by decide) rfl rfl rfl _ _ _ _ (iblk m c 0 t) (iblk m c 1 t) (iblk m c 2 t) z hz0 hz1 _ _ _ (iblk m c 4 t) _ (by omega) fun hz => ?_
    exact absurd hz (Nat.not_lt_zero _)

end Cert.BwdIdeal.Value
-- ==== Proof.BwdTA.lean ====
module

public import proofs.«01_k».proof.Proof.BwdRows

@[expose] public section
noncomputable section
namespace Cert.BwdIdeal.Value
open Cert.BwdIdeal Cert.BwdIdeal.Gen Idealize.ShloMosaic Idealize.ShloMosaic.TcCoe Idealize.SL.Sem

variable (m : (ℓ : Loc nD τ sig) → Buf (Elt Ideal) ℓ)

/-- The label's entries after a grid point, lane by lane. -/
theorem tlA (c : Dev nD) (t : Fin cfg0.N) (h0 : t.val % 16 = 0) (h1 : ¬t.val % 16 = 15) (y : S1024x128.Idx) :
    (outsAt0 m c t.val t.isLt).2.2.2.2.2 y = 0 + ∑ k, tlv (grid0.coords t 1).val (iblk m c 0 t) (iblk m c 2 t) (y 0) (y 1) k := by
  rw [outsAt0_A m c t h0 h1]
  dsimp only
  frame_open
  simp (disch := decide) only [↓ View.readCov_skip, ↓ View.readCov_cons_toLoadRect, ↓ View.readCov_fill]
  frame_out
  have hy0 : (y 0).val < 1024 := (y 0).isLt
  by_cases h : 768 ≤ (y 0).val
  · refine tl_row (grid0.coords t) 768 (by decide) (iblk m c 0 t) (iblk m c 2 t) _ _ y (by omega) (by omega) _ fun n e0 e1 => ?_
    · unfold k0_pay6; pointwise
  refine lanes_skip 768 _ _ _ y (by omega) _ ?_
  by_cases h : 512 ≤ (y 0).val
  · refine tl_row (grid0.coords t) 512 (by decide) (iblk m c 0 t) (iblk m c 2 t) _ _ y (by omega) (by omega) _ fun n e0 e1 => ?_
    · unfold k0_pay6; pointwise
  refine lanes_skip 512 _ _ _ y (by omega) _ ?_
  by_cases h : 256 ≤ (y 0).val
  · refine tl_row (grid0.coords t) 256 (by decide) (iblk m c 0 t) (iblk m c 2 t) _ _ y (by omega) (by omega) _ fun n e0 e1 => ?_
    · unfold k0_pay6; pointwise
  refine lanes_skip 256 _ _ _ y (by omega) _ ?_
  refine tl_row (grid0.coords t) 0 (by decide) (iblk m c 0 t) (iblk m c 2 t) _ _ y (by omega) (by omega) _ fun n e0 e1 => ?_
  · unfold k0_pay6; pointwise

end Cert.BwdIdeal.Value
-- ==== Proof.BwdTB.lean ====
module

public import proofs.«01_k».proof.Proof.BwdRows

@[expose] public section
noncomputable section
namespace Cert.BwdIdeal.Value
open Cert.BwdIdeal Cert.BwdIdeal.Gen Idealize.ShloMosaic Idealize.ShloMosaic.TcCoe Idealize.SL.Sem

variable (m : (ℓ : Loc nD τ sig) → Buf (Elt Ideal) ℓ)

/-- The label's entries after a grid point, lane by lane. -/
theorem tlB (c : Dev nD) (t : Fin cfg0.N) (h0 : ¬t.val % 16 = 0) (h1 : ¬t.val % 16 = 15) (y : S1024x128.Idx) :
    (outsAt0 m c t.val t.isLt).2.2.2.2.2 y = (outsAt0 m c (t.val - 1) (by omega)).2.2.2.2.2 y + ∑ k, tlv (grid0.coords t 1).val (iblk m c 0 t) (iblk m c 2 t) (y 0) (y 1) k := by
  rw [outsAt0_B m c t h0 h1]
  dsimp only
  frame_open
  frame_out
  have hy0 : (y 0).val < 1024 := (y 0).isLt
  by_cases h : 768 ≤ (y 0).val
  · refine tl_row (grid0.coords t) 768 (by decide) (iblk m c 0 t) (iblk m c 2 t) _ _ y (by omega) (by omega) _ fun n e0 e1 => ?_
    · rw [read_unread_whole]; exact lanes_old _ _ _ y n e0 e1
  refine lanes_skip 768 _ _ _ y (by omega) _ ?_
  by_cases h : 512 ≤ (y 0).val
  · refine tl_row (grid0.coords t) 512 (by decide) (iblk m c 0 t) (iblk m c 2 t) _ _ y (by omega) (by omega) _ fun n e0 e1 => ?_
    · rw [read_unread_whole]; exact lanes_old _ _ _ y n e0 e1
  refine lanes_skip 512 _ _ _ y (by omega) _ ?_
  by_cases h : 256 ≤ (y 0).val
  · refine tl_row (grid0.coords t) 256 (by decide) (iblk m c 0 t) (iblk m c 2 t) _ _ y (by omega) (by omega) _ fun n e0 e1 => ?_
    · rw [read_unread_whole]; exact lanes_old _ _ _ y n e0 e1
  refine lanes_skip 256 _ _ _ y (by omega) _ ?_
  refine tl_row (grid0.coords t) 0 (by decide) (iblk m c 0 t) (iblk m c 2 t) _ _ y (by omega) (by omega) _ fun n e0 e1 => ?_
  · rw [read_unread_whole]; exact lanes_old _ _ _ y n e0 e1

end Cert.BwdIdeal.Value
-- ==== Proof.BwdTC.lean ====
module

public import proofs.«01_k».proof.Proof.BwdRows

@[expose] public section
noncomputable section
namespace Cert.BwdIdeal.Value
open Cert.BwdIdeal Cert.BwdIdeal.Gen Idealize.ShloMosaic Idealize.ShloMosaic.TcCoe Idealize.SL.Sem

variable (m : (ℓ : Loc nD τ sig) → Buf (Elt Ideal) ℓ)

/-- The label's entries after a grid point, lane by lane. -/
theorem tlC (c : Dev nD) (t : Fin cfg0.N) (h0 : ¬t.val % 16 = 0) (h1 : t.val % 16 = 15) (y : S1024x128.Idx) :
    (outsAt0 m c t.val t.isLt).2.2.2.2.2 y = (outsAt0 m c (t.val - 1) (by omega)).2.2.2.2.2 y + ∑ k, tlv (grid0.coords t 1).val (iblk m c 0 t) (iblk m c 2 t) (y 0) (y 1) k := by
  rw [outsAt0_C m c t h0 h1]
  dsimp only
  frame_open
  frame_out
  have hy0 : (y 0).val < 1024 := (y 0).isLt
  by_cases h : 768 ≤ (y 0).val
  · refine tl_row (grid0.coords t) 768 (by decide) (iblk m c 0 t) (iblk m c 2 t) _ _ y (by omega) (by omega) _ fun n e0 e1 => ?_
    · rw [read_unread_whole]; exact lanes_old _ _ _ y n e0 e1
  refine lanes_skip 768 _ _ _ y (by omega) _ ?_
  by_cases h : 512 ≤ (y 0).val
  · refine tl_row (grid0.coords t) 512 (by decide) (iblk m c 0 t) (iblk m c 2 t) _ _ y (by omega) (by omega) _ fun n e0 e1 => ?_
    · rw [read_unread_whole]; exact lanes_old _ _ _ y n e0 e1
  refine lanes_skip 512 _ _ _ y (by omega) _ ?_
  by_cases h : 256 ≤ (y 0).val
  · refine tl_row (grid0.coords t) 256 (by decide) (iblk m c 0 t) (iblk m c 2 t) _ _ y (by omega) (by omega) _ fun n e0 e1 => ?_
    · rw [read_unread_whole]; exact lanes_old _ _ _ y n e0 e1
  refine lanes_skip 256 _ _ _ y (by omega) _ ?_
  refine tl_row (grid0.coords t) 0 (by decide) (iblk m c 0 t) (iblk m c 2 t) _ _ y (by omega) (by omega) _ fun n e0 e1 => ?_
  · rw [read_unread_whole]; exact lanes_old _ _ _ y n e0 e1

end Cert.BwdIdeal.Value
-- ==== Proof.BwdSA.lean ====
module

public import proofs.«01_k».proof.Proof.BwdRows

@[expose] public section
noncomputable section
namespace Cert.BwdIdeal.Value
open Cert.BwdIdeal Cert.BwdIdeal.Gen Idealize.ShloMosaic Idealize.ShloMosaic.TcCoe Idealize.SL.Sem

variable (m : (ℓ : Loc nD τ sig) → Buf (Elt Ideal) ℓ)

/-- The scales after a grid point, lane by lane. -/
theorem gsA (c : Dev nD) (t : Fin cfg0.N) (h0 : t.val % 16 = 0) (h1 : ¬t.val % 16 = 15) (y : S1024x128.Idx) :
    (outsAt0 m c t.val t.isLt).2.1 y = if (y 1).val / 8 = (grid0.coords t 1).val then Cert.Scale.sB (yv (grid0.coords t 1).val (iblk m c 0 t) (iblk m c 1 t) (iblk m c 2 t) (y 0) ⟨(y 1).val % 8, by omega⟩) else 0 := by
  rw [outsAt0_A m c t h0 h1]
  dsimp only
  frame_open
  simp (disch := decide) only [↓ View.readCov_skip, ↓ View.readCov_cons_toLoadRect, ↓ View.readCov_fill]
  frame_out
  have hy0 : (y 0).val < 1024 := (y 0).isLt
  by_cases h : 768 ≤ (y 0).val
  · refine gs_row (grid0.coords t) 768 (by decide) (iblk m c 0 t) (iblk m c 1 t) (iblk m c 2 t) _ _ y (by omega) (by omega) _ fun n e0 e1 => ?_
    · refine (congrFun (shapeCast_self _ _) n).trans ((lanes_old _ _ _ y n e0 e1).trans ?_); unfold k0_pay7; pointwise
  refine lanes_skip 768 _ _ _ y (by omega) _ ?_
  by_cases h : 512 ≤ (y 0).val
  · refine gs_row (grid0.coords t) 512 (by decide) (iblk m c 0 t) (iblk m c 1 t) (iblk m c 2 t) _ _ y (by omega) (by omega) _ fun n e0 e1 => ?_
    · refine (congrFun (shapeCast_self _ _) n).trans ((lanes_old _ _ _ y n e0 e1).trans ?_); unfold k0_pay7; pointwise
  refine lanes_skip 512 _ _ _ y (by omega) _ ?_
  by_cases h : 256 ≤ (y 0).val
  · refine gs_row (grid0.coords t) 256 (by decide) (iblk m c 0 t) (iblk m c 1 t) (iblk m c 2 t) _ _ y (by omega) (by omega) _ fun n e0 e1 => ?_
    · refine (congrFun (shapeCast_self _ _) n).trans ((lanes_old _ _ _ y n e0 e1).trans ?_); unfold k0_pay7; pointwise
  refine lanes_skip 256 _ _ _ y (by omega) _ ?_
  refine gs_row (grid0.coords t) 0 (by decide) (iblk m c 0 t) (iblk m c 1 t) (iblk m c 2 t) _ _ y (by omega) (by omega) _ fun n e0 e1 => ?_
  · refine (congrFun (shapeCast_self _ _) n).trans ((lanes_old _ _ _ y n e0 e1).trans ?_); unfold k0_pay7; pointwise

end Cert.BwdIdeal.Value
-- ==== Proof.BwdSB.lean ====
module

public import proofs.«01_k».proof.Proof.BwdRows

@[expose] public section
noncomputable section
namespace Cert.BwdIdeal.Value
open Cert.BwdIdeal Cert.BwdIdeal.Gen Idealize.ShloMosaic Idealize.ShloMosaic.TcCoe Idealize.SL.Sem

variable (m : (ℓ : Loc nD τ sig) → Buf (Elt Ideal) ℓ)

/-- The scales after a grid point, lane by lane. -/
theorem gsB (c : Dev nD) (t : Fin cfg0.N) (h0 : ¬t.val % 16 = 0) (h1 : ¬t.val % 16 = 15) (y : S1024x128.Idx) :
    (outsAt0 m c t.val t.isLt).2.1 y = if (y 1).val / 8 = (grid0.coords t 1).val then Cert.Scale.sB (yv (grid0.coords t 1).val (iblk m c 0 t) (iblk m c 1 t) (iblk m c 2 t) (y 0) ⟨(y 1).val % 8, by omega⟩) else (outsAt0 m c (t.val - 1) (by omega)).2.1 y := by
  rw [outsAt0_B m c t h0 h1]
  dsimp only
  frame_open
  frame_out
  have hy0 : (y 0).val < 1024 := (y 0).isLt
  by_cases h : 768 ≤ (y 0).val
  · refine gs_row (grid0.coords t) 768 (by decide) (iblk m c 0 t) (iblk m c 1 t) (iblk m c 2 t) _ _ y (by omega) (by omega) _ fun n e0 e1 => ?_
    · exact (congrFun (shapeCast_self _ _) n).trans (lanes_old _ _ _ y n e0 e1)
  refine lanes_skip 768 _ _ _ y (by omega) _ ?_
  by_cases h : 512 ≤ (y 0).val
  · refine gs_row (grid0.coords t) 512 (by decide) (iblk m c 0 t) (iblk m c 1 t) (iblk m c 2 t) _ _ y (by omega) (by omega) _ fun n e0 e1 => ?_
    · exact (congrFun (shapeCast_self _ _) n).trans (lanes_old _ _ _ y n e0 e1)
  refine lanes_skip 512 _ _ _ y (by omega) _ ?_
  by_cases h : 256 ≤ (y 0).val
  · refine gs_row (grid0.coords t) 256 (by decide) (iblk m c 0 t) (iblk m c 1 t) (iblk m c 2 t) _ _ y (by omega) (by omega) _ fun n e0 e1 => ?_
    · exact (congrFun (shapeCast_self _ _) n).trans (lanes_old _ _ _ y n e0 e1)
  refine lanes_skip 256 _ _ _ y (by omega) _ ?_
  refine gs_row (grid0.coords t) 0 (by decide) (iblk m c 0 t) (iblk m c 1 t) (iblk m c 2 t) _ _ y (by omega) (by omega) _ fun n e0 e1 => ?_
  · exact (congrFun (shapeCast_self _ _) n).trans (lanes_old _ _ _ y n e0 e1)

end Cert.BwdIdeal.Value
-- ==== Proof.BwdSC.lean ====
module

public import proofs.«01_k».proof.Proof.BwdRows

@[expose] public section
noncomputable section
namespace Cert.BwdIdeal.Value
open Cert.BwdIdeal Cert.BwdIdeal.Gen Idealize.ShloMosaic Idealize.ShloMosaic.TcCoe Idealize.SL.Sem

variable (m : (ℓ : Loc nD τ sig) → Buf (Elt Ideal) ℓ)

/-- The scales after a grid point, lane by lane. -/
theorem gsC (c : Dev nD) (t : Fin cfg0.N) (h0 : ¬t.val % 16 = 0) (h1 : t.val % 16 = 15) (y : S1024x128.Idx) :
    (outsAt0 m c t.val t.isLt).2.1 y = if (y 1).val / 8 = (grid0.coords t 1).val then Cert.Scale.sB (yv (grid0.coords t 1).val (iblk m c 0 t) (iblk m c 1 t) (iblk m c 2 t) (y 0) ⟨(y 1).val % 8, by omega⟩) else (outsAt0 m c (t.val - 1) (by omega)).2.1 y := by
  rw [outsAt0_C m c t h0 h1]
  dsimp only
  frame_open
  frame_out
  have hy0 : (y 0).val < 1024 := (y 0).isLt
  by_cases h : 768 ≤ (y 0).val
  · refine gs_row (grid0.coords t) 768 (by decide) (iblk m c 0 t) (iblk m c 1 t) (iblk m c 2 t) _ _ y (by omega) (by omega) _ fun n e0 e1 => ?_
    · exact (congrFun (shapeCast_self _ _) n).trans (lanes_old _ _ _ y n e0 e1)
  refine lanes_skip 768 _ _ _ y (by omega) _ ?_
  by_cases h : 512 ≤ (y 0).val
  · refine gs_row (grid0.coords t) 512 (by decide) (iblk m c 0 t) (iblk m c 1 t) (iblk m c 2 t) _ _ y (by omega) (by omega) _ fun n e0 e1 => ?_
    · exact (congrFun (shapeCast_self _ _) n).trans (lanes_old _ _ _ y n e0 e1)
  refine lanes_skip 512 _ _ _ y (by omega) _ ?_
  by_cases h : 256 ≤ (y 0).val
  · refine gs_row (grid0.coords t) 256 (by decide) (iblk m c 0 t) (iblk m c 1 t) (iblk m c 2 t) _ _ y (by omega) (by omega) _ fun n e0 e1 => ?_
    · exact (congrFun (shapeCast_self _ _) n).trans (lanes_old _ _ _ y n e0 e1)
  refine lanes_skip 256 _ _ _ y (by omega) _ ?_
  refine gs_row (grid0.coords t) 0 (by decide) (iblk m c 0 t) (iblk m c 1 t) (iblk m c 2 t) _ _ y (by omega) (by omega) _ fun n e0 e1 => ?_
  · exact (congrFun (shapeCast_self _ _) n).trans (lanes_old _ _ _ y n e0 e1)

end Cert.BwdIdeal.Value
-- ==== Proof.BwdOut.lean ====
module

public import proofs.«01_k».proof.Proof.BwdRows

@[expose] public section
noncomputable section
namespace Cert.BwdIdeal.Value
open Cert.BwdIdeal Cert.BwdIdeal.Gen Idealize.ShloMosaic Idealize.ShloMosaic.TcCoe Idealize.SL.Sem

variable (m : (ℓ : Loc nD τ sig) → Buf (Elt Ideal) ℓ)

/-- At a token tile's last point the input gradient is the running product just completed, -/
theorem dxC (c : Dev nD) (t : Fin cfg0.N) (h0 : ¬t.val % 16 = 0) (h1 : t.val % 16 = 15) (y : S1024x2304.Idx) :
    (outsAt0 m c t.val t.isLt).2.2.1 y = (outsAt0 m c t.val t.isLt).2.2.2.2.1 y := by
  rw [outsAt0_C m c t h0 h1]
  dsimp only
  frame_open
  frame_out
  rw [View.readCov_eq_canon']
  unfold k0_pay3
  pointwise

/-- and the loss is computed from the label's entries just completed. -/
theorem lossC (c : Dev nD) (t : Fin cfg0.N) (h0 : ¬t.val % 16 = 0) (h1 : t.val % 16 = 15) :
    (outsAt0 m c t.val t.isLt).2.2.2.1 = k0_pay4 (outsAt0 m c t.val t.isLt).2.2.2.2.2 (iblk m c 1 t) := by
  funext y
  rw [outsAt0_C m c t h0 h1]
  dsimp only
  frame_open
  frame_out
  rw [View.readCov_eq_canon']
  refine congrFun (congrArg (k0_pay4 · _) (funext fun z => ?_)) y
  exact congrArg _ (funext fun a => Fin.ext ((Rect.idx_unit_val _ _ _ z a).trans (by fin_cases a <;> exact Nat.zero_add _)))

end Cert.BwdIdeal.Value
-- ==== Proof.BwdFinal.lean ====
module

public import proofs.«01_k».proof.Proof.BwdCA
public import proofs.«01_k».proof.Proof.BwdCB
public import proofs.«01_k».proof.Proof.BwdCC
public import proofs.«01_k».proof.Proof.BwdAA
public import proofs.«01_k».proof.Proof.BwdAB
public import proofs.«01_k».proof.Proof.BwdAC
public import proofs.«01_k».proof.Proof.BwdTA
public import proofs.«01_k».proof.Proof.BwdTB
public import proofs.«01_k».proof.Proof.BwdTC
public import proofs.«01_k».proof.Proof.BwdSA
public import proofs.«01_k».proof.Proof.BwdSB
public import proofs.«01_k».proof.Proof.BwdSC
public import proofs.«01_k».proof.Proof.BwdOut
public import proofs.«01_k».proof.Proof.Gen.BwdIdeal.Value

@[expose] public section
noncomputable section
namespace Cert.BwdIdeal.Value
open Cert.BwdIdeal Cert.BwdIdeal.Gen Idealize.ShloMosaic Idealize.ShloMosaic.TcCoe Idealize.SL.Sem

variable (m : (ℓ : Loc nD τ sig) → Buf (Elt Ideal) ℓ)

/-- The windows' block indices at a point, and the vocabulary tile it works on. -/
theorem idx (t : Fin cfg0.N) : win0_0.index t = ![t.val / 16, t.val % 16] ∧ win0_1.index t = ![t.val / 16, 0] ∧ win0_2.index t = ![t.val / 16, 0]
    ∧ win0_3.index t = ![t.val % 16, 0] ∧ win0_4.index t = ![0, t.val % 16] := by
  revert t; decide +kernel
theorem idxO (t : Fin cfg0.N) : win0_5.index t = ![t.val / 16, t.val % 16] ∧ win0_6.index t = ![t.val / 16, 0] ∧ win0_7.index t = ![t.val / 16, 0]
    ∧ win0_8.index t = ![t.val / 16, 0] := by
  revert t; decide +kernel
theorem tile (t : Fin cfg0.N) : (grid0.coords t 1).val = t.val % 16 := by
  revert t; decide +kernel

/-- The five arguments, as plain arrays. -/
abbrev A0 (c : Dev nD) : Vec Ideal S12288x24576 .f32 := m ((c : Thread nD τ).loc main_arg0)
abbrev A1 (c : Dev nD) : Vec Ideal S12288 .f32 := m ((c : Thread nD τ).loc main_arg1)
abbrev A2 (c : Dev nD) : Vec Ideal S12288 .i32 := m ((c : Thread nD τ).loc main_arg2)
abbrev A3 (c : Dev nD) : Vec Ideal S24576x2304 .fp8e4m3 := m ((c : Thread nD τ).loc main_arg3)
abbrev A4 (c : Dev nD) : Vec Ideal S24576 .f32 := m ((c : Thread nD τ).loc main_arg4)

section
variable (x : Vec Ideal S12288x24576 .f32) (l2 : Vec Ideal S12288 .f32) (lab : Vec Ideal S12288 .i32) (w : Vec Ideal S24576x2304 .fp8e4m3) (ws : Vec Ideal S24576 .f32)

/-- The logit gradient of token `r` and vocabulary entry `v`; -/
def gG (r : Fin 12288) (v : Fin 24576) : EReal :=
  (if lab (ix1 r) = BitVec.ofNat 32 v.val then Ideal.exp2 (x (ix2 r v) * CL - l2 (ix1 r)) - 1 else Ideal.exp2 (x (ix2 r v) * CL - l2 (ix1 r)))
    * (1 - x (ix2 r v) * x (ix2 r v))

/-- its largest magnitude over group `q` of the vocabulary, over the format's largest value; -/
def yG (r : Fin 12288) (q : Fin 128) : EReal :=
  Finset.fold max (Ideal.ofBits .f32 0xFF800000#32) (fun u : Fin 192 => max (gG x l2 lab r ⟨q.val * 192 + u.val, by omega⟩) (-gG x l2 lab r ⟨q.val * 192 + u.val, by omega⟩)) Finset.univ * IM

/-- the group an entry lies in; -/
abbrev gp (v : Fin 24576) : Fin 128 := ⟨v.val / 192, by omega⟩

/-- the code; -/
def cG (r : Fin 12288) (v : Fin 24576) : EReal := min QM (max QN (gG x l2 lab r v * Cert.Scale.iB (yG x l2 lab r (gp v))))

/-- the input gradient; -/
def dxG (r : Fin 12288) (d : Fin 2304) : EReal :=
  ∑ v : Fin 24576, (cG x l2 lab r v * (Cert.Scale.sB (yG x l2 lab r (gp v)) * ws (ix1 v))) * w (ix2 v d)

/-- and the loss. -/
def lossG (r : Fin 12288) : EReal :=
  l2 (ix1 r) * LN2 - Ideal.ofBits .f32 0x41F00000#32 * ∑ v : Fin 24576, if lab (ix1 r) = BitVec.ofNat 32 v.val then x (ix2 r v) else 0
end

/-- What the host hands the call: the token values repeated over the lanes, the vocabulary scales as one row. -/
theorem l2_read (c : Dev nD) (g : S12288x128.Idx) : (V m c main_v4 : Vec Ideal S12288x128 .f32) g = A1 m c (ix1 (g 0)) := by
  entry_read
  pointwise
theorem lab_read (c : Dev nD) (g : S12288x128.Idx) : (V m c main_v2 : Vec Ideal S12288x128 .i32) g = A2 m c (ix1 (g 0)) := by
  entry_read
  pointwise
theorem ws_read (c : Dev nD) (g : S1x24576.Idx) : (V m c main_v0 : Vec Ideal S1x24576 .f32) g = A4 m c (ix1 (g 1)) := by
  entry_read
  pointwise

section
variable (c : Dev nD) (t : Fin cfg0.N)

theorem b0 (i : Fin 1024) (j : Fin 1536) (r : Fin 12288) (v : Fin 24576) (hr : r.val = t.val / 16 * 1024 + i.val) (hv : v.val = t.val % 16 * 1536 + j.val) :
    iblk m c 0 t (ix2 i j) = A0 m c (ix2 r v) := by
  blk_ext [iblk, V, (idx t).1]
theorem b1 (i : Fin 1024) (j : Fin 128) (r : Fin 12288) (hr : r.val = t.val / 16 * 1024 + i.val) : iblk m c 1 t (ix2 i j) = A1 m c (ix1 r) := by
  have b : iblk m c 1 t (ix2 i j) = V m c main_v4 (ix2 r j) := by
    blk_ext [iblk, (idx t).2.1]
  exact b.trans (l2_read m c _)
theorem b1y (y : S1024x128.Idx) (r : Fin 12288) (hr : r.val = t.val / 16 * 1024 + (y 0).val) : iblk m c 1 t y = A1 m c (ix1 r) := by
  have b : iblk m c 1 t y = V m c main_v4 (ix2 r (y 1)) := by
    blk_ext [iblk, (idx t).2.1]
  exact b.trans (l2_read m c _)
theorem b2 (i : Fin 1024) (j : Fin 128) (r : Fin 12288) (hr : r.val = t.val / 16 * 1024 + i.val) : iblk m c 2 t (ix2 i j) = A2 m c (ix1 r) := by
  have b : iblk m c 2 t (ix2 i j) = V m c main_v2 (ix2 r j) := by
    blk_ext [iblk, (idx t).2.2.1]
  exact b.trans (lab_read m c _)
theorem b3 (j : Fin 1536) (d : Fin 2304) (v : Fin 24576) (hv : v.val = t.val % 16 * 1536 + j.val) : iblk m c 3 t (ix2 j d) = A3 m c (ix2 v d) := by
  blk_ext [iblk, V, (idx t).2.2.2.1]
theorem b4 (j : Fin 1536) (v : Fin 24576) (hv : v.val = t.val % 16 * 1536 + j.val) : iblk m c 4 t (ix2 0 j) = A4 m c (ix1 v) := by
  have b : iblk m c 4 t (ix2 0 j) = V m c main_v0 (ix2 0 v) := by
    blk_ext [iblk, (idx t).2.2.2.2]
  exact b.trans (ws_read m c _)

/-- The tile's gradient, group scale and code are the token's and the entry's. -/
theorem g_block (n : Nat) (hn : n = t.val % 16) (i : Fin 1024) (j : Fin 1536) (r : Fin 12288) (v : Fin 24576) (hr : r.val = t.val / 16 * 1024 + i.val) (hv : v.val = t.val % 16 * 1536 + j.val) :
    gv n (iblk m c 0 t) (iblk m c 1 t) (iblk m c 2 t) i j = gG (A0 m c) (A1 m c) (A2 m c) r v := by
  subst hn
  unfold gv gG
  rw [b0 m c t i j r v hr hv, b1 m c t i _ r hr, b2 m c t i _ r hr, hv]
theorem y_block (n : Nat) (hn : n = t.val % 16) (i : Fin 1024) (q : Fin 8) (r : Fin 12288) (Q : Fin 128) (hr : r.val = t.val / 16 * 1024 + i.val) (hQ : Q.val = t.val % 16 * 8 + q.val) :
    yv n (iblk m c 0 t) (iblk m c 1 t) (iblk m c 2 t) i q = yG (A0 m c) (A1 m c) (A2 m c) r Q := by
  unfold yv yG
  refine congrArg (· * IM) (congrArg (fun f => Finset.fold max _ f Finset.univ) (funext fun u => ?_))
  rw [g_block m c t n hn i ⟨q.val * 192 + u.val, by omega⟩ r ⟨Q.val * 192 + u.val, by omega⟩ hr (by simp only []; omega)]
theorem c_block (n : Nat) (hn : n = t.val % 16) (i : Fin 1024) (j : Fin 1536) (r : Fin 12288) (v : Fin 24576) (hr : r.val = t.val / 16 * 1024 + i.val) (hv : v.val = t.val % 16 * 1536 + j.val) :
    cv n (iblk m c 0 t) (iblk m c 1 t) (iblk m c 2 t) i j = cG (A0 m c) (A1 m c) (A2 m c) r v := by
  unfold cv cG
  rw [g_block m c t n hn i j r v hr hv, y_block m c t n hn i _ r (gp v) hr (by show v.val / 192 = t.val % 16 * 8 + j.val / 192; omega)]
theorem q_block (n : Nat) (hn : n = t.val % 16) (i : Fin 1024) (j : Fin 1536) (r : Fin 12288) (v : Fin 24576) (hr : r.val = t.val / 16 * 1024 + i.val) (hv : v.val = t.val % 16 * 1536 + j.val) :
    qv n (iblk m c 0 t) (iblk m c 1 t) (iblk m c 2 t) (iblk m c 4 t) i j
      = cG (A0 m c) (A1 m c) (A2 m c) r v * (Cert.Scale.sB (yG (A0 m c) (A1 m c) (A2 m c) r (gp v)) * A4 m c (ix1 v)) := by
  unfold qv
  rw [c_block m c t n hn i j r v hr hv, y_block m c t n hn i _ r (gp v) hr (by show v.val / 192 = t.val % 16 * 8 + j.val / 192; omega), b4 m c t j v hv]
theorem l_block (n : Nat) (hn : n = t.val % 16) (i : Fin 1024) (l : Fin 128) (k : Fin 12) (r : Fin 12288) (v : Fin 24576) (hr : r.val = t.val / 16 * 1024 + i.val)
    (hv : v.val = t.val % 16 * 1536 + (k.val * 128 + l.val)) :
    tlv n (iblk m c 0 t) (iblk m c 2 t) i l k = if A2 m c (ix1 r) = BitVec.ofNat 32 v.val then A0 m c (ix2 r v) else 0 := by
  subst hn
  unfold tlv
  rw [b0 m c t i ⟨k.val * 128 + l.val, by omega⟩ r v hr hv, b2 m c t i _ r hr, hv]
end

/-- What every point leaves in the code block, -/
theorem codesAll (c : Dev nD) (t : Fin cfg0.N) (y : S1024x1536.Idx) :
    (outsAt0 m c t.val t.isLt).1 y = cv (grid0.coords t 1).val (iblk m c 0 t) (iblk m c 1 t) (iblk m c 2 t) (y 0) (y 1) := by
  by_cases h0 : t.val % 16 = 0
  · exact codesA m c t h0 (by omega) y
  · by_cases h1 : t.val % 16 = 15
    · exact codesC m c t h0 h1 y
    · exact codesB m c t h0 h1 y

/-- and, after the first of a token tile, in the running values. -/
theorem accBC (c : Dev nD) (t : Fin cfg0.N) (h0 : ¬t.val % 16 = 0) (y : S1024x2304.Idx) :
    (outsAt0 m c t.val t.isLt).2.2.2.2.1 y = (outsAt0 m c (t.val - 1) (Nat.lt_of_le_of_lt (Nat.sub_le _ _) t.isLt)).2.2.2.2.1 y
      + ∑ j : Fin 1536, qv (grid0.coords t 1).val (iblk m c 0 t) (iblk m c 1 t) (iblk m c 2 t) (iblk m c 4 t) (y 0) j * (iblk m c 3 t) (ix2 j (y 1)) := by
  by_cases h1 : t.val % 16 = 15
  · exact accC m c t h0 h1 y
  · exact accB m c t h0 h1 y
theorem tlBC (c : Dev nD) (t : Fin cfg0.N) (h0 : ¬t.val % 16 = 0) (y : S1024x128.Idx) :
    (outsAt0 m c t.val t.isLt).2.2.2.2.2 y = (outsAt0 m c (t.val - 1) (Nat.lt_of_le_of_lt (Nat.sub_le _ _) t.isLt)).2.2.2.2.2 y
      + ∑ k, tlv (grid0.coords t 1).val (iblk m c 0 t) (iblk m c 2 t) (y 0) (y 1) k := by
  by_cases h1 : t.val % 16 = 15
  · exact tlC m c t h0 h1 y
  · exact tlB m c t h0 h1 y
theorem gsBC (c : Dev nD) (t : Fin cfg0.N) (h0 : ¬t.val % 16 = 0) (y : S1024x128.Idx) :
    (outsAt0 m c t.val t.isLt).2.1 y = if (y 1).val / 8 = (grid0.coords t 1).val then
        Cert.Scale.sB (yv (grid0.coords t 1).val (iblk m c 0 t) (iblk m c 1 t) (iblk m c 2 t) (y 0) ⟨(y 1).val % 8, Nat.mod_lt _ (by decide)⟩)
      else (outsAt0 m c (t.val - 1) (Nat.lt_of_le_of_lt (Nat.sub_le _ _) t.isLt)).2.1 y := by
  by_cases h1 : t.val % 16 = 15
  · exact gsC m c t h0 h1 y
  · exact gsB m c t h0 h1 y

/-- The codes. -/
theorem final5_eq (c : Dev nD) : (dats m 0 c).arrAt 5 cfg0.N = fun i => cG (A0 m c) (A1 m c) (A2 m c) (i 0) (i 1) := by
  refine (dats m 0 c).arrAt_eq_of_covers 5 _ (by decide +kernel) fun t hf y => ?_
  blk_simp
  rw [after0_5, codesAll]
  refine c_block m c t _ (tile t) (y 0) (y 1) _ _ ?_ ?_
  · blk_simp [(idxO t).1]
  · blk_simp [(idxO t).1]

/-- After vocabulary tile `s` the lanes of the groups seen so far hold their scales. -/
theorem gs_upto (c : Dev nD) (q : Fin 12) : ∀ (s : Nat) (hs : s < 16) (h : 16 * q.val + s < cfg0.N) (y : S1024x128.Idx), (y 1).val / 8 ≤ s →
    (outsAt0 m c (16 * q.val + s) h).2.1 y = Cert.Scale.sB (yG (A0 m c) (A1 m c) (A2 m c) ⟨q.val * 1024 + (y 0).val, by have h0 : (y 0).val < 1024 := (y 0).isLt; omega⟩ (y 1)) := by
  intro s
  induction s with
  | zero =>
    intro hs h y hy
    have e := gsA m c ⟨16 * q.val + 0, h⟩ (by show (16 * q.val + 0) % 16 = 0; omega) (by show ¬(16 * q.val + 0) % 16 = 15; omega) y
    have ht := tile ⟨16 * q.val + 0, h⟩
    have ht' : (16 * q.val + 0) % 16 = 0 := by omega
    refine e.trans ((if_pos (by rw [ht]; show (y 1).val / 8 = (16 * q.val + 0) % 16; omega)).trans (congrArg Cert.Scale.sB ?_))
    refine y_block m c _ _ ht _ _ _ _ ?_ ?_
    · show q.val * 1024 + (y 0).val = (16 * q.val + 0) / 16 * 1024 + (y 0).val
      omega
    · show (y 1).val = (16 * q.val + 0) % 16 * 8 + (y 1).val % 8
      omega
  | succ s ih =>
    intro hs h y hy
    have ht := tile ⟨16 * q.val + (s + 1), h⟩
    have hm : (16 * q.val + (s + 1)) % 16 = s + 1 := by omega
    refine (gsBC m c ⟨16 * q.val + (s + 1), h⟩ (by show ¬(16 * q.val + (s + 1)) % 16 = 0; omega) y).trans ?_
    by_cases hl : (y 1).val / 8 = s + 1
    · refine (if_pos (by rw [ht]; exact hl.trans hm.symm)).trans (congrArg Cert.Scale.sB ?_)
      refine y_block m c _ _ ht _ _ _ _ ?_ ?_
      · show q.val * 1024 + (y 0).val = (16 * q.val + (s + 1)) / 16 * 1024 + (y 0).val
        omega
      · show (y 1).val = (16 * q.val + (s + 1)) % 16 * 8 + (y 1).val % 8
        omega
    · refine (if_neg (by rw [ht]; intro e; exact hl (e.trans hm))).trans ?_
      exact ih (by omega) _ y (by omega)

/-- The group scales. -/
theorem final6_eq (c : Dev nD) : (dats m 0 c).arrAt 6 cfg0.N = fun i => Cert.Scale.sB (yG (A0 m c) (A1 m c) (A2 m c) (i 0) (i 1)) := by
  refine (dats m 0 c).arrAt_eq_of_covers 6 _ (by decide +kernel) fun t hf y => ?_
  have ht : t.val % 16 = 15 := (flush0_6 t).mp hf
  have hN : t.val < 192 := lt_of_lt_of_eq t.isLt (show cfg0.N = 192 from N_0)
  have hy : (y 1).val < 128 := (y 1).isLt
  blk_simp
  rw [after0_6]
  have e0 : (((win0_6.blk t).view.emb y) 0).val = t.val / 16 * 1024 + (y 0).val := by
    blk_simp [(idxO t).2.1]
  have e1 : (((win0_6.blk t).view.emb y) 1).val = (y 1).val := by
    blk_simp [(idxO t).2.1]
  generalize (win0_6.blk t).view.emb y = z at e0 e1 ⊢
  have tt : t.val = 16 * (t.val / 16) + 15 := by omega
  have key := gs_upto m c ⟨t.val / 16, by omega⟩ 15 (by decide) (by rw [← tt]; exact t.isLt) y (by omega)
  have same : ∀ (n : Nat) (h : n < cfg0.N), t.val = n → (outsAt0 m c t.val t.isLt).2.1 y = (outsAt0 m c n h).2.1 y := fun n h e => by
    subst e
    rfl
  refine (same _ _ tt).trans (key.trans (congrArg Cert.Scale.sB (congrArg₂ _ (Fin.ext e0.symm) (Fin.ext e1.symm))))

/-- The input gradient. -/
theorem final7_eq (c : Dev nD) : (dats m 0 c).arrAt 7 cfg0.N = fun i => dxG (A0 m c) (A1 m c) (A2 m c) (A3 m c) (A4 m c) (i 0) (i 1) := by
  refine (dats m 0 c).arrAt_eq_of_covers 7 _ (by decide +kernel) fun t hf y => ?_
  have ht : t.val % 16 = 15 := (flush0_7 t).mp hf
  have hN : t.val < 192 := lt_of_lt_of_eq t.isLt (show cfg0.N = 192 from N_0)
  blk_simp
  rw [after0_7, dxC m c t (by omega) ht]
  have e0 : (((win0_7.blk t).view.emb y) 0).val = t.val / 16 * 1024 + (y 0).val := by
    blk_simp [(idxO t).2.2.1]
  have e1 : (((win0_7.blk t).view.emb y) 1).val = (y 1).val := by
    blk_simp [(idxO t).2.2.1]
  generalize (win0_7.blk t).view.emb y = z at e0 e1 ⊢
  have fold := Pipeline.eq_sum_fin_of_reset_step_apply_of_flush (fun n h => (outsAt0 m c n h).2.2.2.2.1) 16 (fun _ => 0) _ (fun t h j => accA m c t h (by omega) j)
    (fun t h j => accBC m c t h j) t ht y
  simp only [zero_add] at fold
  refine fold.trans ?_
  unfold dxG
  refine Fin.sum_mul_add_congr fun s j hj => ?_
  refine congrArg₂ (fun (a b : EReal) => a * b) (q_block m c _ _ (tile _) _ _ _ _ ?_ ?_) ((b3 m c _ _ _ _ ?_).trans (congrArg _ (congrArg (ix2 _) (Fin.ext e1.symm))))
  · show (z 0).val = (16 * (t.val / 16) + s.val) / 16 * 1024 + (y 0).val
    omega
  · show s.val * 1536 + j.val = (16 * (t.val / 16) + s.val) % 16 * 1536 + j.val
    omega
  · show s.val * 1536 + j.val = (16 * (t.val / 16) + s.val) % 16 * 1536 + j.val
    omega

/-- The loss. -/
theorem final8_eq (c : Dev nD) : (dats m 0 c).arrAt 8 cfg0.N = fun i => lossG (A0 m c) (A1 m c) (A2 m c) (i 0) := by
  refine (dats m 0 c).arrAt_eq_of_covers 8 _ (by decide +kernel) fun t hf y => ?_
  have ht : t.val % 16 = 15 := (flush0_8 t).mp hf
  have hN : t.val < 192 := lt_of_lt_of_eq t.isLt (show cfg0.N = 192 from N_0)
  blk_simp
  rw [after0_8, lossC m c t (by omega) ht]
  have e0 : (((win0_8.blk t).view.emb y) 0).val = t.val / 16 * 1024 + (y 0).val := by
    blk_simp [(idxO t).2.2.2]
  generalize (win0_8.blk t).view.emb y = z at e0 ⊢
  unfold k0_pay4 lossG
  pointwise
  refine congrArg₂ (fun (a b : EReal) => a * LN2 - Ideal.ofBits .f32 0x41F00000#32 * b) (b1y m c t y (z 0) e0) ?_
  have fold := fun l : Fin 128 => Pipeline.eq_sum_fin_of_reset_step_apply_of_flush (fun n h => (outsAt0 m c n h).2.2.2.2.2) 16 (fun _ => 0) _ (fun t h j => tlA m c t h (by omega) j)
    (fun t h j => tlBC m c t h j) t ht (ix2 (y 0) l)
  simp only [zero_add] at fold
  refine (Finset.sum_congr rfl fun l _ => fold l).trans ?_
  rw [Finset.sum_comm]
  refine Eq.trans (Finset.sum_congr rfl fun s _ => Finset.sum_comm) ?_
  have inner : ∀ s : Fin 16, ∑ k : Fin 12, ∑ l : Fin 128, tlv (grid0.coords (⟨16 * (t.val / 16) + s.val, by rw [show cfg0.N = 192 from N_0]; omega⟩ : Fin cfg0.N) 1).val
        (iblk m c 0 ⟨16 * (t.val / 16) + s.val, by rw [show cfg0.N = 192 from N_0]; omega⟩) (iblk m c 2 ⟨16 * (t.val / 16) + s.val, by rw [show cfg0.N = 192 from N_0]; omega⟩) (y 0) l k
      = ∑ u : Fin 1536, (fun v : Fin 24576 => if A2 m c (ix1 (z 0)) = BitVec.ofNat 32 v.val then A0 m c (ix2 (z 0) v) else 0) ⟨s.val * 1536 + u.val, by omega⟩ := fun s => by
    refine Fin.sum_mul_add_congr fun k l hl => ?_
    refine l_block m c _ _ (tile _) _ _ _ _ _ ?_ ?_
    · show (z 0).val = (16 * (t.val / 16) + s.val) / 16 * 1024 + (y 0).val
      omega
    · show s.val * 1536 + (k.val * 128 + l.val) = (16 * (t.val / 16) + s.val) % 16 * 1536 + (k.val * 128 + l.val)
      omega
  refine Eq.trans (Finset.sum_congr rfl fun s _ => inner s) ?_
  exact Fin.sum_mul_add_congr fun s u hl => rfl

end Cert.BwdIdeal.Value
-- ==== Proof.BwdMath.lean ====
module

public import proofs.«01_k».proof.Proof.Scale
public import proofs.«01_k».proof.Proof.Cap

@[expose] public section
noncomputable section
namespace Cert.BwdMath
open Idealize.ShloMosaic

/-- The reference's literals. -/
theorem c30 : Ideal.ofBits .f32 0x41F00000#32 = ((30 : ℝ) : EReal) := by
  simp [Ideal.ofBits, Ideal.ieee, -EReal.coe_mul]; norm_num
theorem c2 : Ideal.ofBits .f32 0x40000000#32 = ((2 : ℝ) : EReal) := by
  simp [Ideal.ofBits, Ideal.ieee, -EReal.coe_mul]; norm_num
theorem c1 : Ideal.ofBits .f32 0x3F800000#32 = ((1 : ℝ) : EReal) := by
  simp [Ideal.ofBits, Ideal.ieee, -EReal.coe_mul]; norm_num
theorem cm1 : Ideal.ofBits .f32 0xBF800000#32 = ((-1 : ℝ) : EReal) := by
  simp [Ideal.ofBits, Ideal.ieee, -EReal.coe_mul]; norm_num
theorem cm80 : Ideal.ofBits .f32 0xC2A00000#32 = ((-80 : ℝ) : EReal) := by
  simp [Ideal.ofBits, Ideal.ieee, -EReal.coe_mul]; norm_num
theorem cbot : Ideal.ofBits .f32 0xFF800000#32 = (⊥ : EReal) := by
  simp [Ideal.ofBits, Ideal.ieee]
theorem ctiny : Ideal.ofBits .f32 0x00800000#32 = (((2 : ℝ) ^ (-126 : ℤ) : ℝ) : EReal) := by
  simp [Ideal.ofBits, Ideal.ieee, -EReal.coe_mul]; norm_num
theorem cim : ∃ i : ℝ, Ideal.ofBits .f32 0x37924925#32 = (i : EReal) ∧ 0 ≤ i ∧ i ≤ 1 / 2 ^ 14 := by
  refine ⟨_, by simp [Ideal.ofBits, Ideal.ieee, -EReal.coe_mul]; rfl, ?_, ?_⟩ <;> norm_num

/-- The natural logarithm of two, as the reference computes it. -/
abbrev L : EReal := Ideal.log (Ideal.ofBits .f32 0x40000000#32)
theorem L_eq : L = ((Real.log 2 : ℝ) : EReal) := by
  show Ideal.log _ = _
  rw [c2, Ideal.log_coe, if_neg (by norm_num)]

/-- The reference's exponent, times the logarithm of two. -/
def eM (y : EReal) : EReal :=
  (if y < Ideal.ofBits .f32 0x00800000#32 then 0 else Ideal.liftRound Int.floor (Ideal.div (Ideal.log y) L) + 1) * L

theorem eM_eq (y : ℝ) (y0 : 0 ≤ y) : eM (y : EReal) = (((Cert.Scale.eR y : ℝ) * Real.log 2 : ℝ) : EReal) := by
  have l2 : Real.log 2 ≠ 0 := (Real.log_pos (by norm_num)).ne'
  unfold eM Cert.Scale.eR
  rw [L_eq, ctiny]
  by_cases h : y < (2 : ℝ) ^ (-126 : ℤ)
  · rw [if_pos (EReal.coe_lt_coe_iff.mpr h), if_pos h]
    simp
  · have yp : 0 < y := lt_of_lt_of_le (by positivity) (not_lt.mp h)
    rw [if_neg (fun k => h (EReal.coe_lt_coe_iff.mp k)), if_neg h, Ideal.log_coe, if_neg (not_le.mpr yp), Ideal.div_coe, ← EReal.coe_mul, mul_one_div, Ideal.liftRound_coe]
    · rw [EReal.coe_mul]
      push_cast
      rfl
    · exact l2

/-- The two scales, and their inverses, agree. -/
theorem scale_link (y : ℝ) (y0 : 0 ≤ y) (y1 : y < (2 : ℝ) ^ (126 : ℤ)) :
    Ideal.exp (eM (y : EReal)) = Cert.Scale.sB y ∧ Ideal.exp (-(eM (y : EReal))) = Cert.Scale.iB y := by
  obtain ⟨hs, hi⟩ := Cert.Scale.scale_eq y y0 y1
  rw [hs, hi, eM_eq y y0]
  refine ⟨?_, ?_⟩
  · rw [Ideal.exp_coe, Cert.Scale.exp_mul_log]
  · rw [← EReal.coe_neg, Ideal.exp_coe, ← neg_mul, ← Int.cast_neg, Cert.Scale.exp_mul_log]

/-- The two gradients agree, and are reals of bounded size. -/
theorem g_link (x l2 : EReal) (x0 : ((-1 : ℝ) : EReal) ≤ x) (x1 : x ≤ ((1 : ℝ) : EReal)) (hl : ((-80 : ℝ) : EReal) ≤ l2) (b : Prop) [Decidable b] :
    (Ideal.exp (((30 : ℝ) : EReal) * x - l2 * L) - (if b then 1 else 0)) * (1 - x * x)
      = (if b then Ideal.exp2 (x * ((30 * (Real.log 2)⁻¹ : ℝ) : EReal) - l2) - 1 else Ideal.exp2 (x * ((30 * (Real.log 2)⁻¹ : ℝ) : EReal) - l2)) * (1 - x * x)
    ∧ ∃ r : ℝ, (if b then Ideal.exp2 (x * ((30 * (Real.log 2)⁻¹ : ℝ) : EReal) - l2) - 1 else Ideal.exp2 (x * ((30 * (Real.log 2)⁻¹ : ℝ) : EReal) - l2)) * (1 - x * x) = (r : EReal)
      ∧ |r| ≤ 2 ^ 134 := by
  have lp : 0 < Real.log 2 := Real.log_pos (by norm_num)
  obtain ⟨a, rfl⟩ : ∃ a : ℝ, x = (a : EReal) := ⟨x.toReal, (EReal.coe_toReal (ne_top_of_le_ne_top (EReal.coe_ne_top _) x1) (ne_bot_of_le_ne_bot (EReal.coe_ne_bot _) x0)).symm⟩
  have a0 : -1 ≤ a := EReal.coe_le_coe_iff.mp x0
  have a1 : a ≤ 1 := EReal.coe_le_coe_iff.mp x1
  rw [L_eq]
  -- the exponential is one real `p` on both sides
  obtain ⟨p, hp, hq, p0, p1⟩ : ∃ p : ℝ, Ideal.exp (((30 : ℝ) : EReal) * (a : EReal) - l2 * ((Real.log 2 : ℝ) : EReal)) = (p : EReal)
      ∧ Ideal.exp2 ((a : EReal) * ((30 * (Real.log 2)⁻¹ : ℝ) : EReal) - l2) = (p : EReal) ∧ 0 ≤ p ∧ p ≤ 2 ^ 133 := by
    induction l2 using EReal.rec with
    | bot => exact absurd hl (by simp)
    | top =>
      refine ⟨0, ?_, ?_, le_refl _, by positivity⟩
      · rw [EReal.top_mul_coe_of_pos lp, sub_eq_add_neg, EReal.neg_top, EReal.add_bot]; rfl
      · rw [sub_eq_add_neg, EReal.neg_top, EReal.add_bot]; rfl
    | coe l =>
      have l0 : -80 ≤ l := EReal.coe_le_coe_iff.mp hl
      refine ⟨Real.exp (30 * a - l * Real.log 2), ?_, ?_, (Real.exp_pos _).le, ?_⟩
      · rw [← EReal.coe_mul, ← EReal.coe_mul, ← EReal.coe_sub, Ideal.exp_coe]
      · rw [← EReal.coe_mul, ← EReal.coe_sub, Ideal.exp2_coe]
        refine congrArg _ ?_
        show (2 : ℝ) ^ (a * (30 * (Real.log 2)⁻¹) - l) = _
        rw [Real.rpow_def_of_pos (by norm_num)]
        refine congrArg Real.exp ?_
        field_simp
      · have e1 : Real.exp 30 ≤ 2 ^ 53 := by
          have h3 : 2 / 3 ≤ Real.exp (-(1 / 3)) := by linarith [Real.add_one_le_exp (-(1 / 3) : ℝ)]
          have h4 : Real.exp (1 / 3) ≤ 3 / 2 := by
            have hm : Real.exp (1 / 3) * Real.exp (-(1 / 3)) = 1 := by rw [← Real.exp_add]; norm_num
            nlinarith [Real.exp_pos (1 / 3 : ℝ)]
          have : Real.exp 30 = Real.exp (1 / 3) ^ 90 := by rw [← Real.exp_nat_mul]; norm_num
          rw [this]
          exact (pow_le_pow_left₀ (Real.exp_pos _).le h4 90).trans (by norm_num)
        have e2 : Real.exp (80 * Real.log 2) = 2 ^ 80 := by
          have := Cert.Scale.exp_mul_log 80
          rw [show ((80 : ℤ) : ℝ) = 80 by norm_num] at this
          rw [this]; norm_num
        calc Real.exp (30 * a - l * Real.log 2) ≤ Real.exp (30 + 80 * Real.log 2) := Real.exp_le_exp.mpr (by nlinarith)
          _ = Real.exp 30 * Real.exp (80 * Real.log 2) := Real.exp_add _ _
          _ ≤ 2 ^ 53 * 2 ^ 80 := by rw [e2]; exact mul_le_mul_of_nonneg_right e1 (by positivity)
          _ = 2 ^ 133 := by norm_num
  rw [hp, hq]
  have s0 : 0 ≤ 1 - a * a := by nlinarith
  have s1 : 1 - a * a ≤ 1 := by nlinarith
  have one : (1 : EReal) = ((1 : ℝ) : EReal) := rfl
  by_cases hb : b
  · rw [if_pos hb, if_pos hb, one, ← EReal.coe_mul, ← EReal.coe_sub, ← EReal.coe_sub, ← EReal.coe_mul]
    refine ⟨rfl, _, rfl, ?_⟩
    rw [abs_le]
    constructor <;> nlinarith [mul_nonneg p0 s0]
  · rw [if_neg hb, if_neg hb, one, ← EReal.coe_mul, ← EReal.coe_sub, ← EReal.coe_mul, sub_zero, ← EReal.coe_mul]
    refine ⟨rfl, _, rfl, ?_⟩
    rw [abs_le]
    constructor <;> nlinarith [mul_nonneg p0 s0]

/-- The largest magnitude of such a group, over the format's largest value, is a real the scale's exponent reaches. -/
theorem y_real (f : Fin 192 → EReal) (hf : ∀ u, ∃ r : ℝ, f u = (r : EReal) ∧ |r| ≤ 2 ^ 134) :
    ∃ y : ℝ, Finset.fold max (Ideal.ofBits .f32 0xFF800000#32) (fun u => max (f u) (-f u)) Finset.univ * Ideal.ofBits .f32 0x37924925#32 = (y : EReal)
      ∧ 0 ≤ y ∧ y < (2 : ℝ) ^ (126 : ℤ) := by
  obtain ⟨i, hi, i0, i1⟩ := cim
  choose r hr hb using hf
  have hm : ∀ u, max (f u) (-f u) = ((|r u| : ℝ) : EReal) := fun u => by
    rw [hr, ← EReal.coe_neg]
    exact (EReal.coe_strictMono.monotone.map_max).symm
  obtain ⟨z, hz⟩ := Cert.Cap.fold_max_real (Finset.univ : Finset (Fin 192)) ⟨0, Finset.mem_univ _⟩ (fun u => max (f u) (-f u)) (fun u => ⟨_, hm u⟩)
  have z0 : 0 ≤ z := by
    have : ((0 : ℝ) : EReal) ≤ (z : EReal) := by
      rw [← hz]
      exact (Finset.le_fold_max _).mpr (.inr ⟨0, Finset.mem_univ _, by rw [hm]; exact EReal.coe_le_coe_iff.mpr (abs_nonneg _)⟩)
    exact EReal.coe_le_coe_iff.mp this
  have z1 : z ≤ 2 ^ 134 := by
    have : (z : EReal) ≤ ((2 ^ 134 : ℝ) : EReal) := by
      rw [← hz]
      exact (Finset.fold_max_le _).mpr ⟨bot_le, fun u _ => by rw [hm]; exact EReal.coe_le_coe_iff.mpr (hb u)⟩
    exact EReal.coe_le_coe_iff.mp this
  refine ⟨z * i, by rw [cbot, hz, hi, EReal.coe_mul], mul_nonneg z0 i0, ?_⟩
  calc z * i ≤ 2 ^ 134 * (1 / 2 ^ 14) := mul_le_mul z1 i1 i0 (by positivity)
    _ < (2 : ℝ) ^ (126 : ℤ) := by norm_num

/-- A factor of a sum over reals may be taken out, -/
theorem label_link {n : Nat} (x : Fin n → EReal) (p : Fin n → Prop) [DecidablePred p] (hx : ∀ v, ∃ r : ℝ, x v = (r : EReal)) :
    ∑ v, (if p v then ((30 : ℝ) : EReal) * x v else 0) = ((30 : ℝ) : EReal) * ∑ v, if p v then x v else 0 := by
  choose r hr using hx
  have e1 : ∀ v, (if p v then x v else 0) = ((if p v then r v else 0 : ℝ) : EReal) := fun v => by
    by_cases h : p v
    · rw [if_pos h, if_pos h, hr]
    · rw [if_neg h, if_neg h]; rfl
  have e2 : ∀ v, (if p v then ((30 : ℝ) : EReal) * x v else 0) = ((30 * (if p v then r v else 0) : ℝ) : EReal) := fun v => by
    by_cases h : p v
    · rw [if_pos h, if_pos h, hr, EReal.coe_mul]
    · rw [if_neg h, if_neg h, mul_zero]; rfl
  rw [Finset.sum_congr rfl fun v _ => e1 v, Finset.sum_congr rfl fun v _ => e2 v, Cert.Cap.coe_sum, Cert.Cap.coe_sum, ← EReal.coe_mul, Finset.mul_sum]

end Cert.BwdMath
-- ==== Proof.BwdRefDefs.lean ====
module

public import proofs.«01_k».proof.Proof.Gen.BwdRefIdeal.Read
public import Idealize.ShloMosaic.Lib.Pipeline.ValueKit
public import Idealize.ShloMosaic.Lib.Pointwise
public import Idealize.ShloMosaic.PureOps.Reduce
public import Idealize.ShloMosaic.PureOps.Ideal.Laws
public import proofs.«01_k».proof.Proof.BwdMath

@[expose] public section
noncomputable section
namespace Cert.BwdRefIdeal.Value
open Cert.BwdRefIdeal Cert.BwdRefIdeal.Gen Idealize.ShloMosaic Idealize.ShloMosaic.TcCoe Idealize.SL.Sem

variable (m : (ℓ : Loc nD τ sig) → Buf (Elt Ideal) ℓ)

/-- The five arguments, as plain arrays. -/
abbrev A0 (c : Dev nD) : Vec Ideal S12288x24576 .f32 := m ((c : Thread nD τ).loc main_arg0)
abbrev A1 (c : Dev nD) : Vec Ideal S12288 .f32 := m ((c : Thread nD τ).loc main_arg1)
abbrev A2 (c : Dev nD) : Vec Ideal S12288 .i32 := m ((c : Thread nD τ).loc main_arg2)
abbrev A3 (c : Dev nD) : Vec Ideal S24576x2304 .fp8e4m3 := m ((c : Thread nD τ).loc main_arg3)
abbrev A4 (c : Dev nD) : Vec Ideal S24576 .f32 := m ((c : Thread nD τ).loc main_arg4)

/-- The stages the reference computes before its decoding call. -/
def ln2T : FVec Ideal S_ .f32 := Host.log (constant S_ .f32 0x40000000#32)
def zT (x : FVec Ideal S12288x24576 .f32) : FVec Ideal S12288x24576 .f32 := mulf (broadcastInDim S12288x24576 ![] bcast_S_S12288x24576 (constant S_ .f32 0x41F00000#32)) x
def lseT (l2 : FVec Ideal S12288 .f32) : FVec Ideal S12288 .f32 := mulf l2 (broadcastInDim S12288 ![] bcast_S_S12288 ln2T)
def oneT (lab : IVec S12288 32) : IVec S12288x24576 1 :=
  cmpi .eq (broadcastInDim S12288x24576 ![0, 1] bcast_S1x24576_S12288x24576_0_1 (broadcastInDim S1x24576 ![1] bcast_S24576_S1x24576_1 (iotaInDim S24576 32 0)))
    (broadcastInDim S12288x24576 ![0, 1] bcast_S12288x1_S12288x24576_0_1 (broadcastInDim S12288x1 ![0] bcast_S12288_S12288x1_0 lab))
def gT (x : FVec Ideal S12288x24576 .f32) (l2 : FVec Ideal S12288 .f32) (lab : IVec S12288 32) : FVec Ideal S12288x24576 .f32 :=
  mulf (subf (Host.exp (subf (zT x) (broadcastInDim S12288x24576 ![0, 1] bcast_S12288x1_S12288x24576_0_1 (broadcastInDim S12288x1 ![0] bcast_S12288_S12288x1_0 (lseT l2))))) (uitofp .f32 (oneT lab)))
    (subf (broadcastInDim S12288x24576 ![] bcast_S_S12288x24576 (constant S_ .f32 0x3F800000#32)) (mulf x x))
def ggT (g : FVec Ideal S12288x24576 .f32) : FVec Ideal S12288x128x192 .f32 := shapeCast _ g shapeCasts_S12288x24576_S12288x128x192
def yT (gg : FVec Ideal S12288x128x192 .f32) : FVec Ideal S12288x128 .f32 :=
  mulf (Host.reduce FloatOps.maximumf (Host.absf gg) (constant S_ .f32 0xFF800000#32) reducesTo_S12288x128x192_S12288x128_d2 h_S_) (broadcastInDim S12288x128 ![] bcast_S_S12288x128 (constant S_ .f32 0x37924925#32))
def eT (y : FVec Ideal S12288x128 .f32) : FVec Ideal S12288x128 .f32 :=
  mulf (select (cmpf .olt y (broadcastInDim S12288x128 ![] bcast_S_S12288x128 (constant S_ .f32 0x00800000#32))) (broadcastInDim S12288x128 ![] bcast_S_S12288x128 (id (constant S_ .f32 0x00000000#32)))
    (addf (Host.floor (Host.divf (Host.log y) (broadcastInDim S12288x128 ![] bcast_S_S12288x128 ln2T))) (broadcastInDim S12288x128 ![] bcast_S_S12288x128 (constant S_ .f32 0x3F800000#32))))
    (broadcastInDim S12288x128 ![] bcast_S_S12288x128 ln2T)
def q3T (gg : FVec Ideal S12288x128x192 .f32) (e : FVec Ideal S12288x128 .f32) : FVec Ideal S12288x128x192 .f32 :=
  minimumf (maximumf (mulf gg (broadcastInDim S12288x128x192 ![0, 1, 2] bcast_S12288x128x1_S12288x128x192_0_1_2 (broadcastInDim S12288x128x1 ![0, 1] bcast_S12288x128_S12288x128x1_0_1 (Host.exp (Host.negf e)))))
    (broadcastInDim S12288x128x192 ![] bcast_S_S12288x128x192 (constant S_ .f32 0xC7600000#32))) (broadcastInDim S12288x128x192 ![] bcast_S_S12288x128x192 (constant S_ .f32 0x47600000#32))
def qT (q3 : FVec Ideal S12288x128x192 .f32) : FVec Ideal S12288x24576 .f32 := shapeCast _ q3 shapeCasts_S12288x128x192_S12288x24576

theorem zT_apply (x : FVec Ideal S12288x24576 .f32) (i : S12288x24576.Idx) : zT x i = Ideal.ofBits .f32 0x41F00000#32 * x i := by
  unfold zT
  pointwise
theorem lseT_apply (l2 : FVec Ideal S12288 .f32) (i : S12288.Idx) : lseT l2 i = l2 i * Cert.BwdMath.L := by
  unfold lseT ln2T
  pointwise
theorem oneT_apply (lab : IVec S12288 32) (i : S12288x24576.Idx) : oneT lab i = IntOp.cmpi .eq (BitVec.ofNat 32 (i 1).val) (lab (ix1 (i 0))) := by
  unfold oneT
  pointwise
/-- What the decoding call is handed. -/
theorem q_read (c : Dev nD) : (V m c main_v47 : Vec Ideal S12288x24576 .f32) = qT (q3T (ggT (gT (A0 m c) (A1 m c) (A2 m c))) (eT (yT (ggT (gT (A0 m c) (A1 m c) (A2 m c)))))) := by
  show Gen.V0 m c (Proc.devRef .tc main_v47) = _
  simp only [Gen.V0, Gen.hostOps0, Gen.hostOps0_1, Gen.hostOps0_2, StableHlo.TRef.ternary, StableHlo.TRef.unary, StableHlo.TRef.toBuf, StableHlo.TRef.ofBuf, cast_eq, List.flatten_cons, List.flatten_nil, List.append_nil, List.cons_append, List.nil_append]
  after_results_simp <;> rfl

end Cert.BwdRefIdeal.Value
-- ==== Proof.BwdRefRead.lean ====
module

public import proofs.«01_k».proof.Proof.BwdRefDefs

@[expose] public section
noncomputable section
namespace Cert.BwdRefIdeal.Value
open Cert.BwdRefIdeal Cert.BwdRefIdeal.Gen Idealize.ShloMosaic Idealize.ShloMosaic.TcCoe Idealize.SL.Sem

/-- A comparison's bit, as a number. -/
theorem bit_eq (a b : BitVec 32) : (FloatOps.uitofp FTy.f32 (IntOp.cmpi .eq a b) : Ideal .f32) = (if b = a then 1 else 0 : EReal) := by
  have h1 : (FloatOps.uitofp FTy.f32 (1#1) : Ideal .f32) = (1 : EReal) := by
    show (((1#1 : BitVec 1).toNat : ℝ) : EReal) = 1
    simp
  have h0 : (FloatOps.uitofp FTy.f32 (0#1) : Ideal .f32) = (0 : EReal) := by
    show (((0#1 : BitVec 1).toNat : ℝ) : EReal) = 0
    simp
  by_cases h : b = a
  · subst h
    rw [if_pos rfl, show IntOp.cmpi .eq b b = 1#1 by simp [IntOp.cmpi]]
    exact h1
  · have hab : IntOp.cmpi .eq a b = 0#1 := by
      show BitVec.ofBool (a == b) = 0#1
      rw [beq_false_of_ne (fun e => h e.symm)]
      rfl
    rw [if_neg h, hab]
    exact h0
theorem gT_apply (x : FVec Ideal S12288x24576 .f32) (l2 : FVec Ideal S12288 .f32) (lab : IVec S12288 32) (i : S12288x24576.Idx) :
    gT x l2 lab i = (Ideal.exp (Ideal.ofBits .f32 0x41F00000#32 * x i - l2 (ix1 (i 0)) * Cert.BwdMath.L) - (if lab (ix1 (i 0)) = BitVec.ofNat 32 (i 1).val then 1 else 0)) * (1 - x i * x i) := by
  unfold gT
  pointwise
  rw [zT_apply, lseT_apply, oneT_apply, bit_eq]
/-- The largest over the last axis, -/
theorem red (v : FVec Ideal S12288x128x192 .f32) (i : S12288x128.Idx) : Host.reduce FloatOps.maximumf v (constant S_ .f32 0xFF800000#32) reducesTo_S12288x128x192_S12288x128_d2 h_S_ i
    = Finset.fold max (Ideal.ofBits .f32 0xFF800000#32) (fun u : Fin 192 => v (ix3 (i 0) (i 1) u)) Finset.univ := by
  rw [Host.reduce_eq_fold_single _ _ _ _ (by decide)]
  have hm : (FloatOps.maximumf : Ideal .f32 → Ideal .f32 → Ideal .f32) = (max : EReal → EReal → EReal) := rfl
  have hb : (constant S_ .f32 0xFF800000#32 : FVec Ideal S_ .f32) (Shape.Idx.first h_S_) = Ideal.ofBits .f32 0xFF800000#32 := rfl
  rw [hb]
  refine congrArg (fun f => Finset.fold max (Ideal.ofBits .f32 0xFF800000#32) f Finset.univ) (funext fun u => ?_)
  exact congrArg v (funext fun a => Fin.ext (by match a with | ⟨0, _⟩ => rfl | ⟨1, _⟩ => rfl | ⟨2, _⟩ => rfl))
/-- and an entry of a group. -/
theorem gg_apply (g : FVec Ideal S12288x24576 .f32) (r : Fin 12288) (q : Fin 128) (u : Fin 192) : ggT g (ix3 r q u) = g (ix2 r ⟨q.val * 192 + u.val, by omega⟩) := by
  unfold ggT
  refine shapeCast_apply g shapeCasts_S12288x24576_S12288x128x192 (ix3 r q u) (ix2 r ⟨q.val * 192 + u.val, by omega⟩)
    (by rewrite [Shape.rowMajor_val_two, Shape.rowMajor_val_three]; show r.val * 24576 + (q.val * 192 + u.val) = (r.val * 128 + q.val) * 192 + u.val; omega)
theorem mul_at (a b : FVec Ideal S12288x128 .f32) (i : S12288x128.Idx) : mulf a b i = a i * b i := rfl
theorem abs_at (a : FVec Ideal S12288x128x192 .f32) (i : S12288x128x192.Idx) : Host.absf a i = max (a i) (-a i) := rfl
theorem im_at (i : S12288x128.Idx) : (broadcastInDim S12288x128 ![] bcast_S_S12288x128 (constant S_ .f32 0x37924925#32 : FVec Ideal S_ .f32) : FVec Ideal S12288x128 .f32) i = Ideal.ofBits .f32 0x37924925#32 := by
  pointwise
theorem yT_apply (g : FVec Ideal S12288x24576 .f32) (i : S12288x128.Idx) :
    yT (ggT g) i = Finset.fold max (Ideal.ofBits .f32 0xFF800000#32) (fun u : Fin 192 => max (g (ix2 (i 0) ⟨(i 1).val * 192 + u.val, by have h : (i 1).val < 128 := (i 1).isLt; omega⟩))
      (-g (ix2 (i 0) ⟨(i 1).val * 192 + u.val, by have h : (i 1).val < 128 := (i 1).isLt; omega⟩))) Finset.univ * Ideal.ofBits .f32 0x37924925#32 := by
  unfold yT
  rw [mul_at, red, im_at]
  refine congrArg (· * Ideal.ofBits .f32 0x37924925#32) (congrArg (fun f => Finset.fold max (Ideal.ofBits .f32 0xFF800000#32) f Finset.univ) (funext fun u => ?_))
  rw [abs_at]
  exact congrArg (fun (z : EReal) => max z (-z)) (gg_apply g (i 0) (i 1) u)
theorem eT_apply (y : FVec Ideal S12288x128 .f32) (i : S12288x128.Idx) : eT y i = Cert.BwdMath.eM (y i) := by
  unfold eT ln2T Cert.BwdMath.eM
  pointwise
  show (if y i < Ideal.ofBits .f32 0x00800000#32 then Ideal.ofBits .f32 0x00000000#32 else _) * _ = _
  rw [Ideal.ofBits_zero_f32]
theorem qT_apply (g : FVec Ideal S12288x24576 .f32) (e : FVec Ideal S12288x128 .f32) (i : S12288x24576.Idx) :
    qT (q3T (ggT g) e) i = min (Ideal.ofBits .f32 0x47600000#32) (max (Ideal.ofBits .f32 0xC7600000#32) (g i * Ideal.exp (-e (ix2 (i 0) ⟨(i 1).val / 192, by have h : (i 1).val < 24576 := (i 1).isLt; omega⟩)))) := by
  unfold qT q3T ggT
  pointwise
  rw [min_comm, max_comm]

end Cert.BwdRefIdeal.Value
-- ==== Proof.BwdRef.lean ====
module

public import proofs.«01_k».proof.Proof.BwdRefRead
public import proofs.«01_k».proof.Proof.BwdFinal

@[expose] public section
noncomputable section
namespace Cert.BwdRefIdeal.Value
open Cert.BwdRefIdeal Cert.BwdRefIdeal.Gen Idealize.ShloMosaic Idealize.ShloMosaic.TcCoe Idealize.SL.Sem
open Cert.BwdIdeal.Value (gG yG cG dxG lossG gp)

variable (m : (ℓ : Loc nD τ sig) → Buf (Elt Ideal) ℓ)

/-- The one point's blocks are the whole arrays. -/
theorem idx (t : Fin cfg0.N) : win0_0.index t = ![0, 0] ∧ win0_1.index t = ![0, 0] ∧ win0_2.index t = ![0, 0] ∧ win0_3.index t = ![0, 0] ∧ win0_4.index t = ![0, 0] := by
  revert t; decide +kernel

/-- A block of the codes' array, of any contents, is the array. -/
theorem blk0 (t : Fin cfg0.N) (B : S12288x24576.Idx → EReal) (y) : View.read (Elt Ideal) ((cfg0.win 0).blk t).view B y = B (((View.whole main_v48_0).slice (win0_2.rect t)).emb y) := by
  blk_ext [(idx t).1, (idx t).2.2.1]
theorem blk1 (t : Fin cfg0.N) (B : S12288x24576.Idx → EReal) (y) : View.read (Elt Ideal) ((cfg0.win 0).blk t).view B y = B (((View.whole main_v48_1).slice (win0_3.rect t)).emb y) := by
  blk_ext [(idx t).1, (idx t).2.2.2.1]
/-- The rounded codes are the codes, the decoded codes the same, the decoded weights the weights' codes read as numbers. -/
theorem reg0 (c : Dev nD) : (reg_main_v48_0 m c : Vec Ideal S12288x24576 .fp8e5m2) = fun i => (V m c main_v47 : Vec Ideal S12288x24576 .f32) i := by
  unfold reg_main_v48_0
  refine (dats m 0 c).arrAt_eq_of_covers 2 _ (by decide +kernel) fun t hf y => ?_
  blk_simp
  rw [after0_2]
  frame_out
  unfold k0_pay1
  pointwise
  unfold iblk
  exact blk0 t (V m c main_v47) y
theorem reg1 (c : Dev nD) : (reg_main_v48_1 m c : Vec Ideal S12288x24576 .bf16) = fun i => (V m c main_v47 : Vec Ideal S12288x24576 .f32) i := by
  unfold reg_main_v48_1
  refine (dats m 0 c).arrAt_eq_of_covers 3 _ (by decide +kernel) fun t hf y => ?_
  blk_simp
  rw [after0_3]
  frame_out
  unfold k0_pay2
  pointwise
  unfold iblk
  exact blk1 t (V m c main_v47) y
theorem reg2 (c : Dev nD) : (reg_main_v48_2 m c : Vec Ideal S24576x2304 .bf16) = fun i => A3 m c i := by
  unfold reg_main_v48_2
  refine (dats m 0 c).arrAt_eq_of_covers 4 _ (by decide +kernel) fun t hf y => ?_
  blk_simp
  rw [after0_4]
  frame_out
  unfold k0_pay3
  pointwise
  blk_ext [iblk, V, (idx t).1, (idx t).2.1, (idx t).2.2.1, (idx t).2.2.2.1, (idx t).2.2.2.2]

/-- Where the result's broadcasts and the reshapes look. -/
theorem n65 (i : S12288x128.Idx) : Read.idx_main_v64 (Read.idx_main_v65 i) = ix1 (i 0) := by
  funext a; match a with | ⟨0, _⟩ => rfl
theorem n62 (r : Fin 12288) (k : Fin 24576) : Read.idx_main_v62 (ix1 r) k = ix2 r k := by
  funext a; match a with | ⟨0, _⟩ => rfl | ⟨1, _⟩ => rfl
theorem n49 (i : S12288x2304.Idx) (v : Fin 24576) : Read.idx_main_v49 (Read.idx_main_v54 (Read.lidx_main_v59 i v)) = ix2 (i 0) v := by
  have hv : v.val < 24576 := v.isLt
  funext a
  match a with
  | ⟨0, _⟩ => exact Fin.ext (by show (((((i 0).val * 24576 + v.val) / 24576) * 128 + ((i 0).val * 24576 + v.val) / 192 % 128) * 192 + ((i 0).val * 24576 + v.val) % 192) / 24576 = (i 0).val; omega)
  | ⟨1, _⟩ => exact Fin.ext (by show (((((i 0).val * 24576 + v.val) / 24576) * 128 + ((i 0).val * 24576 + v.val) / 192 % 128) * 192 + ((i 0).val * 24576 + v.val) % 192) % 24576 = v.val; omega)
theorem n51 (i : S12288x2304.Idx) (v : Fin 24576) : Read.idx_main_v51 (Read.idx_main_v52 (Read.idx_main_v54 (Read.lidx_main_v59 i v))) = ix2 (i 0) (gp v) := by
  have hv : v.val < 24576 := v.isLt
  funext a
  match a with
  | ⟨0, _⟩ => exact Fin.ext (by show ((i 0).val * 24576 + v.val) / 24576 = (i 0).val; omega)
  | ⟨1, _⟩ => exact Fin.ext (by show ((i 0).val * 24576 + v.val) / 192 % 128 = v.val / 192; omega)
theorem n59 (i : S12288x2304.Idx) (v : Fin 24576) : Read.ridx_main_v59 i v = ix2 v (i 1) := by
  funext a; match a with | ⟨0, _⟩ => rfl | ⟨1, _⟩ => rfl
theorem n56 (i : S12288x2304.Idx) (v : Fin 24576) : Read.idx_main_v56 (Read.idx_main_v57 (Read.ridx_main_v59 i v)) = ix1 v := by
  funext a; match a with | ⟨0, _⟩ => rfl

/-- A code times its scale times a weight times its scale, in either grouping. -/
theorem prod4 {a a' b b' w w' s s' : EReal} (ha : a = a') (hb : b = b') (hw : w = w') (hs : s = s') : a * b * (w * s) = a' * (b' * s') * w' := by
  subst ha hb hw hs
  rw [mul_assoc, mul_assoc, mul_assoc, mul_comm w s]

/-- The exponential of a vector at an index, narrowed or not. -/
theorem hexp (e : FVec Ideal S12288x128 .f32) (j : S12288x128.Idx) : (FloatOps.truncf .bf16 bitsLt_bf16_f32 (Host.exp e j) : Ideal .bf16) = Ideal.exp (e j) := rfl
theorem hexp' (e : FVec Ideal S12288x128 .f32) (j : S12288x128.Idx) : (Host.exp e j : Ideal .f32) = Ideal.exp (e j) := rfl

/-- Choosing on the label's one-hot bit. -/
theorem sel_eq (a b : BitVec 32) (z : EReal) : (Scalar.select (IntOp.cmpi .eq a b) z (0 : EReal) : EReal) = if b = a then z else 0 := by
  by_cases h : b = a
  · subst h
    rw [if_pos rfl, show IntOp.cmpi .eq b b = 1#1 by simp [IntOp.cmpi]]
    rfl
  · have hab : IntOp.cmpi .eq a b = 0#1 := by
      show BitVec.ofBool (a == b) = 0#1
      rw [beq_false_of_ne (fun e => h e.symm)]
      rfl
    rw [if_neg h, hab]
    rfl

/-- The two named constants at the ideal instance. -/
theorem cl_val : Cert.BwdIdeal.Value.CL = ((30 * (Real.log 2)⁻¹ : ℝ) : EReal) := IdealRules.named_const.ideal_named_scalar _ _ _ _ rfl
theorem ln2_val : Cert.BwdIdeal.Value.LN2 = ((Real.log 2 : ℝ) : EReal) := IdealRules.named_const.ideal_named_scalar _ _ _ _ rfl

section
variable (x : FVec Ideal S12288x24576 .f32) (l2 : FVec Ideal S12288 .f32) (lab : IVec S12288 32) (w : Vec Ideal S24576x2304 .fp8e4m3) (ws : FVec Ideal S24576 .f32)
variable (x0 : ∀ i, ((-1 : ℝ) : EReal) ≤ x i) (x1 : ∀ i, x i ≤ ((1 : ℝ) : EReal)) (hl : ∀ i, ((-80 : ℝ) : EReal) ≤ l2 i)
include x0 x1 hl

/-- The two gradients agree and are bounded reals, -/
theorem g_both (r : Fin 12288) (v : Fin 24576) : gT x l2 lab (ix2 r v) = gG x l2 lab r v ∧ ∃ a : ℝ, gG x l2 lab r v = (a : EReal) ∧ |a| ≤ 2 ^ 134 := by
  have k := Cert.BwdMath.g_link (x (ix2 r v)) (l2 (ix1 r)) (x0 _) (x1 _) (hl _) (lab (ix1 r) = BitVec.ofNat 32 v.val)
  have e : gG x l2 lab r v = (if lab (ix1 r) = BitVec.ofNat 32 v.val then Ideal.exp2 (x (ix2 r v) * ((30 * (Real.log 2)⁻¹ : ℝ) : EReal) - l2 (ix1 r)) - 1
      else Ideal.exp2 (x (ix2 r v) * ((30 * (Real.log 2)⁻¹ : ℝ) : EReal) - l2 (ix1 r))) * (1 - x (ix2 r v) * x (ix2 r v)) := by
    unfold gG
    rw [cl_val]
  rw [e]
  refine ⟨?_, k.2⟩
  rw [gT_apply, Cert.BwdMath.c30]
  exact k.1

/-- so the groups' largest magnitudes do, -/
theorem y_both (r : Fin 12288) (q : Fin 128) : yT (ggT (gT x l2 lab)) (ix2 r q) = yG x l2 lab r q ∧ ∃ a : ℝ, yG x l2 lab r q = (a : EReal) ∧ 0 ≤ a ∧ a < (2 : ℝ) ^ (126 : ℤ) := by
  refine ⟨?_, ?_⟩
  · rw [yT_apply]
    unfold yG
    refine congrArg (· * Ideal.ofBits .f32 0x37924925#32) (congrArg (fun f => Finset.fold max (Ideal.ofBits .f32 0xFF800000#32) f Finset.univ) (funext fun u => ?_))
    exact congrArg (fun (z : EReal) => max z (-z)) (g_both x l2 lab x0 x1 hl r ⟨q.val * 192 + u.val, by omega⟩).1
  · exact Cert.BwdMath.y_real (fun u => gG x l2 lab r ⟨q.val * 192 + u.val, by omega⟩) fun u => (g_both x l2 lab x0 x1 hl r _).2

/-- the scales and their inverses, -/
theorem s_both (r : Fin 12288) (q : Fin 128) : Ideal.exp (eT (yT (ggT (gT x l2 lab))) (ix2 r q)) = Cert.Scale.sB (yG x l2 lab r q)
    ∧ Ideal.exp (-(eT (yT (ggT (gT x l2 lab))) (ix2 r q))) = Cert.Scale.iB (yG x l2 lab r q) := by
  obtain ⟨e, a, ha, a0, a1⟩ := y_both x l2 lab x0 x1 hl r q
  rw [eT_apply, e, ha]
  exact Cert.BwdMath.scale_link a a0 a1

/-- and the codes. -/
theorem c_both (r : Fin 12288) (v : Fin 24576) : qT (q3T (ggT (gT x l2 lab)) (eT (yT (ggT (gT x l2 lab))))) (ix2 r v) = cG x l2 lab r v := by
  rw [qT_apply]
  unfold cG
  exact congrArg (fun (z : EReal) => min (Ideal.ofBits .f32 0x47600000#32) (max (Ideal.ofBits .f32 0xC7600000#32) z))
    (congrArg₂ (fun (a b : EReal) => a * b) (g_both x l2 lab x0 x1 hl r v).1 (s_both x l2 lab x0 x1 hl r (gp v)).2)

/-- The chosen scores, summed: the label's score. -/
theorem pick_read (r : Fin 12288) : ∑ k : Fin 24576, Read.val_main_v61 (F := Ideal) (oneT lab) (zT x) (Read.idx_main_v62 (ix1 r) k)
    = ((30 : ℝ) : EReal) * ∑ v : Fin 24576, if lab (ix1 r) = BitVec.ofNat 32 v.val then x (ix2 r v) else 0 := by
  refine Eq.trans (Finset.sum_congr rfl fun v _ => ?_) (Cert.BwdMath.label_link (fun v : Fin 24576 => x (ix2 r v)) (fun v => lab (ix1 r) = BitVec.ofNat 32 v.val) fun v => ?_)
  · rw [n62, Read.val_main_v61_apply, oneT_apply, zT_apply, Cert.BwdMath.c30]
    have hz : Read.val_main_call1_v1 (F := Ideal) (ix2 r v) = (0 : EReal) := by
      rw [Read.val_main_call1_v1_apply]
      exact Ideal.ofBits_zero_f32
    rw [hz]
    exact sel_eq _ _ _
  · have a := x0 (ix2 r v)
    have b := x1 (ix2 r v)
    exact ⟨(x (ix2 r v)).toReal, (EReal.coe_toReal (fun e => by rw [e] at b; exact absurd b (not_le.mpr (EReal.coe_lt_top _))) (fun e => by rw [e] at a; exact absurd a (not_le.mpr (EReal.bot_lt_coe _)))).symm⟩

/-- The two losses agree. -/
theorem loss_both (i : S12288x128.Idx) : Read.val_main_v65 (F := Ideal) (oneT lab) (zT x) (lseT l2) i = lossG x l2 lab (i 0) := by
  rw [Read.val_main_v65_apply, Read.val_main_v64_apply, Read.val_main_v63_apply, Read.val_main_v62_apply, lseT_apply, n65]
  have hp := pick_read x l2 lab x0 x1 hl (i 0)
  have hz : Read.val_main_cst_10 (F := Ideal) (Shape.Idx.first h_S_) = (0 : EReal) := Ideal.ofBits_zero_f32
  unfold lossG
  rw [ln2_val, ← Cert.BwdMath.L_eq, Cert.BwdMath.c30, ← hp, hz]
  show l2 (ix1 (i 0)) * Cert.BwdMath.L - (0 + _) = _
  rw [zero_add]
  rfl

/-- The two input gradients agree. -/
theorem dx_both (i : S12288x2304.Idx) :
    Read.val_main_v60 (F := Ideal) ws (fun i => qT (q3T (ggT (gT x l2 lab)) (eT (yT (ggT (gT x l2 lab))))) i) (fun i => w i) (Host.exp (eT (yT (ggT (gT x l2 lab))))) i
      = dxG x l2 lab w ws (i 0) (i 1) := by
  rw [Read.val_main_v60_apply, Read.val_main_v59_apply]
  unfold dxG
  refine Finset.sum_congr rfl fun v _ => ?_
  rw [Read.val_main_v54_apply, Read.val_main_v53_apply, Read.val_main_v49_apply, Read.val_main_v52_apply, Read.val_main_v51_apply, Read.val_main_v50_apply,
    Read.val_main_v58_apply, Read.val_main_v57_apply, Read.val_main_v56_apply, Read.val_main_v55_apply, n49, n51]
  have h1 := c_both x l2 lab x0 x1 hl (i 0) v
  have h2 := (s_both x l2 lab x0 x1 hl (i 0) (gp v)).1
  exact prod4 h1 ((hexp _ _).trans h2) (congrArg w (n59 i v)) (congrArg ws (n56 i v))
end

/-- What the reference leaves, once the capped scores lie in [-1, 1] and no log-sum is below -80. -/
theorem ref_vals (c : Dev nD) (x0 : ∀ i, ((-1 : ℝ) : EReal) ≤ A0 m c i) (x1 : ∀ i, A0 m c i ≤ ((1 : ℝ) : EReal)) (hl : ∀ i, ((-80 : ℝ) : EReal) ≤ A1 m c i) :
    (reg_main_v48_0 m c : Vec Ideal S12288x24576 .fp8e5m2) = (fun i => cG (A0 m c) (A1 m c) (A2 m c) (i 0) (i 1))
    ∧ (Host.exp (eT (yT (ggT (gT (A0 m c) (A1 m c) (A2 m c))))) : Vec Ideal S12288x128 .f32) = (fun i => Cert.Scale.sB (yG (A0 m c) (A1 m c) (A2 m c) (i 0) (i 1)))
    ∧ Read.val_main_v60 (F := Ideal) (A4 m c) (reg_main_v48_1 m c) (reg_main_v48_2 m c) (Host.exp (eT (yT (ggT (gT (A0 m c) (A1 m c) (A2 m c)))))) = (fun i => dxG (A0 m c) (A1 m c) (A2 m c) (A3 m c) (A4 m c) (i 0) (i 1))
    ∧ Read.val_main_v65 (F := Ideal) (oneT (A2 m c)) (zT (A0 m c)) (lseT (A1 m c)) = (fun i => lossG (A0 m c) (A1 m c) (A2 m c) (i 0)) := by
  refine ⟨?_, ?_, ?_, ?_⟩
  · rw [reg0, q_read]
    funext i
    rw [eq_ix2 i]
    exact c_both _ _ _ x0 x1 hl _ _
  · funext i
    rw [eq_ix2 i]
    exact (hexp' _ _).trans (s_both _ _ _ x0 x1 hl _ _).1
  · rw [reg1, reg2, q_read]
    funext i
    exact dx_both _ _ _ _ _ x0 x1 hl i
  · funext i
    exact loss_both _ _ _ x0 x1 hl i

end Cert.BwdRefIdeal.Value
-- ==== Proof.BwdRefRun.lean ====
module

public import proofs.«01_k».proof.Proof.BwdRefRead

@[expose] public section
noncomputable section
namespace Cert.BwdRefIdeal.Value
open Cert.BwdRefIdeal Cert.BwdRefIdeal.Gen Idealize.ShloMosaic Idealize.ShloMosaic.TcCoe Idealize.SL.Sem

variable (m : (ℓ : Loc nD τ sig) → Buf (Elt Ideal) ℓ)

/-- The reference's run, its results under the names used here. -/
theorem run_named (ρ : Dev nD → PrngReg) :
    θ_run (defs (F := Ideal)) (onTc (τ := τ) (main (F := Ideal))) ⟨m, fun _ => 0, ρ⟩ fun r => ∀ c : Dev nD,
      r.2.mem ((c.tc : Thread nD τ).loc main_v48_0) = reg_main_v48_0 m c
      ∧ r.2.mem ((c.tc : Thread nD τ).loc main_v37) = Host.exp (eT (yT (ggT (gT (A0 m c) (A1 m c) (A2 m c)))))
      ∧ r.2.mem ((c.tc : Thread nD τ).loc main_v60) = Read.val_main_v60 (F := Ideal) (A4 m c) (reg_main_v48_1 m c) (reg_main_v48_2 m c) (Host.exp (eT (yT (ggT (gT (A0 m c) (A1 m c) (A2 m c))))))
      ∧ r.2.mem ((c.tc : Thread nD τ).loc main_v65) = Read.val_main_v65 (F := Ideal) (oneT (A2 m c)) (zT (A0 m c)) (lseT (A1 m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  run (F := Ideal) m ρ

end Cert.BwdRefIdeal.Value
-- ==== Proof.lean ====
module

public import proofs.«01_k».proof.Defs
public import proofs.«01_k».proof.Proof.Gen.Dw
public import proofs.«01_k».proof.Proof.Gen.Dw.Skeleton
public import proofs.«01_k».proof.Proof.Gen.Dw.Launch
public import proofs.«01_k».proof.Proof.Gen.Dw.Points
public import proofs.«01_k».proof.Proof.Gen.Dw.Frame
public import proofs.«01_k».proof.Proof.Gen.DwIdeal
public import proofs.«01_k».proof.Proof.Gen.DwIdeal.Skeleton
public import proofs.«01_k».proof.Proof.Gen.DwIdeal.Launch
public import proofs.«01_k».proof.Proof.Gen.DwIdeal.Points
public import proofs.«01_k».proof.Proof.Gen.DwIdeal.Frame
public import proofs.«01_k».proof.Proof.Gen.DwRefIdeal
public import proofs.«01_k».proof.Proof.Gen.DwRefIdeal.Skeleton
public import proofs.«01_k».proof.Proof.Gen.DwRefIdeal.Launch
public import proofs.«01_k».proof.Proof.Gen.DwRefIdeal.Points
public import proofs.«01_k».proof.Proof.Gen.DwRefIdeal.Frame
public import proofs.«01_k».proof.Proof.Gen.Fwd
public import proofs.«01_k».proof.Proof.Gen.Fwd.Skeleton
public import proofs.«01_k».proof.Proof.Gen.Fwd.Launch
public import proofs.«01_k».proof.Proof.Gen.Fwd.Points
public import proofs.«01_k».proof.Proof.Gen.Fwd.Frame
public import proofs.«01_k».proof.Proof.Gen.FwdIdeal
public import proofs.«01_k».proof.Proof.Gen.FwdIdeal.Skeleton
public import proofs.«01_k».proof.Proof.Gen.FwdIdeal.Launch
public import proofs.«01_k».proof.Proof.Gen.FwdIdeal.Points
public import proofs.«01_k».proof.Proof.Gen.FwdIdeal.Frame
public import proofs.«01_k».proof.Proof.Gen.FwdRefIdeal
public import proofs.«01_k».proof.Proof.Gen.FwdRefIdeal.Skeleton
public import proofs.«01_k».proof.Proof.Gen.FwdRefIdeal.Launch
public import proofs.«01_k».proof.Proof.Gen.FwdRefIdeal.Points
public import proofs.«01_k».proof.Proof.Gen.FwdRefIdeal.Frame
public import proofs.«01_k».proof.Proof.Gen.Bwd
public import proofs.«01_k».proof.Proof.Gen.Bwd.Skeleton
public import proofs.«01_k».proof.Proof.Gen.Bwd.Launch
public import proofs.«01_k».proof.Proof.Gen.Bwd.Points
public import proofs.«01_k».proof.Proof.Gen.Bwd.Frame
public import proofs.«01_k».proof.Proof.Gen.BwdIdeal
public import proofs.«01_k».proof.Proof.Gen.BwdIdeal.Skeleton
public import proofs.«01_k».proof.Proof.Gen.BwdIdeal.Launch
public import proofs.«01_k».proof.Proof.Gen.BwdIdeal.Points
public import proofs.«01_k».proof.Proof.Gen.BwdIdeal.Frame
public import proofs.«01_k».proof.Proof.Gen.BwdRefIdeal
public import proofs.«01_k».proof.Proof.Gen.BwdRefIdeal.Skeleton
public import proofs.«01_k».proof.Proof.Gen.BwdRefIdeal.Launch
public import proofs.«01_k».proof.Proof.Gen.BwdRefIdeal.Points
public import proofs.«01_k».proof.Proof.Gen.BwdRefIdeal.Frame
public import proofs.«01_k».proof.Proof.Gen.DwIdeal.Value
public import proofs.«01_k».proof.Proof.Gen.DwRefIdeal.Read
public import proofs.«01_k».proof.Proof.Gen.FwdIdeal.Value
public import proofs.«01_k».proof.Proof.Gen.FwdRefIdeal.Read
public import proofs.«01_k».proof.Proof.Gen.BwdIdeal.Value
public import proofs.«01_k».proof.Proof.DwValue
public import proofs.«01_k».proof.Proof.DwRef
public import proofs.«01_k».proof.Proof.FwdFinal
public import proofs.«01_k».proof.Proof.FwdRef
public import proofs.«01_k».proof.Proof.BwdFinal
public import proofs.«01_k».proof.Proof.BwdRef
public import proofs.«01_k».proof.Proof.BwdRefRun
public import Idealize.ShloMosaic.Adequacy
public import Idealize.ShloMosaic.Init

@[expose] public section

noncomputable section

namespace Cert.Proof

open Idealize.ShloMosaic Idealize.ShloMosaic.TcCoe Idealize.SL.Sem

/-- The kernel's sum and the reference's sum agree: the four factors of each term are regrouped. -/
theorem dW_eq (codes : Vec Ideal Cert.DwIdeal.S12288x24576 .fp8e5m2) (gs : Vec Ideal Cert.DwIdeal.S12288x128 .f32) (h : Vec Ideal Cert.DwIdeal.S12288x2304 .fp8e4m3)
    (hs : Vec Ideal Cert.DwIdeal.S12288 .f32) : Cert.DwRefIdeal.Value.dWref codes gs h hs = Cert.DwIdeal.Value.dW codes gs h hs := by
  funext i
  unfold Cert.DwRefIdeal.Value.dWref Cert.DwIdeal.Value.dW
  refine Finset.sum_congr rfl fun k _ => ?_
  show ((_ * _) * (_ * _) : EReal) = (_ * (_ * _)) * _
  rw [mul_comm (h _ : EReal) (hs _), ← mul_assoc, ← mul_assoc]

theorem dw_algebraic : Cert.algebraic_DwIdeal_DwRefIdeal (hDwIdeal := Cert.DwIdeal.Gen.facts) (hDwRefIdeal := Cert.DwRefIdeal.Gen.facts) := by
  intro m g m' g' _ hagree
  refine ⟨fun c => Cert.DwIdeal.Value.dW (Cert.DwIdeal.Value.A0 m c) (Cert.DwIdeal.Value.A1 m c) (Cert.DwIdeal.Value.A2 m c) (Cert.DwIdeal.Value.A3 m c), ?_, ?_⟩
  · refine (θ_run Cert.DwIdeal.defs _ _).mono (fun r h c => ?_) (Cert.DwIdeal.Value.run_blocks (F := Ideal) m g)
    exact ⟨(h c).1.trans (Cert.DwIdeal.Value.final m c), (h c).2⟩
  · refine (θ_run Cert.DwRefIdeal.defs _ _).mono (fun r h c => ?_) (Cert.DwRefIdeal.Value.run (F := Ideal) m' g')
    refine ⟨(h c).1.trans ?_, (h c).2⟩
    refine (Cert.DwRefIdeal.Value.ref_read m' c).trans ?_
    rw [dW_eq]
    obtain ⟨e0, e1, e2, e3⟩ := hagree c
    have f0 : Cert.DwRefIdeal.Value.A0 m' c = Cert.DwIdeal.Value.A0 m c := e0
    have f1 : Cert.DwRefIdeal.Value.A1 m' c = Cert.DwIdeal.Value.A1 m c := e1
    have f2 : Cert.DwRefIdeal.Value.A2 m' c = Cert.DwIdeal.Value.A2 m c := e2
    have f3 : Cert.DwRefIdeal.Value.A3 m' c = Cert.DwIdeal.Value.A3 m c := e3
    rw [f0, f1, f2, f3]

/-- The named constants, at the reals. -/
theorem cl_val : Cert.FwdIdeal.Value.CL = ((30 * (Real.log 2)⁻¹ : ℝ) : EReal) := IdealRules.named_const.ideal_named_scalar _ _ _ _ rfl
theorem l2_val : Cert.FwdIdeal.Value.L2 = (((Real.log 2)⁻¹ : ℝ) : EReal) := IdealRules.named_const.ideal_named_scalar _ _ _ _ rfl

/-- The two capped logits agree: the factor 1/30 multiplies the vocabulary scale in one and the product in the other. -/
theorem t_eq (h : Vec Ideal Cert.FwdIdeal.S12288x2304 .fp8e4m3) (hs : Vec Ideal Cert.FwdIdeal.S12288 .f32) (w : Vec Ideal Cert.FwdIdeal.S24576x2304 .fp8e4m3)
    (ws : Vec Ideal Cert.FwdIdeal.S24576 .f32) (r : Fin 12288) (v : Fin 24576) : Cert.FwdRefIdeal.Value.tR h hs w ws r v = Cert.FwdIdeal.Value.tG h hs w ws r v :=
  congrArg Ideal.tanh (mul_assoc (G := EReal) _ _ _)

/-- The two log-sum-exps agree: the reference takes out the row's maximum, the kernel the constant 30. -/
theorem lse_join (h : Vec Ideal Cert.FwdIdeal.S12288x2304 .fp8e4m3) (hs : Vec Ideal Cert.FwdIdeal.S12288 .f32) (w : Vec Ideal Cert.FwdIdeal.S24576x2304 .fp8e4m3)
    (ws : Vec Ideal Cert.FwdIdeal.S24576 .f32) (r : Fin 12288) (z : ℝ) :
    Ideal.div ((z : EReal) + Ideal.log (∑ k : Fin 24576, Ideal.exp (((30 : ℝ) : EReal) * Cert.FwdRefIdeal.Value.tR h hs w ws r k - (z : EReal)))) ((Real.log 2 : ℝ) : EReal)
      = Cert.FwdIdeal.Value.lseK h hs w ws r := by
  unfold Cert.FwdIdeal.Value.lseK
  rw [cl_val, l2_val]
  have : ∀ k, Cert.FwdRefIdeal.Value.tR h hs w ws r k = Cert.FwdIdeal.Value.tG h hs w ws r k := fun k => t_eq h hs w ws r k
  simp only [this]
  refine (Cert.Cap.lse_eq (by decide) _ (fun k => ?_) z).symm
  obtain ⟨x, hx, _⟩ := Cert.Cap.tanh_real ((∑ k' : Fin 2304, h (ix2 r k') * w (ix2 k k')) * hs (ix1 r) * (ws (ix1 k) * Cert.FwdIdeal.Value.IC))
  exact ⟨x, hx⟩

theorem fwd_algebraic : Cert.algebraic_FwdIdeal_FwdRefIdeal (hFwdIdeal := Cert.FwdIdeal.Gen.facts) (hFwdRefIdeal := Cert.FwdRefIdeal.Gen.facts) := by
  intro m g m' g' _ hagree
  refine ⟨fun c i => Cert.FwdIdeal.Value.tG (Cert.FwdIdeal.Value.A0 m c) (Cert.FwdIdeal.Value.A1 m c) (Cert.FwdIdeal.Value.A2 m c) (Cert.FwdIdeal.Value.A3 m c) (i 0) (i 1),
    fun c i => Cert.FwdIdeal.Value.lseK (Cert.FwdIdeal.Value.A0 m c) (Cert.FwdIdeal.Value.A1 m c) (Cert.FwdIdeal.Value.A2 m c) (Cert.FwdIdeal.Value.A3 m c) (i 0), ?_, ?_⟩
  · refine (θ_run Cert.FwdIdeal.defs _ _).mono (fun r h c => ?_) (Cert.FwdIdeal.Value.run_blocks (F := Ideal) m g)
    exact ⟨(h c).1.trans (Cert.FwdIdeal.Value.final4_eq m c), (h c).2.1.trans (Cert.FwdIdeal.Value.final5_eq m c), (h c).2.2⟩
  · refine (θ_run Cert.FwdRefIdeal.defs _ _).mono (fun r h c => ?_) (Cert.FwdRefIdeal.Value.run (F := Ideal) m' g')
    obtain ⟨e0, e1, e2, e3⟩ := hagree c
    have f0 : Cert.FwdRefIdeal.Value.A0 m' c = Cert.FwdIdeal.Value.A0 m c := e0
    have f1 : Cert.FwdRefIdeal.Value.A1 m' c = Cert.FwdIdeal.Value.A1 m c := e1
    have f2 : Cert.FwdRefIdeal.Value.A2 m' c = Cert.FwdIdeal.Value.A2 m c := e2
    have f3 : Cert.FwdRefIdeal.Value.A3 m' c = Cert.FwdIdeal.Value.A3 m c := e3
    refine ⟨(h c).1.trans (funext fun i => ?_), (h c).2.1.trans (funext fun i => ?_), (h c).2.2⟩
    · refine (Cert.FwdRefIdeal.Value.t_read m' c i).trans ?_
      rw [f0, f1, f2, f3]
      exact t_eq _ _ _ _ _ _
    · obtain ⟨z, hz⟩ := Cert.FwdRefIdeal.Value.lse_read m' c i
      refine hz.trans ?_
      rw [f0, f1, f2, f3]
      exact lse_join _ _ _ _ _ z

/-- A one-bit comparison that came out 1. -/
theorem of_bit {p : Prop} [Decidable p] (h : BitVec.ofBool (decide p) = 1#1) : p := by
  by_contra hp
  rw [decide_eq_false hp] at h
  exact absurd h (by decide)

theorem pre_facts : Cert.Pre_bwd_pre.Facts := ⟨by decide, by decide⟩

/-- The precondition read: the capped scores lie in [-1, 1] and no log-sum is below -80. -/
theorem bwd_bounds (m : (ℓ : Loc Cert.BwdIdeal.nD Cert.BwdIdeal.τ Cert.BwdIdeal.sig) → Buf (Elt Ideal) ℓ) (h : Cert.Pre_BwdIdeal_bwd_pre (hPre_bwd_pre := pre_facts) m) (c : Dev Cert.BwdIdeal.nD) :
    (∀ i, ((-1 : ℝ) : EReal) ≤ Cert.BwdIdeal.Value.A0 m c i) ∧ (∀ i, Cert.BwdIdeal.Value.A0 m c i ≤ ((1 : ℝ) : EReal)) ∧ ∀ i, ((-80 : ℝ) : EReal) ≤ Cert.BwdIdeal.Value.A1 m c i := by
  obtain ⟨h0, h1, h2⟩ := h c
  refine ⟨fun i => ?_, fun i => ?_, fun i => ?_⟩
  · rw [← Cert.BwdMath.cm1]
    exact of_bit (congrFun h0 i)
  · rw [← Cert.BwdMath.c1]
    exact of_bit (congrFun h1 i)
  · rw [← Cert.BwdMath.cm80]
    exact of_bit (congrFun h2 i)

/-- The backward kernel and its reference end equal. -/
theorem bwd_algebraic : Cert.algebraic_BwdIdeal_BwdRefIdeal_pre_bwd_pre (hBwdIdeal := Cert.BwdIdeal.Gen.facts) (hBwdRefIdeal := Cert.BwdRefIdeal.Gen.facts) (hPre_bwd_pre := pre_facts) := by
  intro m g m' g' hpre hagree
  refine ⟨fun c i => Cert.BwdIdeal.Value.cG (Cert.BwdIdeal.Value.A0 m c) (Cert.BwdIdeal.Value.A1 m c) (Cert.BwdIdeal.Value.A2 m c) (i 0) (i 1),
    fun c i => Cert.Scale.sB (Cert.BwdIdeal.Value.yG (Cert.BwdIdeal.Value.A0 m c) (Cert.BwdIdeal.Value.A1 m c) (Cert.BwdIdeal.Value.A2 m c) (i 0) (i 1)),
    fun c i => Cert.BwdIdeal.Value.dxG (Cert.BwdIdeal.Value.A0 m c) (Cert.BwdIdeal.Value.A1 m c) (Cert.BwdIdeal.Value.A2 m c) (Cert.BwdIdeal.Value.A3 m c) (Cert.BwdIdeal.Value.A4 m c) (i 0) (i 1),
    fun c i => Cert.BwdIdeal.Value.lossG (Cert.BwdIdeal.Value.A0 m c) (Cert.BwdIdeal.Value.A1 m c) (Cert.BwdIdeal.Value.A2 m c) (i 0), ?_, ?_⟩
  · refine (θ_run Cert.BwdIdeal.defs _ _).mono (fun r h c => ?_) (Cert.BwdIdeal.Value.run_blocks (F := Ideal) m g)
    exact ⟨(h c).1.trans (Cert.BwdIdeal.Value.final5_eq m c), (h c).2.1.trans (Cert.BwdIdeal.Value.final6_eq m c), (h c).2.2.1.trans (Cert.BwdIdeal.Value.final7_eq m c),
      (h c).2.2.2.1.trans (Cert.BwdIdeal.Value.final8_eq m c), (h c).2.2.2.2⟩
  · refine (θ_run Cert.BwdRefIdeal.defs _ _).mono (fun r h c => ?_) (Cert.BwdRefIdeal.Value.run_named m' g')
    obtain ⟨e0, e1, e2, e3, e4⟩ := hagree c
    have f0 : Cert.BwdRefIdeal.Value.A0 m' c = Cert.BwdIdeal.Value.A0 m c := e0
    have f1 : Cert.BwdRefIdeal.Value.A1 m' c = Cert.BwdIdeal.Value.A1 m c := e1
    have f2 : Cert.BwdRefIdeal.Value.A2 m' c = Cert.BwdIdeal.Value.A2 m c := e2
    have f3 : Cert.BwdRefIdeal.Value.A3 m' c = Cert.BwdIdeal.Value.A3 m c := e3
    have f4 : Cert.BwdRefIdeal.Value.A4 m' c = Cert.BwdIdeal.Value.A4 m c := e4
    obtain ⟨b0, b1, b2⟩ := bwd_bounds m hpre c
    have k := Cert.BwdRefIdeal.Value.ref_vals m' c (by rw [f0]; exact b0) (by rw [f0]; exact b1) (by rw [f1]; exact b2)
    exact ⟨(h c).1.trans (k.1.trans (by rw [f0, f1, f2] <;> rfl)), (h c).2.1.trans (k.2.1.trans (by rw [f0, f1, f2] <;> rfl)), (h c).2.2.1.trans (k.2.2.1.trans (by rw [f0, f1, f2, f3, f4] <;> rfl)),
      (h c).2.2.2.1.trans (k.2.2.2.trans (by rw [f0, f1, f2] <;> rfl)), (h c).2.2.2.2⟩

theorem claim : Cert.Claim := by
  refine ⟨Cert.Dw.Gen.facts, Cert.DwIdeal.Gen.facts, Cert.DwRefIdeal.Gen.facts, Cert.Fwd.Gen.facts, Cert.FwdIdeal.Gen.facts, Cert.FwdRefIdeal.Gen.facts, Cert.Bwd.Gen.facts, Cert.BwdIdeal.Gen.facts,
    Cert.BwdRefIdeal.Gen.facts, pre_facts,
    fun m ρ _ => Cert.Dw.Gen.frame m ρ, fun m ρ _ => Cert.DwIdeal.Gen.frame m ρ, fun m ρ _ => Cert.DwRefIdeal.Gen.frame m ρ,
    fun m ρ _ => Cert.Fwd.Gen.frame m ρ, fun m ρ _ => Cert.FwdIdeal.Gen.frame m ρ, fun m ρ _ => Cert.FwdRefIdeal.Gen.frame m ρ,
    fun m ρ _ => Cert.Bwd.Gen.frame m ρ, fun m ρ _ => Cert.BwdIdeal.Gen.frame m ρ, fun m ρ _ => Cert.BwdIdeal.Gen.frame m ρ,
    fun m ρ _ => Cert.BwdRefIdeal.Gen.frame m ρ, fun m ρ _ => Cert.BwdRefIdeal.Gen.frame m ρ, trivial, dw_algebraic,
    ⟨IdealRules.named_const.statement Cert.FwdIdeal.κ "cap_log2e" .f32 0x422D1F97#32 ((30 * (Real.log 2)⁻¹ : ℝ) : EReal) rfl,
      IdealRules.named_const.statement Cert.FwdIdeal.κ "log2e" .f32 0x3FB8AA3B#32 (((Real.log 2)⁻¹ : ℝ) : EReal) rfl⟩, fwd_algebraic,
    ⟨IdealRules.named_const.statement Cert.BwdIdeal.κ "cap_log2e" .f32 0x422D1F97#32 ((30 * (Real.log 2)⁻¹ : ℝ) : EReal) rfl,
      IdealRules.named_const.statement Cert.BwdIdeal.κ "ln2" .f32 0x3F317218#32 ((Real.log 2 : ℝ) : EReal) rfl⟩, bwd_algebraic⟩

end Cert.Proof

end
